-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_weights_finite [hPre_weights_finite : Cert.Pre_weights_finite.Facts] (m : (ℓ : Loc Cert.PrepIdeal.nD Cert.PrepIdeal.τ Cert.PrepIdeal.sig) → Buf (Elt Ideal) ℓ) : Prop :=
  ∀ c : Dev Cert.PrepIdeal.nD,
    (Cert.Pre_weights_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).1 = (fun _ => 1#1)
    ∧ (Cert.Pre_weights_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.1 = (fun _ => 1#1)
    ∧ (Cert.Pre_weights_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_weights_finite [hPre_weights_finite : Cert.Pre_weights_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_weights_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).1 = (fun _ => 1#1)
    ∧ (Cert.Pre_weights_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.1 = (fun _ => 1#1)
    ∧ (Cert.Pre_weights_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2 = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_weights_finite [hPrepIdeal : Cert.PrepIdeal.Facts] [hPre_weights_finite : Cert.Pre_weights_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_weights_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_weights_finite [hPrepRefIdeal : Cert.PrepRefIdeal.Facts] [hPre_weights_finite : Cert.Pre_weights_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_weights_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3_0) = v0 c
          ∧ r.2.mem ((c.tc : Thread Cert.GateUpRefIdeal.nD Cert.GateUpRefIdeal.τ).loc Cert.GateUpRefIdeal.main_v3_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)) →
    ∃ (v0 : (c : Dev Cert.OProjIdeal.nD) → Buf (Elt Ideal) ((c.tc : Thread Cert.OProjIdeal.nD Cert.OProjIdeal.τ).loc Cert.OProjIdeal.main_v4)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v7) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)) (v2 : (c : Dev Cert.OutIdeal.nD) → Buf (Elt Ideal) ((c.tc : Thread Cert.OutIdeal.nD Cert.OutIdeal.τ).loc Cert.OutIdeal.main_v6_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_v6_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5_0) = v0 c
          ∧ r.2.mem ((c.tc : Thread Cert.OutRefIdeal.nD Cert.OutRefIdeal.τ).loc Cert.OutRefIdeal.main_v5_1) = v1 c
          ∧ r.2.mem ((c.tc : Thread Cert.OutRefIdeal.nD Cert.OutRefIdeal.τ).loc Cert.OutRefIdeal.main_v5_2) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Prep_PrepIdeal : Prop :=
  True

def algebraic_PrepIdeal_PrepRefIdeal_pre_weights_finite [hPrepIdeal : Cert.PrepIdeal.Facts] [hPrepRefIdeal : Cert.PrepRefIdeal.Facts] [hPre_weights_finite : Cert.Pre_weights_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_weights_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v7_0)) (v1 : (c : Dev Cert.PrepIdeal.nD) → Buf (Elt Ideal) ((c.tc : Thread Cert.PrepIdeal.nD Cert.PrepIdeal.τ).loc Cert.PrepIdeal.main_v7_1)) (v2 : (c : Dev Cert.PrepIdeal.nD) → Buf (Elt Ideal) ((c.tc : Thread Cert.PrepIdeal.nD Cert.PrepIdeal.τ).loc Cert.PrepIdeal.main_v7_2)) (v3 : (c : Dev Cert.PrepIdeal.nD) → Buf (Elt Ideal) ((c.tc : Thread Cert.PrepIdeal.nD Cert.PrepIdeal.τ).loc Cert.PrepIdeal.main_v7_3)) (v4 : (c : Dev Cert.PrepIdeal.nD) → Buf (Elt Ideal) ((c.tc : Thread Cert.PrepIdeal.nD Cert.PrepIdeal.τ).loc Cert.PrepIdeal.main_v7_4)) (v5 : (c : Dev Cert.PrepIdeal.nD) → Buf (Elt Ideal) ((c.tc : Thread Cert.PrepIdeal.nD Cert.PrepIdeal.τ).loc Cert.PrepIdeal.main_v7_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7_0) = v0 c
          ∧ r.2.mem ((c.tc : Thread Cert.PrepIdeal.nD Cert.PrepIdeal.τ).loc Cert.PrepIdeal.main_v7_1) = v1 c
          ∧ r.2.mem ((c.tc : Thread Cert.PrepIdeal.nD Cert.PrepIdeal.τ).loc Cert.PrepIdeal.main_v7_2) = v2 c
          ∧ r.2.mem ((c.tc : Thread Cert.PrepIdeal.nD Cert.PrepIdeal.τ).loc Cert.PrepIdeal.main_v7_3) = v3 c
          ∧ r.2.mem ((c.tc : Thread Cert.PrepIdeal.nD Cert.PrepIdeal.τ).loc Cert.PrepIdeal.main_v7_4) = v4 c
          ∧ r.2.mem ((c.tc : Thread Cert.PrepIdeal.nD Cert.PrepIdeal.τ).loc Cert.PrepIdeal.main_v7_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v5_0) = v0 c
          ∧ r.2.mem ((c.tc : Thread Cert.PrepRefIdeal.nD Cert.PrepRefIdeal.τ).loc Cert.PrepRefIdeal.main_v5_1) = v1 c
          ∧ r.2.mem ((c.tc : Thread Cert.PrepRefIdeal.nD Cert.PrepRefIdeal.τ).loc Cert.PrepRefIdeal.main_v5_2) = v2 c
          ∧ r.2.mem ((c.tc : Thread Cert.PrepRefIdeal.nD Cert.PrepRefIdeal.τ).loc Cert.PrepRefIdeal.main_v5_3) = v3 c
          ∧ r.2.mem ((c.tc : Thread Cert.PrepRefIdeal.nD Cert.PrepRefIdeal.τ).loc Cert.PrepRefIdeal.main_v5_4) = v4 c
          ∧ r.2.mem ((c.tc : Thread Cert.PrepRefIdeal.nD Cert.PrepRefIdeal.τ).loc Cert.PrepRefIdeal.main_v5_5) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hGateUp : Cert.GateUp.Facts) (hGateUpIdeal : Cert.GateUpIdeal.Facts) (hGateUpRefIdeal : Cert.GateUpRefIdeal.Facts) (hOProj : Cert.OProj.Facts) (hOProjIdeal : Cert.OProjIdeal.Facts) (hOProjRefIdeal : Cert.OProjRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hPrep : Cert.Prep.Facts) (hPrepIdeal : Cert.PrepIdeal.Facts) (hPrepRefIdeal : Cert.PrepRefIdeal.Facts) (hPre_weights_finite : Cert.Pre_weights_finite.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_OProj (hOProj := hOProj)
    ∧ quiescent_OProjIdeal (hOProjIdeal := hOProjIdeal)
    ∧ quiescent_OProjRefIdeal (hOProjRefIdeal := hOProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Prep (hPrep := hPrep)
    ∧ quiescent_PrepIdeal (hPrepIdeal := hPrepIdeal)
    ∧ quiescent_PrepIdeal_pre_weights_finite (hPrepIdeal := hPrepIdeal) (hPre_weights_finite := hPre_weights_finite)
    ∧ quiescent_PrepRefIdeal (hPrepRefIdeal := hPrepRefIdeal)
    ∧ quiescent_PrepRefIdeal_pre_weights_finite (hPrepRefIdeal := hPrepRefIdeal) (hPre_weights_finite := hPre_weights_finite)
    ∧ preserves_GateUp_GateUpIdeal
    ∧ algebraic_GateUpIdeal_GateUpRefIdeal (hGateUpIdeal := hGateUpIdeal) (hGateUpRefIdeal := hGateUpRefIdeal)
    ∧ preserves_OProj_OProjIdeal
    ∧ algebraic_OProjIdeal_OProjRefIdeal (hOProjIdeal := hOProjIdeal) (hOProjRefIdeal := hOProjRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Prep_PrepIdeal
    ∧ algebraic_PrepIdeal_PrepRefIdeal_pre_weights_finite (hPrepIdeal := hPrepIdeal) (hPrepRefIdeal := hPrepRefIdeal) (hPre_weights_finite := hPre_weights_finite)
-- ==== Pre_weights_finite.lean ====
abbrev S6x1280x4096 : Shape := ⟨3, ![6, 1280, 4096]⟩
abbrev S4096 : Shape := ⟨1, ![4096]⟩
abbrev S4096x8 : Shape := ⟨2, ![4096, 8]⟩
abbrev S8 : Shape := ⟨1, ![8]⟩
abbrev S6x1280 : Shape := ⟨2, ![6, 1280]⟩
abbrev S_ : Shape := ⟨0, ![]⟩

class Facts : Prop where
  bcast_S_S4096 : S_.BroadcastsInDim S4096 (![] : Fin 0 → Fin S4096.rank)
  bcast_S_S4096x8 : S_.BroadcastsInDim S4096x8 (![] : Fin 0 → Fin S4096x8.rank)

variable [Facts]

def fn {F : FTy → Type} [FloatOps F] (main_arg0 : FVec F S6x1280x4096 .bf16) (main_arg1 : FVec F S4096 .f32) (main_arg2 : FVec F S4096x8 .f32) (main_arg3 : FVec F S4096x8 .f32) (main_arg4 : FVec F S8 .f32) (main_arg5 : FVec F S8 .f32) (main_arg6 : FVec F S6x1280 .f32) : IVec S4096 1 × IVec S4096x8 1 × IVec S4096x8 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_v3 : FVec F S4096x8 .f32 := Host.absf main_arg2
  let main_cst_0 : FVec F S_ .f32 := constant S_ .f32 0x7F800000#32
  let main_v4 : FVec F S4096x8 .f32 := broadcastInDim S4096x8 ![] bcast_S_S4096x8 main_cst_0
  let main_v5 : IVec S4096x8 1 := cmpf .olt main_v3 main_v4
  let main_v6 : FVec F S4096x8 .f32 := Host.absf main_arg3
  let main_cst_1 : FVec F S_ .f32 := constant S_ .f32 0x7F800000#32
  let main_v7 : FVec F S4096x8 .f32 := broadcastInDim S4096x8 ![] bcast_S_S4096x8 main_cst_1
  let main_v8 : IVec S4096x8 1 := cmpf .olt main_v6 main_v7
  (main_v2, main_v5, main_v8)
-- ==== GateUp.lean ====
abbrev S7680x4096 : Shape := ⟨2, ![7680, 4096]⟩
abbrev S30x1x256 : Shape := ⟨3, ![30, 1, 256]⟩
abbrev S4096x10944 : Shape := ⟨2, ![4096, 10944]⟩
abbrev S10944 : Shape := ⟨1, ![10944]⟩
abbrev S10944x4096 : Shape := ⟨2, ![10944, 4096]⟩
abbrev S6x1x1280 : Shape := ⟨3, ![6, 1, 1280]⟩
abbrev S10944x1 : Shape := ⟨2, ![10944, 1]⟩
abbrev S6x10944x1280 : Shape := ⟨3, ![6, 10944, 1280]⟩
abbrev S608x4096 : Shape := ⟨2, ![608, 4096]⟩
abbrev S1280x4096 : Shape := ⟨2, ![1280, 4096]⟩
abbrev S1x1x1280 : Shape := ⟨3, ![1, 1, 1280]⟩
abbrev S608x1 : Shape := ⟨2, ![608, 1]⟩
abbrev S1x608x1280 : Shape := ⟨3, ![1, 608, 1280]⟩
abbrev S8x1280 : Shape := ⟨2, ![8, 1280]⟩
abbrev S1x1280 : Shape := ⟨2, ![1, 1280]⟩
abbrev S608x1280 : Shape := ⟨2, ![608, 1280]⟩
abbrev S76x8x1280 : Shape := ⟨3, ![76, 8, 1280]⟩
abbrev S1280 : Shape := ⟨1, ![1280]⟩

abbrev nBuf : Space → Nat
  | .hbm => 13
  | .vmem => 17
  | .smem => 0
  | _ => 0

abbrev bufTy : (tb : Table) → Fin (tcTables nBuf tb) → BufTy
  | .hbm, ⟨0, _⟩ => ⟨S7680x4096, .fp8e4m3⟩
  | .hbm, ⟨1, _⟩ => ⟨S30x1x256, .f32⟩
  | .hbm, ⟨2, _⟩ => ⟨S4096x10944, .fp8e4m3⟩
  | .hbm, ⟨3, _⟩ => ⟨S10944, .f32⟩
  | .hbm, ⟨4, _⟩ => ⟨S4096x10944, .fp8e4m3⟩
  | .hbm, ⟨5, _⟩ => ⟨S10944, .f32⟩
  | .hbm, ⟨6, _⟩ => ⟨S10944x4096, .fp8e4m3⟩
  | .hbm, ⟨7, _⟩ => ⟨S10944x4096, .fp8e4m3⟩
  | .hbm, ⟨8, _⟩ => ⟨S6x1x1280, .f32⟩
  | .hbm, ⟨9, _⟩ => ⟨S10944x1, .f32⟩
  | .hbm, ⟨10, _⟩ => ⟨S10944x1, .f32⟩
  | .hbm, ⟨11, _⟩ => ⟨S6x10944x1280, .f32⟩
  | .hbm, ⟨12, _⟩ => ⟨S6x1x1280, .f32⟩
  | .local _ .vmem, ⟨0, _⟩ => ⟨S608x4096, .fp8e4m3⟩
  | .local _ .vmem, ⟨1, _⟩ => ⟨S608x4096, .fp8e4m3⟩
  | .local _ .vmem, ⟨2, _⟩ => ⟨S608x4096, .fp8e4m3⟩
  | .local _ .vmem, ⟨3, _⟩ => ⟨S608x4096, .fp8e4m3⟩
  | .local _ .vmem, ⟨4, _⟩ => ⟨S1280x4096, .fp8e4m3⟩
  | .local _ .vmem, ⟨5, _⟩ => ⟨S1280x4096, .fp8e4m3⟩
  | .local _ .vmem, ⟨6, _⟩ => ⟨S1x1x1280, .f32⟩
  | .local _ .vmem, ⟨7, _⟩ => ⟨S1x1x1280, .f32⟩
  | .local _ .vmem, ⟨8, _⟩ => ⟨S608x1, .f32⟩
  | .local _ .vmem, ⟨9, _⟩ => ⟨S608x1, .f32⟩
  | .local _ .vmem, ⟨10, _⟩ => ⟨S608x1, .f32⟩
  | .local _ .vmem, ⟨11, _⟩ => ⟨S608x1, .f32⟩
  | .local _ .vmem, ⟨12, _⟩ => ⟨S1x608x1280, .f32⟩
  | .local _ .vmem, ⟨13, _⟩ => ⟨S1x608x1280, .f32⟩
  | .local _ .vmem, ⟨14, _⟩ => ⟨S1x1x1280, .f32⟩
  | .local _ .vmem, ⟨15, _⟩ => ⟨S1x1x1280, .f32⟩
  | .local _ .vmem, ⟨16, _⟩ => ⟨S8x1280, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 18], ![false, false]⟩

def k0_cond3 (i : grid0.Coords) : BitVec 1 :=
  let arg1 : BitVec 32 := BitVec.ofNat 32 (i 1).val
  let c17_i32 : BitVec 32 := 17#32
  let v37 : BitVec 1 := Scalar.cmpi .eq arg1 c17_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S608x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S608x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S608x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S608x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x608x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S7680x4096 : Shape := ⟨2, ![7680, 4096]⟩
abbrev S30x1x256 : Shape := ⟨3, ![30, 1, 256]⟩
abbrev S4096x10944 : Shape := ⟨2, ![4096, 10944]⟩
abbrev S10944 : Shape := ⟨1, ![10944]⟩
abbrev S7680x1 : Shape := ⟨2, ![7680, 1]⟩
abbrev S1x10944 : Shape := ⟨2, ![1, 10944]⟩
abbrev S6x10944x1280 : Shape := ⟨3, ![6, 10944, 1280]⟩
abbrev S6x1x1280 : Shape := ⟨3, ![6, 1, 1280]⟩
abbrev S7680x10944 : Shape := ⟨2, ![7680, 10944]⟩
abbrev S7680 : Shape := ⟨1, ![7680]⟩
abbrev S6x1280x10944 : Shape := ⟨3, ![6, 1280, 10944]⟩

abbrev nBuf : Space → Nat
  | .hbm => 11
  | .vmem => 8
  | .smem => 0
  | _ => 0

abbrev bufTy : (tb : Table) → Fin (tcTables nBuf tb) → BufTy
  | .hbm, ⟨0, _⟩ => ⟨S7680x4096, .fp8e4m3⟩
  | .hbm, ⟨1, _⟩ => ⟨S30x1x256, .f32⟩
  | .hbm, ⟨2, _⟩ => ⟨S4096x10944, .fp8e4m3⟩
  | .hbm, ⟨3, _⟩ => ⟨S10944, .f32⟩
  | .hbm, ⟨4, _⟩ => ⟨S4096x10944, .fp8e4m3⟩
  | .hbm, ⟨5, _⟩ => ⟨S10944, .f32⟩
  | .hbm, ⟨6, _⟩ => ⟨S7680x1, .f32⟩
  | .hbm, ⟨7, _⟩ => ⟨S1x10944, .f32⟩
  | .hbm, ⟨8, _⟩ => ⟨S1x10944, .f32⟩
  | .hbm, ⟨9, _⟩ => ⟨S6x10944x1280, .f32⟩
  | .hbm, ⟨10, _⟩ => ⟨S6x1x1280, .f32⟩
  | .local _ .vmem, ⟨0, _⟩ => ⟨S7680x4096, .fp8e4m3⟩
  | .local _ .vmem, ⟨1, _⟩ => ⟨S7680x1, .f32⟩
  | .local _ .vmem, ⟨2, _⟩ => ⟨S4096x10944, .fp8e4m3⟩
  | .local _ .vmem, ⟨3, _⟩ => ⟨S1x10944, .f32⟩
  | .local _ .vmem, ⟨4, _⟩ => ⟨S4096x10944, .fp8e4m3⟩
  | .local _ .vmem, ⟨5, _⟩ => ⟨S1x10944, .f32⟩
  | .local _ .vmem, ⟨6, _⟩ => ⟨S6x10944x1280, .f32⟩
  | .local _ .vmem, ⟨7, _⟩ => ⟨S6x1x1280, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x10944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x10944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x10944x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== OProj.lean ====
abbrev S7680x4096 : Shape := ⟨2, ![7680, 4096]⟩
abbrev S6x1280 : Shape := ⟨2, ![6, 1280]⟩
abbrev S4096x8x512 : Shape := ⟨3, ![4096, 8, 512]⟩
abbrev S8x512 : Shape := ⟨2, ![8, 512]⟩
abbrev S7680x1 : Shape := ⟨2, ![7680, 1]⟩
abbrev S7680x128 : Shape := ⟨2, ![7680, 128]⟩
abbrev S4096x4096 : Shape := ⟨2, ![4096, 4096]⟩
abbrev S1x4096 : Shape := ⟨2, ![1, 4096]⟩
abbrev S1280x4096 : Shape := ⟨2, ![1280, 4096]⟩
abbrev S4096x1024 : Shape := ⟨2, ![4096, 1024]⟩
abbrev S1280x128 : Shape := ⟨2, ![1280, 128]⟩
abbrev S1x1024 : Shape := ⟨2, ![1, 1024]⟩
abbrev S1280x1024 : Shape := ⟨2, ![1280, 1024]⟩

abbrev nBuf : Space → Nat
  | .hbm => 9
  | .vmem => 10
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S4096x8x512, .fp8e4m3⟩
  | .hbm, ⟨3, _⟩ => ⟨S8x512, .f32⟩
  | .hbm, ⟨4, _⟩ => ⟨S7680x1, .f32⟩
  | .hbm, ⟨5, _⟩ => ⟨S7680x128, .f32⟩
  | .hbm, ⟨6, _⟩ => ⟨S4096x4096, .fp8e4m3⟩
  | .hbm, ⟨7, _⟩ => ⟨S1x4096, .f32⟩
  | .hbm, ⟨8, _⟩ => ⟨S7680x4096, .f32⟩
  | .local _ .vmem, ⟨0, _⟩ => ⟨S1280x4096, .fp8e4m3⟩
  | .local _ .vmem, ⟨1, _⟩ => ⟨S1280x4096, .fp8e4m3⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1280x128, .f32⟩
  | .local _ .vmem, ⟨5, _⟩ => ⟨S1280x128, .f32⟩
  | .local _ .vmem, ⟨6, _⟩ => ⟨S1x1024, .f32⟩
  | .local _ .vmem, ⟨7, _⟩ => ⟨S1x1024, .f32⟩
  | .local _ .vmem, ⟨8, _⟩ => ⟨S1280x1024, .f32⟩
  | .local _ .vmem, ⟨9, _⟩ => ⟨S1280x1024, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OProjRefIdeal.lean ====
abbrev S7680x4096 : Shape := ⟨2, ![7680, 4096]⟩
abbrev S6x1280 : Shape := ⟨2, ![6, 1280]⟩
abbrev S4096x8x512 : Shape := ⟨3, ![4096, 8, 512]⟩
abbrev S8x512 : Shape := ⟨2, ![8, 512]⟩
abbrev S7680x1 : Shape := ⟨2, ![7680, 1]⟩
abbrev S4096x4096 : Shape := ⟨2, ![4096, 4096]⟩
abbrev S1x4096 : Shape := ⟨2, ![1, 4096]⟩

abbrev nBuf : Space → Nat
  | .hbm => 8
  | .vmem => 5
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S4096x8x512, .fp8e4m3⟩
  | .hbm, ⟨3, _⟩ => ⟨S8x512, .f32⟩
  | .hbm, ⟨4, _⟩ => ⟨S7680x1, .f32⟩
  | .hbm, ⟨5, _⟩ => ⟨S4096x4096, .fp8e4m3⟩
  | .hbm, ⟨6, _⟩ => ⟨S1x4096, .f32⟩
  | .hbm, ⟨7, _⟩ => ⟨S7680x4096, .f32⟩
  | .local _ .vmem, ⟨0, _⟩ => ⟨S7680x4096, .fp8e4m3⟩
  | .local _ .vmem, ⟨1, _⟩ => ⟨S7680x1, .f32⟩
  | .local _ .vmem, ⟨2, _⟩ => ⟨S4096x4096, .fp8e4m3⟩
  | .local _ .vmem, ⟨3, _⟩ => ⟨S1x4096, .f32⟩
  | .local _ .vmem, ⟨4, _⟩ => ⟨S7680x4096, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv.lean ====
abbrev S7680x4096 : Shape := ⟨2, ![7680, 4096]⟩
abbrev S6x1280 : Shape := ⟨2, ![6, 1280]⟩
abbrev S4096x8x256 : Shape := ⟨3, ![4096, 8, 256]⟩
abbrev S8x256 : Shape := ⟨2, ![8, 256]⟩
abbrev S4096x8x512 : Shape := ⟨3, ![4096, 8, 512]⟩
abbrev S8x512 : Shape := ⟨2, ![8, 512]⟩
abbrev S7680x1 : Shape := ⟨2, ![7680, 1]⟩
abbrev S7680x128 : Shape := ⟨2, ![7680, 128]⟩
abbrev S4096x2048 : Shape := ⟨2, ![4096, 2048]⟩
abbrev S4096x4096 : Shape := ⟨2, ![4096, 4096]⟩
abbrev S4096x8192 : Shape := ⟨2, ![4096, 8192]⟩
abbrev S1x2048 : Shape := ⟨2, ![1, 2048]⟩
abbrev S1x4096 : Shape := ⟨2, ![1, 4096]⟩
abbrev S1x8192 : Shape := ⟨2, ![1, 8192]⟩
abbrev S7680x8192 : Shape := ⟨2, ![7680, 8192]⟩
abbrev S1280x4096 : Shape := ⟨2, ![1280, 4096]⟩
abbrev S4096x1024 : Shape := ⟨2, ![4096, 1024]⟩
abbrev S1280x128 : Shape := ⟨2, ![1280, 128]⟩
abbrev S1x1024 : Shape := ⟨2, ![1, 1024]⟩
abbrev S1280x1024 : Shape := ⟨2, ![1280, 1024]⟩

abbrev nBuf : Space → Nat
  | .hbm => 19
  | .vmem => 10
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S4096x8x256, .fp8e4m3⟩
  | .hbm, ⟨3, _⟩ => ⟨S8x256, .f32⟩
  | .hbm, ⟨4, _⟩ => ⟨S4096x8x256, .fp8e4m3⟩
  | .hbm, ⟨5, _⟩ => ⟨S8x256, .f32⟩
  | .hbm, ⟨6, _⟩ => ⟨S4096x8x512, .fp8e4m3⟩
  | .hbm, ⟨7, _⟩ => ⟨S8x512, .f32⟩
  | .hbm, ⟨8, _⟩ => ⟨S7680x1, .f32⟩
  | .hbm, ⟨9, _⟩ => ⟨S7680x128, .f32⟩
  | .hbm, ⟨10, _⟩ => ⟨S4096x2048, .fp8e4m3⟩
  | .hbm, ⟨11, _⟩ => ⟨S4096x2048, .fp8e4m3⟩
  | .hbm, ⟨12, _⟩ => ⟨S4096x4096, .fp8e4m3⟩
  | .hbm, ⟨13, _⟩ => ⟨S4096x8192, .fp8e4m3⟩
  | .hbm, ⟨14, _⟩ => ⟨S1x2048, .f32⟩
  | .hbm, ⟨15, _⟩ => ⟨S1x2048, .f32⟩
  | .hbm, ⟨16, _⟩ => ⟨S1x4096, .f32⟩
  | .hbm, ⟨17, _⟩ => ⟨S1x8192, .f32⟩
  | .hbm, ⟨18, _⟩ => ⟨S7680x8192, .bf16⟩
  | .local _ .vmem, ⟨0, _⟩ => ⟨S1280x4096, .fp8e4m3⟩
  | .local _ .vmem, ⟨1, _⟩ => ⟨S1280x4096, .fp8e4m3⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1280x128, .f32⟩
  | .local _ .vmem, ⟨5, _⟩ => ⟨S1280x128, .f32⟩
  | .local _ .vmem, ⟨6, _⟩ => ⟨S1x1024, .f32⟩
  | .local _ .vmem, ⟨7, _⟩ => ⟨S1x1024, .f32⟩
  | .local _ .vmem, ⟨8, _⟩ => ⟨S1280x1024, .bf16⟩
  | .local _ .vmem, ⟨9, _⟩ => ⟨S1280x1024, .bf16⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S7680x4096 : Shape := ⟨2, ![7680, 4096]⟩
abbrev S6x1280 : Shape := ⟨2, ![6, 1280]⟩
abbrev S4096x8x256 : Shape := ⟨3, ![4096, 8, 256]⟩
abbrev S8x256 : Shape := ⟨2, ![8, 256]⟩
abbrev S4096x8x512 : Shape := ⟨3, ![4096, 8, 512]⟩
abbrev S8x512 : Shape := ⟨2, ![8, 512]⟩
abbrev S7680x1 : Shape := ⟨2, ![7680, 1]⟩
abbrev S4096x2048 : Shape := ⟨2, ![4096, 2048]⟩
abbrev S1x2048 : Shape := ⟨2, ![1, 2048]⟩
abbrev S4096x4096 : Shape := ⟨2, ![4096, 4096]⟩
abbrev S1x4096 : Shape := ⟨2, ![1, 4096]⟩
abbrev S7680x8192 : Shape := ⟨2, ![7680, 8192]⟩
abbrev S7680x2048 : Shape := ⟨2, ![7680, 2048]⟩

abbrev nBuf : Space → Nat
  | .hbm => 16
  | .vmem => 9
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S4096x8x256, .fp8e4m3⟩
  | .hbm, ⟨3, _⟩ => ⟨S8x256, .f32⟩
  | .hbm, ⟨4, _⟩ => ⟨S4096x8x256, .fp8e4m3⟩
  | .hbm, ⟨5, _⟩ => ⟨S8x256, .f32⟩
  | .hbm, ⟨6, _⟩ => ⟨S4096x8x512, .fp8e4m3⟩
  | .hbm, ⟨7, _⟩ => ⟨S8x512, .f32⟩
  | .hbm, ⟨8, _⟩ => ⟨S7680x1, .f32⟩
  | .hbm, ⟨9, _⟩ => ⟨S4096x2048, .fp8e4m3⟩
  | .hbm, ⟨10, _⟩ => ⟨S1x2048, .f32⟩
  | .hbm, ⟨11, _⟩ => ⟨S4096x2048, .fp8e4m3⟩
  | .hbm, ⟨12, _⟩ => ⟨S1x2048, .f32⟩
  | .hbm, ⟨13, _⟩ => ⟨S4096x4096, .fp8e4m3⟩
  | .hbm, ⟨14, _⟩ => ⟨S1x4096, .f32⟩
  | .hbm, ⟨15, _⟩ => ⟨S7680x8192, .bf16⟩
  | .local _ .vmem, ⟨0, _⟩ => ⟨S7680x4096, .fp8e4m3⟩
  | .local _ .vmem, ⟨1, _⟩ => ⟨S7680x1, .f32⟩
  | .local _ .vmem, ⟨2, _⟩ => ⟨S4096x2048, .fp8e4m3⟩
  | .local _ .vmem, ⟨3, _⟩ => ⟨S1x2048, .f32⟩
  | .local _ .vmem, ⟨4, _⟩ => ⟨S4096x2048, .fp8e4m3⟩
  | .local _ .vmem, ⟨5, _⟩ => ⟨S1x2048, .f32⟩
  | .local _ .vmem, ⟨6, _⟩ => ⟨S4096x4096, .fp8e4m3⟩
  | .local _ .vmem, ⟨7, _⟩ => ⟨S1x4096, .f32⟩
  | .local _ .vmem, ⟨8, _⟩ => ⟨S7680x8192, .bf16⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Out.lean ====
abbrev S7680x4096 : Shape := ⟨2, ![7680, 4096]⟩
abbrev S6x1280 : Shape := ⟨2, ![6, 1280]⟩
abbrev S8x512x4096 : Shape := ⟨3, ![8, 512, 4096]⟩
abbrev S4096 : Shape := ⟨1, ![4096]⟩
abbrev S6x1280x4096 : Shape := ⟨3, ![6, 1280, 4096]⟩
abbrev S7680x1 : Shape := ⟨2, ![7680, 1]⟩
abbrev S7680x128 : Shape := ⟨2, ![7680, 128]⟩
abbrev S4096x4096 : Shape := ⟨2, ![4096, 4096]⟩
abbrev S1x4096 : Shape := ⟨2, ![1, 4096]⟩
abbrev S30x1x256 : Shape := ⟨3, ![30, 1, 256]⟩
abbrev S256x4096 : Shape := ⟨2, ![256, 4096]⟩
abbrev S256x128 : Shape := ⟨2, ![256, 128]⟩
abbrev S1x1x256 : Shape := ⟨3, ![1, 1, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 15
  | .vmem => 15
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S8x512x4096, .fp8e4m3⟩
  | .hbm, ⟨3, _⟩ => ⟨S4096, .f32⟩
  | .hbm, ⟨4, _⟩ => ⟨S6x1280x4096, .bf16⟩
  | .hbm, ⟨5, _⟩ => ⟨S4096, .f32⟩
  | .hbm, ⟨6, _⟩ => ⟨S7680x4096, .bf16⟩
  | .hbm, ⟨7, _⟩ => ⟨S7680x1, .f32⟩
  | .hbm, ⟨8, _⟩ => ⟨S7680x128, .f32⟩
  | .hbm, ⟨9, _⟩ => ⟨S4096x4096, .fp8e4m3⟩
  | .hbm, ⟨10, _⟩ => ⟨S1x4096, .f32⟩
  | .hbm, ⟨11, _⟩ => ⟨S1x4096, .f32⟩
  | .hbm, ⟨12, _⟩ => ⟨S7680x4096, .f32⟩
  | .hbm, ⟨13, _⟩ => ⟨S7680x4096, .fp8e4m3⟩
  | .hbm, ⟨14, _⟩ => ⟨S30x1x256, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S4096x4096, .fp8e4m3⟩
  | .local _ .vmem, ⟨3, _⟩ => ⟨S256x128, .f32⟩
  | .local _ .vmem, ⟨4, _⟩ => ⟨S256x128, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .fp8e4m3⟩
  | .local _ .vmem, ⟨12, _⟩ => ⟨S256x4096, .fp8e4m3⟩
  | .local _ .vmem, ⟨13, _⟩ => ⟨S1x1x256, .f32⟩
  | .local _ .vmem, ⟨14, _⟩ => ⟨S1x1x256, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S7680x4096 : Shape := ⟨2, ![7680, 4096]⟩
abbrev S6x1280 : Shape := ⟨2, ![6, 1280]⟩
abbrev S8x512x4096 : Shape := ⟨3, ![8, 512, 4096]⟩
abbrev S4096 : Shape := ⟨1, ![4096]⟩
abbrev S6x1280x4096 : Shape := ⟨3, ![6, 1280, 4096]⟩
abbrev S7680x1 : Shape := ⟨2, ![7680, 1]⟩
abbrev S4096x4096 : Shape := ⟨2, ![4096, 4096]⟩
abbrev S1x4096 : Shape := ⟨2, ![1, 4096]⟩
abbrev S30x1x256 : Shape := ⟨3, ![30, 1, 256]⟩
abbrev S7680 : Shape := ⟨1, ![7680]⟩

abbrev nBuf : Space → Nat
  | .hbm => 14
  | .vmem => 9
  | .smem => 0
  | _ => 0

abbrev bufTy : (tb : Table) → Fin (tcTables nBuf tb) → BufTy
  | .hbm, ⟨0, _⟩ => ⟨S7680x4096, .fp8e4m3⟩
  | .hbm, ⟨1, _⟩ => ⟨S6x1280, .f32⟩
  | .hbm, ⟨2, _⟩ => ⟨S8x512x4096, .fp8e4m3⟩
  | .hbm, ⟨3, _⟩ => ⟨S4096, .f32⟩
  | .hbm, ⟨4, _⟩ => ⟨S6x1280x4096, .bf16⟩
  | .hbm, ⟨5, _⟩ => ⟨S4096, .f32⟩
  | .hbm, ⟨6, _⟩ => ⟨S7680x1, .f32⟩
  | .hbm, ⟨7, _⟩ => ⟨S4096x4096, .fp8e4m3⟩
  | .hbm, ⟨8, _⟩ => ⟨S1x4096, .f32⟩
  | .hbm, ⟨9, _⟩ => ⟨S7680x4096, .bf16⟩
  | .hbm, ⟨10, _⟩ => ⟨S1x4096, .f32⟩
  | .hbm, ⟨11, _⟩ => ⟨S7680x4096, .f32⟩
  | .hbm, ⟨12, _⟩ => ⟨S7680x4096, .fp8e4m3⟩
  | .hbm, ⟨13, _⟩ => ⟨S30x1x256, .f32⟩
  | .local _ .vmem, ⟨0, _⟩ => ⟨S7680x4096, .fp8e4m3⟩
  | .local _ .vmem, ⟨1, _⟩ => ⟨S7680x1, .f32⟩
  | .local _ .vmem, ⟨2, _⟩ => ⟨S4096x4096, .fp8e4m3⟩
  | .local _ .vmem, ⟨3, _⟩ => ⟨S1x4096, .f32⟩
  | .local _ .vmem, ⟨4, _⟩ => ⟨S7680x4096, .bf16⟩
  | .local _ .vmem, ⟨5, _⟩ => ⟨S1x4096, .f32⟩
  | .local _ .vmem, ⟨6, _⟩ => ⟨S7680x4096, .f32⟩
  | .local _ .vmem, ⟨7, _⟩ => ⟨S7680x4096, .fp8e4m3⟩
  | .local _ .vmem, ⟨8, _⟩ => ⟨S30x1x256, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S6x10944x1280 : Shape := ⟨3, ![6, 10944, 1280]⟩
abbrev S6x1x1280 : Shape := ⟨3, ![6, 1, 1280]⟩
abbrev S10944x4096 : Shape := ⟨2, ![10944, 4096]⟩
abbrev S4096 : Shape := ⟨1, ![4096]⟩
abbrev S7680x4096 : Shape := ⟨2, ![7680, 4096]⟩
abbrev S1x4096 : Shape := ⟨2, ![1, 4096]⟩
abbrev S1x1024x640 : Shape := ⟨3, ![1, 1024, 640]⟩
abbrev S1x1x640 : Shape := ⟨3, ![1, 1, 640]⟩
abbrev S1024x4096 : Shape := ⟨2, ![1024, 4096]⟩
abbrev S640x4096 : Shape := ⟨2, ![640, 4096]⟩
abbrev S_ : Shape := ⟨0, ![]⟩
abbrev S1024x640 : Shape := ⟨2, ![1024, 640]⟩
abbrev S1x640 : Shape := ⟨2, ![1, 640]⟩
abbrev S1x704x640 : Shape := ⟨3, ![1, 704, 640]⟩
abbrev S704x640 : Shape := ⟨2, ![704, 640]⟩
abbrev S704x4096 : Shape := ⟨2, ![704, 4096]⟩
abbrev S128x640 : Shape := ⟨2, ![128, 640]⟩
abbrev S640x128 : Shape := ⟨2, ![640, 128]⟩

abbrev nBuf : Space → Nat
  | .hbm => 8
  | .vmem => 13
  | .smem => 0
  | _ => 0

abbrev bufTy : (tb : Table) → Fin (tcTables nBuf tb) → BufTy
  | .hbm, ⟨0, _⟩ => ⟨S6x10944x1280, .f32⟩
  | .hbm, ⟨1, _⟩ => ⟨S6x1x1280, .f32⟩
  | .hbm, ⟨2, _⟩ => ⟨S10944x4096, .fp8e4m3⟩
  | .hbm, ⟨3, _⟩ => ⟨S4096, .f32⟩
  | .hbm, ⟨4, _⟩ => ⟨S7680x4096, .f32⟩
  | .hbm, ⟨5, _⟩ => ⟨S1x4096, .f32⟩
  | .hbm, ⟨6, _⟩ => ⟨S6x10944x1280, .fp8e4m3⟩
  | .hbm, ⟨7, _⟩ => ⟨S7680x4096, .bf16⟩
  | .local _ .vmem, ⟨0, _⟩ => ⟨S1x1024x640, .f32⟩
  | .local _ .vmem, ⟨1, _⟩ => ⟨S1x1024x640, .f32⟩
  | .local _ .vmem, ⟨2, _⟩ => ⟨S1x1x640, .f32⟩
  | .local _ .vmem, ⟨3, _⟩ => ⟨S1x1x640, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x4096, .f32⟩
  | .local _ .vmem, ⟨7, _⟩ => ⟨S1x1024x640, .fp8e4m3⟩
  | .local _ .vmem, ⟨8, _⟩ => ⟨S1x1024x640, .fp8e4m3⟩
  | .local _ .vmem, ⟨9, _⟩ => ⟨S640x4096, .bf16⟩
  | .local _ .vmem, ⟨10, _⟩ => ⟨S640x4096, .bf16⟩
  | .local _ .vmem, ⟨11, _⟩ => ⟨S640x4096, .f32⟩
  | .local _ .vmem, ⟨12, _⟩ => ⟨S640x4096, .f32⟩
  | _, _ => ⟨S6x10944x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 2, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c2_i32 : BitVec 32 := 2#32
  let v9 : BitVec 32 := Scalar.muli arg0 c2_i32
  let arg1 : BitVec 32 := BitVec.ofNat 32 (i 1).val
  let v10 : BitVec 32 := Scalar.addi v9 arg1
  let c640_i32 : BitVec 32 := 640#32
  let v11 : BitVec 32 := Scalar.muli v10 c640_i32
  v11
def k0_off1 (i : grid0.Coords) : Fin 2 → Nat :=
  let arg0 : BitVec 32 := BitVec.ofNat 32 (i 0).val
  let c2_i32 : BitVec 32 := 2#32
  let v9 : BitVec 32 := Scalar.muli arg0 c2_i32
  let arg1 : BitVec 32 := BitVec.ofNat 32 (i 1).val
  let v10 : BitVec 32 := Scalar.addi v9 arg1
  let c640_i32 : BitVec 32 := 640#32
  let v11 : BitVec 32 := Scalar.muli v10 c640_i32
  let v12 : BitVec 32 := v11
  let c0_i32_4 : BitVec 32 := 0#32
  ![v12.toNat, 0]
def k0_cond3 (i : grid0.Coords) : BitVec 1 :=
  let arg2 : BitVec 32 := BitVec.ofNat 32 (i 2).val
  let c10_i32_2 : BitVec 32 := 10#32
  let v6 : BitVec 1 := Scalar.cmpi .eq arg2 c10_i32_2
  let v7 : BitVec 32 := Scalar.extui v6
  let c0_i32_3 : BitVec 32 := 0#32
  let v8 : BitVec 1 := Scalar.cmpi .ne v7 c0_i32_3
  v8

def k0_mult2 (i : grid0.Coords) : BitVec 32 :=
  let arg0 : BitVec 32 := BitVec.ofNat 32 (i 0).val
  let c2_i32 : BitVec 32 := 2#32
  let v30 : BitVec 32 := Scalar.muli arg0 c2_i32
  let arg1 : BitVec 32 := BitVec.ofNat 32 (i 1).val
  let v31 : BitVec 32 := Scalar.addi v30 arg1
  let c640_i32 : BitVec 32 := 640#32
  let v32 : BitVec 32 := Scalar.muli v31 c640_i32
  v32
def k0_off2 (i : grid0.Coords) : Fin 2 → Nat :=
  let arg0 : BitVec 32 := BitVec.ofNat 32 (i 0).val
  let c2_i32 : BitVec 32 := 2#32
  let v30 : BitVec 32 := Scalar.muli arg0 c2_i32
  let arg1 : BitVec 32 := BitVec.ofNat 32 (i 1).val
  let v31 : BitVec 32 := Scalar.addi v30 arg1
  let c640_i32 : BitVec 32 := 640#32
  let v32 : BitVec 32 := Scalar.muli v31 c640_i32
  let v33 : BitVec 32 := v32
  let c0_i32_20 : BitVec 32 := 0#32
  ![v33.toNat, 0]
def k0_cond2 (i : grid0.Coords) : BitVec 1 :=
  let arg2 : BitVec 32 := BitVec.ofNat 32 (i 2).val
  let c10_i32 : BitVec 32 := 10#32
  let v3 : BitVec 1 := Scalar.cmpi .slt arg2 c10_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S640x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S6x10944x1280 : Shape := ⟨3, ![6, 10944, 1280]⟩
abbrev S6x1x1280 : Shape := ⟨3, ![6, 1, 1280]⟩
abbrev S10944x4096 : Shape := ⟨2, ![10944, 4096]⟩
abbrev S4096 : Shape := ⟨1, ![4096]⟩
abbrev S7680x4096 : Shape := ⟨2, ![7680, 4096]⟩
abbrev S7680x1 : Shape := ⟨2, ![7680, 1]⟩
abbrev S1x4096 : Shape := ⟨2, ![1, 4096]⟩
abbrev S6x1280x10944 : Shape := ⟨3, ![6, 1280, 10944]⟩
abbrev S7680x10944 : Shape := ⟨2, ![7680, 10944]⟩

abbrev nBuf : Space → Nat
  | .hbm => 9
  | .vmem => 7
  | .smem => 0
  | _ => 0

abbrev bufTy : (tb : Table) → Fin (tcTables nBuf tb) → BufTy
  | .hbm, ⟨0, _⟩ => ⟨S6x10944x1280, .f32⟩
  | .hbm, ⟨1, _⟩ => ⟨S6x1x1280, .f32⟩
  | .hbm, ⟨2, _⟩ => ⟨S10944x4096, .fp8e4m3⟩
  | .hbm, ⟨3, _⟩ => ⟨S4096, .f32⟩
  | .hbm, ⟨4, _⟩ => ⟨S7680x4096, .f32⟩
  | .hbm, ⟨5, _⟩ => ⟨S7680x1, .f32⟩
  | .hbm, ⟨6, _⟩ => ⟨S1x4096, .f32⟩
  | .hbm, ⟨7, _⟩ => ⟨S6x10944x1280, .fp8e4m3⟩
  | .hbm, ⟨8, _⟩ => ⟨S7680x4096, .bf16⟩
  | .local _ .vmem, ⟨0, _⟩ => ⟨S6x10944x1280, .f32⟩
  | .local _ .vmem, ⟨1, _⟩ => ⟨S7680x1, .f32⟩
  | .local _ .vmem, ⟨2, _⟩ => ⟨S10944x4096, .fp8e4m3⟩
  | .local _ .vmem, ⟨3, _⟩ => ⟨S1x4096, .f32⟩
  | .local _ .vmem, ⟨4, _⟩ => ⟨S7680x4096, .f32⟩
  | .local _ .vmem, ⟨5, _⟩ => ⟨S6x10944x1280, .fp8e4m3⟩
  | .local _ .vmem, ⟨6, _⟩ => ⟨S7680x4096, .bf16⟩
  | _, _ => ⟨S6x10944x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x10944x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10944x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x10944x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Prep.lean ====
abbrev S6x1280x4096 : Shape := ⟨3, ![6, 1280, 4096]⟩
abbrev S4096 : Shape := ⟨1, ![4096]⟩
abbrev S4096x8 : Shape := ⟨2, ![4096, 8]⟩
abbrev S8 : Shape := ⟨1, ![8]⟩
abbrev S6x1280 : Shape := ⟨2, ![6, 1280]⟩
abbrev S7680x4096 : Shape := ⟨2, ![7680, 4096]⟩
abbrev S1x4096 : Shape := ⟨2, ![1, 4096]⟩
abbrev S8x4096 : Shape := ⟨2, ![8, 4096]⟩
abbrev S8x1 : Shape := ⟨2, ![8, 1]⟩
abbrev S30x1x256 : Shape := ⟨3, ![30, 1, 256]⟩
abbrev S7680x128 : Shape := ⟨2, ![7680, 128]⟩
abbrev S6x8x1280 : Shape := ⟨3, ![6, 8, 1280]⟩
abbrev S256x4096 : Shape := ⟨2, ![256, 4096]⟩
abbrev S1x1x256 : Shape := ⟨3, ![1, 1, 256]⟩
abbrev S256x128 : Shape := ⟨2, ![256, 128]⟩
abbrev S1x8x256 : Shape := ⟨3, ![1, 8, 256]⟩
abbrev S48x4096 : Shape := ⟨2, ![48, 4096]⟩
abbrev S16x4096 : Shape := ⟨2, ![16, 4096]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S48x256 : Shape := ⟨2, ![48, 256]⟩
abbrev S16x256 : Shape := ⟨2, ![16, 256]⟩
abbrev S8x256 : Shape := ⟨2, ![8, 256]⟩
abbrev S128x128 : Shape := ⟨2, ![128, 128]⟩
abbrev S8x128 : Shape := ⟨2, ![8, 128]⟩
abbrev S1x8x128 : Shape := ⟨3, ![1, 8, 128]⟩

abbrev nBuf : Space → Nat
  | .hbm => 20
  | .vmem => 22
  | .smem => 0
  | _ => 0

abbrev bufTy : (tb : Table) → Fin (tcTables nBuf tb) → BufTy
  | .hbm, ⟨0, _⟩ => ⟨S6x1280x4096, .bf16⟩
  | .hbm, ⟨1, _⟩ => ⟨S4096, .f32⟩
  | .hbm, ⟨2, _⟩ => ⟨S4096x8, .f32⟩
  | .hbm, ⟨3, _⟩ => ⟨S4096x8, .f32⟩
  | .hbm, ⟨4, _⟩ => ⟨S8, .f32⟩
  | .hbm, ⟨5, _⟩ => ⟨S8, .f32⟩
  | .hbm, ⟨6, _⟩ => ⟨S6x1280, .f32⟩
  | .hbm, ⟨7, _⟩ => ⟨S7680x4096, .bf16⟩
  | .hbm, ⟨8, _⟩ => ⟨S1x4096, .f32⟩
  | .hbm, ⟨9, _⟩ => ⟨S8x4096, .f32⟩
  | .hbm, ⟨10, _⟩ => ⟨S8x4096, .f32⟩
  | .hbm, ⟨11, _⟩ => ⟨S8x1, .f32⟩
  | .hbm, ⟨12, _⟩ => ⟨S8x1, .f32⟩
  | .hbm, ⟨13, _⟩ => ⟨S30x1x256, .f32⟩
  | .hbm, ⟨14, _⟩ => ⟨S7680x4096, .fp8e4m3⟩
  | .hbm, ⟨15, _⟩ => ⟨S7680x128, .f32⟩
  | .hbm, ⟨16, _⟩ => ⟨S30x1x256, .f32⟩
  | .hbm, ⟨17, _⟩ => ⟨S6x8x1280, .f32⟩
  | .hbm, ⟨18, _⟩ => ⟨S6x8x1280, .f32⟩
  | .hbm, ⟨19, _⟩ => ⟨S6x8x1280, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S8x4096, .f32⟩
  | .local _ .vmem, ⟨4, _⟩ => ⟨S8x4096, .f32⟩
  | .local _ .vmem, ⟨5, _⟩ => ⟨S8x1, .f32⟩
  | .local _ .vmem, ⟨6, _⟩ => ⟨S8x1, .f32⟩
  | .local _ .vmem, ⟨7, _⟩ => ⟨S1x1x256, .f32⟩
  | .local _ .vmem, ⟨8, _⟩ => ⟨S1x1x256, .f32⟩
  | .local _ .vmem, ⟨9, _⟩ => ⟨S256x4096, .fp8e4m3⟩
  | .local _ .vmem, ⟨10, _⟩ => ⟨S256x4096, .fp8e4m3⟩
  | .local _ .vmem, ⟨11, _⟩ => ⟨S256x128, .f32⟩
  | .local _ .vmem, ⟨12, _⟩ => ⟨S256x128, .f32⟩
  | .local _ .vmem, ⟨13, _⟩ => ⟨S1x1x256, .f32⟩
  | .local _ .vmem, ⟨14, _⟩ => ⟨S1x1x256, .f32⟩
  | .local _ .vmem, ⟨15, _⟩ => ⟨S1x8x256, .f32⟩
  | .local _ .vmem, ⟨16, _⟩ => ⟨S1x8x256, .f32⟩
  | .local _ .vmem, ⟨17, _⟩ => ⟨S1x8x256, .f32⟩
  | .local _ .vmem, ⟨18, _⟩ => ⟨S1x8x256, .f32⟩
  | .local _ .vmem, ⟨19, _⟩ => ⟨S1x8x256, .f32⟩
  | .local _ .vmem, ⟨20, _⟩ => ⟨S1x8x256, .f32⟩
  | .local _ .vmem, ⟨21, _⟩ => ⟨S48x4096, .bf16⟩
  | _, _ => ⟨S6x1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![6, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepRefIdeal.lean ====
abbrev S6x1280x4096 : Shape := ⟨3, ![6, 1280, 4096]⟩
abbrev S4096 : Shape := ⟨1, ![4096]⟩
abbrev S4096x8 : Shape := ⟨2, ![4096, 8]⟩
abbrev S8 : Shape := ⟨1, ![8]⟩
abbrev S6x1280 : Shape := ⟨2, ![6, 1280]⟩
abbrev S7680x4096 : Shape := ⟨2, ![7680, 4096]⟩
abbrev S1x4096 : Shape := ⟨2, ![1, 4096]⟩
abbrev S1x8 : Shape := ⟨2, ![1, 8]⟩
abbrev S7680x1 : Shape := ⟨2, ![7680, 1]⟩
abbrev S7680x128 : Shape := ⟨2, ![7680, 128]⟩
abbrev S30x1x256 : Shape := ⟨3, ![30, 1, 256]⟩
abbrev S6x8x1280 : Shape := ⟨3, ![6, 8, 1280]⟩
abbrev S7680 : Shape := ⟨1, ![7680]⟩
abbrev S7680x8 : Shape := ⟨2, ![7680, 8]⟩
abbrev S6x1280x8 : Shape := ⟨3, ![6, 1280, 8]⟩
abbrev S60x128x128x8 : Shape := ⟨4, ![60, 128, 128, 8]⟩
abbrev S60x128x1x8 : Shape := ⟨4, ![60, 128, 1, 8]⟩
abbrev S60x128x8 : Shape := ⟨3, ![60, 128, 8]⟩

abbrev nBuf : Space → Nat
  | .hbm => 18
  | .vmem => 13
  | .smem => 0
  | _ => 0

abbrev bufTy : (tb : Table) → Fin (tcTables nBuf tb) → BufTy
  | .hbm, ⟨0, _⟩ => ⟨S6x1280x4096, .bf16⟩
  | .hbm, ⟨1, _⟩ => ⟨S4096, .f32⟩
  | .hbm, ⟨2, _⟩ => ⟨S4096x8, .f32⟩
  | .hbm, ⟨3, _⟩ => ⟨S4096x8, .f32⟩
  | .hbm, ⟨4, _⟩ => ⟨S8, .f32⟩
  | .hbm, ⟨5, _⟩ => ⟨S8, .f32⟩
  | .hbm, ⟨6, _⟩ => ⟨S6x1280, .f32⟩
  | .hbm, ⟨7, _⟩ => ⟨S7680x4096, .bf16⟩
  | .hbm, ⟨8, _⟩ => ⟨S1x4096, .f32⟩
  | .hbm, ⟨9, _⟩ => ⟨S1x8, .f32⟩
  | .hbm, ⟨10, _⟩ => ⟨S1x8, .f32⟩
  | .hbm, ⟨11, _⟩ => ⟨S7680x1, .f32⟩
  | .hbm, ⟨12, _⟩ => ⟨S7680x4096, .fp8e4m3⟩
  | .hbm, ⟨13, _⟩ => ⟨S7680x128, .f32⟩
  | .hbm, ⟨14, _⟩ => ⟨S30x1x256, .f32⟩
  | .hbm, ⟨15, _⟩ => ⟨S6x8x1280, .f32⟩
  | .hbm, ⟨16, _⟩ => ⟨S6x8x1280, .f32⟩
  | .hbm, ⟨17, _⟩ => ⟨S6x8x1280, .f32⟩
  | .local _ .vmem, ⟨0, _⟩ => ⟨S7680x4096, .bf16⟩
  | .local _ .vmem, ⟨1, _⟩ => ⟨S1x4096, .f32⟩
  | .local _ .vmem, ⟨2, _⟩ => ⟨S4096x8, .f32⟩
  | .local _ .vmem, ⟨3, _⟩ => ⟨S1x8, .f32⟩
  | .local _ .vmem, ⟨4, _⟩ => ⟨S4096x8, .f32⟩
  | .local _ .vmem, ⟨5, _⟩ => ⟨S1x8, .f32⟩
  | .local _ .vmem, ⟨6, _⟩ => ⟨S7680x1, .f32⟩
  | .local _ .vmem, ⟨7, _⟩ => ⟨S7680x4096, .fp8e4m3⟩
  | .local _ .vmem, ⟨8, _⟩ => ⟨S7680x128, .f32⟩
  | .local _ .vmem, ⟨9, _⟩ => ⟨S30x1x256, .f32⟩
  | .local _ .vmem, ⟨10, _⟩ => ⟨S6x8x1280, .f32⟩
  | .local _ .vmem, ⟨11, _⟩ => ⟨S6x8x1280, .f32⟩
  | .local _ .vmem, ⟨12, _⟩ => ⟨S6x8x1280, .f32⟩
  | _, _ => ⟨S6x1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S7680x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S30x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x8x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x8x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x8x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.GateUpMath.lean ====
/- The gated hidden layer: what the array of hidden values and the array of their scales hold, in terms of the
   arguments. -/
module

public import Idealize.ShloMosaic.Lib.Pipeline.ValueKit
public import Idealize.ShloMosaic.Lib.Pointwise

@[expose] public section

noncomputable section

open Idealize.ShloMosaic

namespace Cert.GateUpMath

/-- One of the two projections at token `r` and hidden column `f`: the product of the token's codes with the weight's
    codes, times the token's scale and the column's scale. -/
def lin (X : FVec Ideal ⟨2, ![7680, 4096]⟩ .fp8e4m3) (t : FVec Ideal ⟨3, ![30, 1, 256]⟩ .f32)
    (W : FVec Ideal ⟨2, ![4096, 10944]⟩ .fp8e4m3) (s : FVec Ideal ⟨1, ![10944]⟩ .f32) (r : Fin 7680) (f : Fin 10944) :
    Ideal .f32 :=
  (∑ k : Fin 4096, X (ix2 r k) * W (ix2 k f))
    * t (ix3 ⟨r.val / 256, by omega⟩ 0 ⟨r.val % 256, by omega⟩) * s (ix1 f)

/-- The hidden value at token `r` and hidden column `f`: the gate times its logistic, times the up projection. -/
def hidAt (X : FVec Ideal ⟨2, ![7680, 4096]⟩ .fp8e4m3) (t : FVec Ideal ⟨3, ![30, 1, 256]⟩ .f32)
    (Wg : FVec Ideal ⟨2, ![4096, 10944]⟩ .fp8e4m3) (sg : FVec Ideal ⟨1, ![10944]⟩ .f32)
    (Wu : FVec Ideal ⟨2, ![4096, 10944]⟩ .fp8e4m3) (su : FVec Ideal ⟨1, ![10944]⟩ .f32) (r : Fin 7680) (f : Fin 10944) :
    Ideal .f32 :=
  lin X t Wg sg r f * Ideal.logistic (lin X t Wg sg r f) * lin X t Wu su r f

/-- The hidden value with the products of codes written in the other order. -/
theorem hidAt_swapped (X : FVec Ideal ⟨2, ![7680, 4096]⟩ .fp8e4m3) (t : FVec Ideal ⟨3, ![30, 1, 256]⟩ .f32)
    (Wg : FVec Ideal ⟨2, ![4096, 10944]⟩ .fp8e4m3) (sg : FVec Ideal ⟨1, ![10944]⟩ .f32)
    (Wu : FVec Ideal ⟨2, ![4096, 10944]⟩ .fp8e4m3) (su : FVec Ideal ⟨1, ![10944]⟩ .f32) (r : Fin 7680)
    (f : Fin 10944) (h₁ : r.val / 256 < 30) (h₂ : r.val % 256 < 256) :
    (∑ k : Fin 4096, Wg (ix2 k f) * X (ix2 r k)) * t (ix3 ⟨r.val / 256, h₁⟩ 0 ⟨r.val % 256, h₂⟩) * sg (ix1 f)
      * Ideal.logistic
        ((∑ k : Fin 4096, Wg (ix2 k f) * X (ix2 r k)) * t (ix3 ⟨r.val / 256, h₁⟩ 0 ⟨r.val % 256, h₂⟩) * sg (ix1 f))
      * ((∑ k : Fin 4096, Wu (ix2 k f) * X (ix2 r k)) * t (ix3 ⟨r.val / 256, h₁⟩ 0 ⟨r.val % 256, h₂⟩) * su (ix1 f))
    = hidAt X t Wg sg Wu su r f := by
  have e (W : FVec Ideal ⟨2, ![4096, 10944]⟩ .fp8e4m3) :
      (∑ k : Fin 4096, W (ix2 k f) * X (ix2 r k)) = ∑ k : Fin 4096, X (ix2 r k) * W (ix2 k f) :=
    Finset.sum_congr rfl fun k _ => mul_comm (G := EReal) _ _
  rw [e, e]
  rfl

/-- The hidden values, laid out as batch, hidden column, position in the sequence. -/
def hid (X : FVec Ideal ⟨2, ![7680, 4096]⟩ .fp8e4m3) (t : FVec Ideal ⟨3, ![30, 1, 256]⟩ .f32)
    (Wg : FVec Ideal ⟨2, ![4096, 10944]⟩ .fp8e4m3) (sg : FVec Ideal ⟨1, ![10944]⟩ .f32)
    (Wu : FVec Ideal ⟨2, ![4096, 10944]⟩ .fp8e4m3) (su : FVec Ideal ⟨1, ![10944]⟩ .f32) :
    FVec Ideal ⟨3, ![6, 10944, 1280]⟩ .f32 := fun j =>
  hidAt X t Wg sg Wu su ⟨(j 0).val * 1280 + (j 2).val, by
    have h0 : (j 0).val < 6 := (j 0).isLt
    have h2 : (j 2).val < 1280 := (j 2).isLt
    omega⟩ (j 1)

/-- The largest magnitude among a token's hidden values. -/
def amax (X : FVec Ideal ⟨2, ![7680, 4096]⟩ .fp8e4m3) (t : FVec Ideal ⟨3, ![30, 1, 256]⟩ .f32)
    (Wg : FVec Ideal ⟨2, ![4096, 10944]⟩ .fp8e4m3) (sg : FVec Ideal ⟨1, ![10944]⟩ .f32)
    (Wu : FVec Ideal ⟨2, ![4096, 10944]⟩ .fp8e4m3) (su : FVec Ideal ⟨1, ![10944]⟩ .f32) (r : Fin 7680) : Ideal .f32 :=
  Finset.univ.fold max (Ideal.ofBits FTy.f32 4286578688#32)
    (fun f : Fin 10944 => FloatOps.absf (hidAt X t Wg sg Wu su r f))

/-- A scale from the largest magnitude: 1 if that is zero, else that over 448. -/
def scaleOf (a : Ideal .f32) : Ideal .f32 :=
  if a = 0 then 1 else Ideal.div a (Ideal.ofBits FTy.f32 1138753536#32)

/-- The scales of the hidden values: one for each token. -/
def hscale (X : FVec Ideal ⟨2, ![7680, 4096]⟩ .fp8e4m3) (t : FVec Ideal ⟨3, ![30, 1, 256]⟩ .f32)
    (Wg : FVec Ideal ⟨2, ![4096, 10944]⟩ .fp8e4m3) (sg : FVec Ideal ⟨1, ![10944]⟩ .f32)
    (Wu : FVec Ideal ⟨2, ![4096, 10944]⟩ .fp8e4m3) (su : FVec Ideal ⟨1, ![10944]⟩ .f32) :
    FVec Ideal ⟨3, ![6, 1, 1280]⟩ .f32 := fun j =>
  scaleOf (amax X t Wg sg Wu su ⟨(j 0).val * 1280 + (j 2).val, by
    have h0 : (j 0).val < 6 := (j 0).isLt
    have h2 : (j 2).val < 1280 := (j 2).isLt
    omega⟩)

end Cert.GateUpMath

end
-- ==== Proof.GateUpKernel.lean ====
/- The kernel of the gated hidden layer: each block it computes is a block of the hidden values, and the running maximum
   it carries from one column block to the next ends as the maximum over the whole row. -/
module

public import proofs.«01_k».proof.Proof.Gen.GateUpIdeal.Value
public import proofs.«01_k».proof.Proof.GateUpMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateUpIdeal.Value
open Cert.GateUpIdeal Cert.GateUpIdeal.Gen
variable (m : (ℓ : Loc nD τ sig) → Buf (Elt Ideal) ℓ)

/-- Which block each window shows at grid point `t`. -/
theorem idx : ∀ t : Fin cfg0.N, win0_0.index t = ![t.val % 18, 0] ∧ win0_1.index t = ![t.val % 18, 0]
    ∧ win0_2.index t = ![t.val / 18, 0] ∧ win0_3.index t = ![t.val / 18, 0, 0] ∧ win0_4.index t = ![t.val % 18, 0]
    ∧ win0_5.index t = ![t.val % 18, 0] ∧ win0_6.index t = ![t.val / 18, t.val % 18, 0]
    ∧ win0_7.index t = ![t.val / 18, 0, 0] :=
  (by decide +kernel : ∀ t : Fin grid0.N, _)

/-- The block of hidden values, one value at a time. -/
theorem pay4 (v0 v2 v4 v8 v12 v14 v18) (f : Fin 608) (s : Fin 1280) :
    k0_pay4 (F := Ideal) v0 v2 v4 v8 v12 v14 v18 (ix2 f s)
    = (∑ k : Fin 4096, v2 (ix2 f k) * v4 (ix2 s k)) * v0 (ix3 0 0 s) * v8 (ix2 f 0)
      * Ideal.logistic ((∑ k : Fin 4096, v2 (ix2 f k) * v4 (ix2 s k)) * v0 (ix3 0 0 s) * v8 (ix2 f 0))
      * ((∑ k : Fin 4096, v12 (ix2 f k) * v14 (ix2 s k)) * v0 (ix3 0 0 s) * v18 (ix2 f 0)) := by
  pointwise [k0_pay4]

theorem pay5 (v0 v2 v4 v8 v12 v14 v18) (f : Fin 608) (s : Fin 1280) :
    k0_pay5 (F := Ideal) v0 v2 v4 v8 v12 v14 v18 (ix3 0 f s) = k0_pay4 v0 v2 v4 v8 v12 v14 v18 (ix2 f s) := by
  pointwise [k0_pay5]

/-- The maximum over every eighth row of the block. -/
theorem pay6 (v0 v2 v4 v8 v12 v14 v18) (g : Fin 8) (s : Fin 1280) :
    k0_pay6 (F := Ideal) v0 v2 v4 v8 v12 v14 v18 (ix2 g s)
    = Finset.univ.fold max (Ideal.ofBits FTy.f32 4286578688#32)
      (fun x : Fin 76 => FloatOps.absf (k0_pay4 v0 v2 v4 v8 v12 v14 v18 (ix2 ⟨x.val * 8 + g.val, by omega⟩ s))) := by
  pointwise [k0_pay6]

theorem pay1 (v) (g : Fin 8) (s : Fin 1280) : k0_pay1 (F := Ideal) v (ix2 g s) = v (ix2 g s) := by
  pointwise [k0_pay1]

theorem pay2 (v w) (g : Fin 8) (s : Fin 1280) :
    k0_pay2 (F := Ideal) v w (ix2 g s) = max (w (ix2 g s)) (v (ix2 g s)) := by
  pointwise [k0_pay2]

theorem pay3 (v) (s : Fin 1280) : k0_pay3 (F := Ideal) v (ix3 0 0 s)
    = GateUpMath.scaleOf (Finset.univ.fold max (Ideal.ofBits FTy.f32 4286578688#32) (fun g : Fin 8 => v (ix2 g s))) := by
  pointwise [k0_pay3, GateUpMath.scaleOf]

variable (c : Dev nD) (t : Fin cfg0.N)

theorem ht : t.val < 108 := lt_of_lt_of_eq t.isLt Gen.N_0

theorem rd0 (f : Fin 608) (k : Fin 4096) : iblk m c 0 t (ix2 f k)
    = m ((c : Thread nD τ).loc main_arg2) (ix2 k ⟨t.val % 18 * 608 + f.val, by omega⟩) := by
  have := ht t
  blk_ext! [iblk, V, idx t]

theorem rd1 (f : Fin 608) (k : Fin 4096) : iblk m c 1 t (ix2 f k)
    = m ((c : Thread nD τ).loc main_arg4) (ix2 k ⟨t.val % 18 * 608 + f.val, by omega⟩) := by
  have := ht t
  blk_ext! [iblk, V, idx t]

theorem rd2 (s : Fin 1280) (k : Fin 4096) : iblk m c 2 t (ix2 s k)
    = m ((c : Thread nD τ).loc main_arg0) (ix2 ⟨t.val / 18 * 1280 + s.val, by have := ht t; omega⟩ k) := by
  have := ht t
  blk_ext! [iblk, V, idx t]

theorem rd3 (s : Fin 1280) : iblk m c 3 t (ix3 0 0 s)
    = m ((c : Thread nD τ).loc main_arg1) (ix3 ⟨(t.val / 18 * 1280 + s.val) / 256, by have := ht t; omega⟩ 0
        ⟨(t.val / 18 * 1280 + s.val) % 256, by omega⟩) := by
  have := ht t
  blk_ext! [iblk, V, idx t]

theorem rd4 (f : Fin 608) : iblk m c 4 t (ix2 f 0)
    = m ((c : Thread nD τ).loc main_arg3) (ix1 ⟨t.val % 18 * 608 + f.val, by omega⟩) := by
  have := ht t
  blk_ext! [iblk, V, idx t]

theorem rd5 (f : Fin 608) : iblk m c 5 t (ix2 f 0)
    = m ((c : Thread nD τ).loc main_arg5) (ix1 ⟨t.val % 18 * 608 + f.val, by omega⟩) := by
  have := ht t
  blk_ext! [iblk, V, idx t]

theorem em6 (f : Fin 608) (s : Fin 1280) : ((cfg0.win 6).blk t).view.emb (ix3 0 f s)
    = ix3 ⟨t.val / 18, by have := ht t; omega⟩ ⟨t.val % 18 * 608 + f.val, by omega⟩ s := by
  have := ht t
  blk_ext [idx t]

theorem em7 (s : Fin 1280) : ((cfg0.win 7).blk t).view.emb (ix3 0 0 s)
    = ix3 ⟨t.val / 18, by have := ht t; omega⟩ 0 s := by
  have := ht t
  blk_ext [idx t]

/-- The hidden value at token `r` and column `f`, over the arguments as they lie in memory. -/
abbrev H (r : Fin 7680) (f : Fin 10944) : Ideal .f32 :=
  GateUpMath.hidAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) r f

/-- At grid point `t` the block computed is block `(t / 18, t % 18)` of the hidden values. -/
theorem point4 (f : Fin 608) (s : Fin 1280) :
    k0_pay4 (iblk m c 3 t) (iblk m c 0 t) (iblk m c 2 t) (iblk m c 4 t) (iblk m c 1 t) (iblk m c 2 t) (iblk m c 5 t)
      (ix2 f s)
    = H m c ⟨t.val / 18 * 1280 + s.val, by have := ht t; omega⟩ ⟨t.val % 18 * 608 + f.val, by omega⟩ := by
  rw [pay4]
  simp only [rd0, rd1, rd2, rd3, rd4, rd5]
  exact GateUpMath.hidAt_swapped (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) _ _ _ _

/-- What grid point `t` leaves in its block of the first output: the block of hidden values it computed. -/
theorem out6 (y) : (outsAt0 m c t.val t.isLt).1 y
    = k0_pay5 (iblk m c 3 t) (iblk m c 0 t) (iblk m c 2 t) (iblk m c 4 t) (iblk m c 1 t) (iblk m c 2 t) (iblk m c 5 t)
      y := by
  have := ht t
  by_cases h0 : t.val % 18 = 0
  · rw [outsAt0_A m c t h0 (by omega) (by omega)]
    frame_out
  · by_cases h2 : t.val % 18 = 17
    · rw [outsAt0_C m c t h0 (by omega) h2]
      frame_out
    · rw [outsAt0_B m c t h0 (by omega) h2]
      frame_out

/-- That block, placed where the window puts it, is the hidden values there. -/
theorem point6 (y) : k0_pay5 (iblk m c 3 t) (iblk m c 0 t) (iblk m c 2 t) (iblk m c 4 t) (iblk m c 1 t) (iblk m c 2 t)
      (iblk m c 5 t) y
    = GateUpMath.hid (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (((cfg0.win 6).blk t).view.emb y) := by
  idx_vars y
  obtain rfl : y0 = 0 := Subsingleton.elim _ _
  rw [em6, pay5]
  exact point4 m c t _ _

/-- The array of hidden values the kernel writes. -/
theorem finalA (c : Dev nD) : (dats m 0 c).arrAt 6 cfg0.N
    = GateUpMath.hid (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  blk_simp
  rw [after0_6]
  exact (out6 m c t y).trans (point6 m c t y)

/-- The maximum over every eighth row of the block computed at grid point `t`. -/
abbrev part : FVec Ideal S8x1280 .f32 :=
  k0_pay6 (iblk m c 3 t) (iblk m c 0 t) (iblk m c 2 t) (iblk m c 4 t) (iblk m c 1 t) (iblk m c 2 t) (iblk m c 5 t)

/-- It is the least bound of those rows' magnitudes. -/
theorem part_le (g : Fin 8) (s : Fin 1280) (a : EReal) : part m c t (ix2 g s) ≤ a
    ↔ Ideal.ofBits FTy.f32 4286578688#32 ≤ a ∧ ∀ x : Fin 76,
      FloatOps.absf (H m c ⟨t.val / 18 * 1280 + s.val, by have := ht t; omega⟩
        ⟨t.val % 18 * 608 + (x.val * 8 + g.val), by omega⟩) ≤ a := by
  rw [part, pay6]
  simp only [point4 m c t]
  refine (Finset.fold_max_le (β := EReal) _).trans ?_
  simp only [Finset.mem_univ, true_implies]

/-- At the first column block of a row block the running maximum starts over. -/
theorem sc_first (h0 : t.val % 18 = 0) (g : Fin 8) (s : Fin 1280) :
    (outsAt0 m c t.val t.isLt).2.2 (ix2 g s) = part m c t (ix2 g s) := by
  refine Eq.trans ?_ (pay1 (part m c t) g s)
  rw [outsAt0_A m c t h0 (by omega) (by omega)]
  frame_out

/-- At each later one it takes in that block's maximum. -/
theorem sc_next (h0 : ¬t.val % 18 = 0) (h : t.val - 1 < cfg0.N) (g : Fin 8) (s : Fin 1280) :
    (outsAt0 m c t.val t.isLt).2.2 (ix2 g s)
    = max ((outsAt0 m c (t.val - 1) h).2.2 (ix2 g s)) (part m c t (ix2 g s)) := by
  refine Eq.trans ?_ (pay2 (part m c t) (outsAt0 m c (t.val - 1) h).2.2 g s)
  by_cases h2 : t.val % 18 = 17
  · rw [outsAt0_C m c t h0 (by omega) h2]
    frame_out
    rw [read_unread_whole]
  · rw [outsAt0_B m c t h0 (by omega) h2]
    frame_out
    rw [read_unread_whole]

/-- At the last column block of a row block the scales are read off the running maximum. -/
theorem out7 (h2 : t.val % 18 = 17) (y) :
    (outsAt0 m c t.val t.isLt).2.1 y = k0_pay3 (outsAt0 m c t.val t.isLt).2.2 y := by
  rw [outsAt0_C m c t (by omega) (by omega) h2]
  frame_out

/-- The rows `q * 608 + (x * 8 + g)` are the rows of column block `q` that leave remainder `g` by 8. -/
theorem rows_iff (P : Fin 10944 → Prop) (q : ℕ) (hq : q < 18) (g : Fin 8) :
    (∀ x : Fin 76, P ⟨q * 608 + (x.val * 8 + g.val), by omega⟩)
    ↔ ∀ f : Fin 10944, q * 608 ≤ f.val → f.val < (q + 1) * 608 → f.val % 8 = g.val → P f := by
  constructor
  · intro h f h1 h2 h3
    have := h ⟨(f.val - q * 608) / 8, by omega⟩
    rwa [show (⟨q * 608 + ((f.val - q * 608) / 8 * 8 + g.val), by omega⟩ : Fin 10944) = f from
      Fin.ext (by dsimp only; omega)] at this
  · intro h x
    exact h _ (by dsimp only; omega) (by dsimp only; omega) (by dsimp only; omega)

/-- After grid point `n` the running maximum at `(g, s)` is the least bound of the magnitudes of the token's hidden
    values in the column blocks done so far, among the columns that leave remainder `g` by 8. -/
theorem sc_le (g : Fin 8) (s : Fin 1280) (a : EReal) : ∀ (n : ℕ) (hn : n < cfg0.N),
    (outsAt0 m c n hn).2.2 (ix2 g s) ≤ a
    ↔ Ideal.ofBits FTy.f32 4286578688#32 ≤ a ∧ ∀ f : Fin 10944, f.val < (n % 18 + 1) * 608 → f.val % 8 = g.val →
      FloatOps.absf (H m c ⟨n / 18 * 1280 + s.val, by have := ht ⟨n, hn⟩; dsimp only at this; omega⟩ f) ≤ a := by
  intro n
  induction n with
  | zero =>
    intro hn
    have e := sc_first m c ⟨0, hn⟩ rfl g s
    dsimp only at e
    rw [e, part_le, rows_iff (fun f => FloatOps.absf (H m c _ f) ≤ a) _ (by omega)]
    refine and_congr_right fun _ => forall_congr' fun f => ?_
    constructor
    · intro h h1 h2
      exact h (by dsimp only; omega) h1 h2
    · intro h _ h1 h2
      exact h h1 h2
  | succ n ih =>
    intro hn
    by_cases h0 : (n + 1) % 18 = 0
    · have e := sc_first m c ⟨n + 1, hn⟩ h0 g s
      dsimp only at e
      rw [e, part_le, rows_iff (fun f => FloatOps.absf (H m c _ f) ≤ a) _ (by omega)]
      refine and_congr_right fun _ => forall_congr' fun f => ?_
      constructor
      · intro h h1 h2
        exact h (by dsimp only; omega) h1 h2
      · intro h _ h1 h2
        exact h h1 h2
    · have e : (outsAt0 m c (n + 1) hn).2.2 (ix2 g s)
          = max ((outsAt0 m c n (Nat.lt_of_succ_lt hn)).2.2 (ix2 g s)) (part m c ⟨n + 1, hn⟩ (ix2 g s)) :=
        sc_next m c ⟨n + 1, hn⟩ h0 (Nat.lt_of_succ_lt hn) g s
      rw [e, max_le_iff, ih, part_le, rows_iff (fun f => FloatOps.absf (H m c _ f) ≤ a) _ (by omega)]
      have hr : (⟨n / 18 * 1280 + s.val, by have := ht ⟨n + 1, hn⟩; dsimp only at this; omega⟩ : Fin 7680)
          = ⟨(n + 1) / 18 * 1280 + s.val, by have := ht ⟨n + 1, hn⟩; dsimp only at this; omega⟩ :=
        Fin.ext (by dsimp only; omega)
      rw [hr]
      constructor
      · rintro ⟨⟨hb, h1⟩, _, h2⟩
        refine ⟨hb, fun f hf hg => ?_⟩
        by_cases hlt : f.val < (n % 18 + 1) * 608
        · exact h1 f hlt hg
        · exact h2 f (by dsimp only; omega) hf hg
      · rintro ⟨hb, h⟩
        exact ⟨⟨hb, fun f hf hg => h f (by omega) hg⟩, hb, fun f _ hf hg => h f hf hg⟩

/-- So at the last column block the maximum over the eight remainders is the largest magnitude of the whole row. -/
theorem sc_last (h2 : t.val % 18 = 17) (s : Fin 1280) :
    Finset.univ.fold max (Ideal.ofBits FTy.f32 4286578688#32)
      (fun g : Fin 8 => (outsAt0 m c t.val t.isLt).2.2 (ix2 g s))
    = GateUpMath.amax (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      ⟨t.val / 18 * 1280 + s.val, by have := ht t; omega⟩ := by
  refine eq_of_forall_ge_iff (α := EReal) fun a => ?_
  refine (Finset.fold_max_le (β := EReal) _).trans (Iff.trans ?_ (Finset.fold_max_le (β := EReal) _).symm)
  simp only [Finset.mem_univ, true_implies]
  constructor
  · rintro ⟨hb, h⟩
    exact ⟨hb, fun f => ((sc_le m c ⟨f.val % 8, by omega⟩ s a t.val t.isLt).1 (h _)).2 f (by omega) rfl⟩
  · rintro ⟨hb, h⟩
    exact ⟨hb, fun g => (sc_le m c g s a t.val t.isLt).2 ⟨hb, fun f _ _ => h f⟩⟩

/-- The block of scales, placed where the window puts it, is the scales there. -/
theorem point7 (h2 : t.val % 18 = 17) (y) : k0_pay3 (outsAt0 m c t.val t.isLt).2.2 y
    = GateUpMath.hscale (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (((cfg0.win 7).blk t).view.emb y) := by
  idx_vars y
  obtain rfl : y0 = 0 := Subsingleton.elim _ _
  obtain rfl : y1 = 0 := Subsingleton.elim _ _
  rw [em7, pay3, sc_last m c t h2]
  rfl

/-- The scales' block is written back at the last column block of each row block only. -/
theorem flush7 : ∀ t : Fin cfg0.N, (cfg0.win 7).flush t = true → t.val % 18 = 17 :=
  (by decide +kernel : ∀ t : Fin grid0.N, win0_7.flush t = true → t.val % 18 = 17)

/-- The array of scales the kernel writes. -/
theorem finalB (c : Dev nD) : (dats m 0 c).arrAt 7 cfg0.N
    = GateUpMath.hscale (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 7 _ (by decide +kernel) fun t hf y => ?_
  have h2 := flush7 t hf
  blk_simp
  rw [after0_7]
  exact (out7 m c t h2 y).trans (point7 m c t h2 y)

end Cert.GateUpIdeal.Value

end
-- ==== Proof.GateUpReference.lean ====
/- The reference of the gated hidden layer: its two arrays are the hidden values and their scales. -/
module

public import proofs.«01_k».proof.Proof.Gen.GateUpRefIdeal.Frame
public import proofs.«01_k».proof.Proof.GateUpMath

@[expose] public section

set_option maxRecDepth 16384

noncomputable section

open Idealize.ShloMosaic Idealize.ShloMosaic.TcCoe Idealize.SL.Sem
open Idealize.ShloMosaic.Pipeline (Dat)

namespace Cert.GateUpRefIdeal.Value
open Cert.GateUpRefIdeal Cert.GateUpRefIdeal.Gen
variable (m : (ℓ : Loc nD τ sig) → Buf (Elt Ideal) ℓ) (ρ : Dev nD → PrngReg)

theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0, 0] ∧ win0_7.index t = ![0, 0, 0] :=
  (by decide +kernel : ∀ t : Fin grid0.N, _)

/-- The hidden values, one at a time. -/
theorem pay2 (v0 v1 v3 v7 v12 v18) (r : Fin 7680) (f : Fin 10944) :
    k0_pay2 (F := Ideal) v0 v1 v3 v7 v0 v12 v3 v18 (ix2 r f)
    = (∑ k : Fin 4096, v0 (ix2 r k) * v1 (ix2 k f)) * v3 (ix2 r 0) * v7 (ix2 0 f)
      * Ideal.logistic ((∑ k : Fin 4096, v0 (ix2 r k) * v1 (ix2 k f)) * v3 (ix2 r 0) * v7 (ix2 0 f))
      * ((∑ k : Fin 4096, v0 (ix2 r k) * v12 (ix2 k f)) * v3 (ix2 r 0) * v18 (ix2 0 f)) := by
  pointwise [k0_pay2]

theorem pay1 (v) (b : Fin 6) (f : Fin 10944) (s : Fin 1280) : k0_pay1 (F := Ideal) v (ix3 b f s)
    = v (ix2 ⟨b.val * 1280 + s.val, by omega⟩ f) := by
  pointwise [k0_pay1]

/-- The largest entry of each row. -/
theorem rowMax (x : FVec Ideal S7680x10944 .f32) (r : Fin 7680) :
    multiReduction .maximumf [1] S7680 x 0xFF800000#32 reduces_S7680x10944_S7680 (.inl rfl) rfl (ix1 r)
    = Finset.univ.fold max (Ideal.ofBits FTy.f32 4286578688#32) (fun f => x (ix2 r f)) := by
  refine (Ideal.multiReduction_maximumf_single x _ _ _ _ _).trans ?_
  have : x ∘ (reduces_S7680x10944_S7680 : S7680x10944.Reduces [1] S7680).lift (ix1 r) = fun f => x (ix2 r f) := by
    funext f
    show x _ = x _
    congr 1
    idx_ext
  rw [this]
  rfl

/-- The scales of a row of largest magnitudes. -/
theorem scaleRow (a : FVec Ideal S7680 .f32) (b : Fin 6) (s : Fin 1280) :
    shapeCast S6x1x1280 (select (cmpf .oeq a (broadcast S7680 (Scalar.ofBits .f32 0x00000000#32)))
      (broadcast S7680 (Scalar.ofBits .f32 0x3F800000#32))
      (divf a (broadcast S7680 (Scalar.ofBits .f32 0x43E00000#32)))) shapeCasts_S7680_S6x1x1280 (ix3 b 0 s)
    = GateUpMath.scaleOf (a (ix1 ⟨b.val * 1280 + s.val, by omega⟩)) := by
  pointwise [GateUpMath.scaleOf]

/-- The scales, one at a time. -/
theorem pay3 (v0 v1 v3 v7 v12 v18) (b : Fin 6) (s : Fin 1280) :
    k0_pay3 (F := Ideal) v0 v1 v3 v7 v0 v12 v3 v18 (ix3 b 0 s)
    = GateUpMath.scaleOf (Finset.univ.fold max (Ideal.ofBits FTy.f32 4286578688#32)
      (fun f : Fin 10944 => FloatOps.absf (k0_pay2 (F := Ideal) v0 v1 v3 v7 v0 v12 v3 v18
        (ix2 ⟨b.val * 1280 + s.val, by omega⟩ f)))) :=
  (scaleRow _ b s).trans (congrArg GateUpMath.scaleOf (rowMax _ _))

variable (c : Dev nD)

theorem rd0 (r : Fin 7680) (k : Fin 4096) : iblk m c 0 t0_0 (ix2 r k)
    = m ((c : Thread nD τ).loc main_arg0) (ix2 r k) := by
  blk_ext! [iblk, V, idx t0_0]

theorem rd1 (r : Fin 7680) : iblk m c 1 t0_0 (ix2 r 0)
    = m ((c : Thread nD τ).loc main_arg1) (ix3 ⟨r.val / 256, by omega⟩ 0 ⟨r.val % 256, by omega⟩) := by
  blk_ext! [iblk, V, idx t0_0]

theorem rd2 (k : Fin 4096) (f : Fin 10944) : iblk m c 2 t0_0 (ix2 k f)
    = m ((c : Thread nD τ).loc main_arg2) (ix2 k f) := by
  blk_ext! [iblk, V, idx t0_0]

theorem rd3 (f : Fin 10944) : iblk m c 3 t0_0 (ix2 0 f) = m ((c : Thread nD τ).loc main_arg3) (ix1 f) := by
  blk_ext! [iblk, V, idx t0_0]

theorem rd4 (k : Fin 4096) (f : Fin 10944) : iblk m c 4 t0_0 (ix2 k f)
    = m ((c : Thread nD τ).loc main_arg4) (ix2 k f) := by
  blk_ext! [iblk, V, idx t0_0]

theorem rd5 (f : Fin 10944) : iblk m c 5 t0_0 (ix2 0 f) = m ((c : Thread nD τ).loc main_arg5) (ix1 f) := by
  blk_ext! [iblk, V, idx t0_0]

/-- The reference's hidden value at token `r` and column `f`. -/
theorem point2 (r : Fin 7680) (f : Fin 10944) :
    k0_pay2 (iblk m c 0 t0_0) (iblk m c 2 t0_0) (iblk m c 1 t0_0) (iblk m c 3 t0_0) (iblk m c 0 t0_0) (iblk m c 4 t0_0)
      (iblk m c 1 t0_0) (iblk m c 5 t0_0) (ix2 r f)
    = GateUpMath.hidAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) r f := by
  refine (pay2 _ _ _ _ _ _ r f).trans ?_
  simp only [rd0, rd1, rd2, rd3, rd4, rd5]
  rfl

/-- The array of hidden values the reference writes. -/
theorem finalA (c : Dev nD) : (dats m 0 c).arrAt 6 cfg0.N
    = GateUpMath.hid (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_after_last 6 t0_0 (by decide +kernel) _ fun j => ?_
  blk_simp
  rw [after0_6]
  frame_out
  idx_vars j
  refine (pay1 _ _ _ _).trans ((point2 m c _ _).trans ?_)
  rfl

/-- The array of scales the reference writes. -/
theorem finalB (c : Dev nD) : (dats m 0 c).arrAt 7 cfg0.N
    = GateUpMath.hscale (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_after_last 7 t0_0 (by decide +kernel) _ fun j => ?_
  blk_simp
  rw [after0_7]
  frame_out
  idx_vars j
  obtain rfl : j1 = 0 := Subsingleton.elim _ _
  refine (pay3 _ _ _ _ _ _ _ _).trans ?_
  simp only [point2 m c]
  rfl

/-- The run leaves argument 0 as it was. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The run leaves argument 1 as it was. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as it was. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run leaves argument 3 as it was. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument 4 as it was. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The run leaves argument 5 as it was. -/
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with each output array named and the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, kept0 m r h c, kept1 m r h c, kept2 m r h c, kept3 m r h c, kept4 m r h c, kept5 m r h c⟩)
    (run_main m ρ)
end Cert.GateUpRefIdeal.Value

end
-- ==== Proof.GateUp.lean ====
/- The gated hidden layer: the kernel's arrays and the reference's arrays are the same two functions of the arguments
   (`GateUpMath.hid` and `GateUpMath.hscale`). -/
module

public import proofs.«01_k».proof.Proof.GateUpKernel
public import proofs.«01_k».proof.Proof.GateUpReference
-- ==== Proof.OProj.lean ====
/- The output-gate projection: the kernel's array and the reference's array are one function of the arguments. -/
module

public import proofs.«01_k».proof.Proof.Gen.OProjIdeal.Value
public import proofs.«01_k».proof.Proof.Gen.OProjRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OProjMath

/-- The projection at token `r` and column `n`: the codes' product with the weight codes, times the token's scale
    and the column's scale. -/
def proj (X : FVec Ideal ⟨2, ![7680, 4096]⟩ .fp8e4m3) (t : FVec Ideal ⟨2, ![6, 1280]⟩ .f32)
    (W : FVec Ideal ⟨3, ![4096, 8, 512]⟩ .fp8e4m3) (s : FVec Ideal ⟨2, ![8, 512]⟩ .f32) :
    FVec Ideal ⟨2, ![7680, 4096]⟩ .f32 := fun j =>
  (∑ k : Fin 4096, X (ix2 (j 0) k) * W (ix3 k ⟨(j 1).val / 512, by have : (j 1).val < 4096 := (j 1).isLt; omega⟩
      ⟨(j 1).val % 512, by omega⟩))
    * t (ix2 ⟨(j 0).val / 1280, by have : (j 0).val < 7680 := (j 0).isLt; omega⟩ ⟨(j 0).val % 1280, by omega⟩)
    * s (ix2 ⟨(j 1).val / 512, by have : (j 1).val < 4096 := (j 1).isLt; omega⟩ ⟨(j 1).val % 512, by omega⟩)

end Cert.OProjMath

namespace Cert.OProjIdeal.Value
open Cert.OProjIdeal Cert.OProjIdeal.Gen
variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, 0] ∧ win0_3.index t = ![0, t.val % 4] ∧ win0_4.index t = ![t.val / 4, t.val % 4] :=
  (by decide +kernel : ∀ t : Fin grid0.N, _)

theorem pay (v0 v1 v4 v8) (r : Fin 1280) (n : Fin 1024) : k0_pay1 (F := Ideal) v0 v1 v4 v8 (ix2 r n)
    = (∑ k : Fin 4096, v0 (ix2 r k) * v1 (ix2 k n)) * v4 (ix2 r ⟨n.val % 128, by omega⟩) * v8 (ix2 0 n) := by
  pointwise [k0_pay1]
  refine congrArg (fun z => (∑ x, v0 (ix2 r x) * v1 (ix2 x n)) * z * v8 (ix2 0 n)) ?_
  repeat' split
  all_goals exact congrArg (fun z => v4 (ix2 r z)) (Fin.ext (by show _ = n.val % 128; dsimp only; omega))

variable (c : Dev nD) (t : Fin cfg0.N)

theorem ht : t.val < 24 := lt_of_lt_of_eq t.isLt Gen.N_0

theorem rd0 (r : Fin 1280) (k : Fin 4096) : iblk m c 0 t (ix2 r k)
    = m ((c : Thread nD τ).loc main_arg0) (ix2 ⟨t.val / 4 * 1280 + r.val, by have := ht t; omega⟩ k) := by
  have := ht t
  blk_ext! [iblk, V, idx t]

theorem rd1 (k : Fin 4096) (n : Fin 1024) : iblk m c 1 t (ix2 k n)
    = m ((c : Thread nD τ).loc main_arg2) (ix3 k ⟨(t.val % 4 * 1024 + n.val) / 512, by have := ht t; omega⟩
        ⟨(t.val % 4 * 1024 + n.val) % 512, by omega⟩) := by
  have := ht t
  blk_ext! [iblk, V, idx t]

theorem rd2 (r : Fin 1280) (l : Fin 128) : iblk m c 2 t (ix2 r l)
    = m ((c : Thread nD τ).loc main_arg1) (ix2 ⟨(t.val / 4 * 1280 + r.val) / 1280, by have := ht t; omega⟩
        ⟨(t.val / 4 * 1280 + r.val) % 1280, by omega⟩) := by
  have := ht t
  blk_ext! [iblk, V, idx t]

theorem rd3 (n : Fin 1024) : iblk m c 3 t (ix2 0 n)
    = m ((c : Thread nD τ).loc main_arg3) (ix2 ⟨(t.val % 4 * 1024 + n.val) / 512, by have := ht t; omega⟩
        ⟨(t.val % 4 * 1024 + n.val) % 512, by omega⟩) := by
  have := ht t
  blk_ext! [iblk, V, idx t]

theorem em (r : Fin 1280) (n : Fin 1024) : ((cfg0.win 4).blk t).view.emb (ix2 r n)
    = ix2 ⟨t.val / 4 * 1280 + r.val, by have := ht t; omega⟩ ⟨t.val % 4 * 1024 + n.val, by have := ht t; omega⟩ := by
  have := ht t
  blk_ext [idx t]

theorem point (y) : k0_pay1 (iblk m c 0 t) (iblk m c 1 t) (iblk m c 2 t) (iblk m c 3 t) y
    = OProjMath.proj (m ((c : Thread nD τ).loc main_arg0)) (m ((c : Thread nD τ).loc main_arg1))
      (m ((c : Thread nD τ).loc main_arg2)) (m ((c : Thread nD τ).loc main_arg3)) (((cfg0.win 4).blk t).view.emb y) := by
  idx_vars y
  rw [pay, em]
  simp only [rd0, rd1, rd2, rd3]
  rfl

theorem final (c : Dev nD) : (dats m 0 c).arrAt 4 cfg0.N
    = OProjMath.proj (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.OProjIdeal.Value

namespace Cert.OProjRefIdeal.Value
open Cert.OProjRefIdeal Cert.OProjRefIdeal.Gen
variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

theorem final (c : Dev nD) : (dats m 0 c).arrAt 4 cfg0.N
    = OProjMath.proj (m ((c : Thread nD τ).loc main_arg0)) (m ((c : Thread nD τ).loc main_arg1))
      (m ((c : Thread nD τ).loc main_arg2)) (m ((c : Thread nD τ).loc main_arg3)) := by
  refine (dats m 0 c).arrAt_eq_of_after_last 4 t0_0 (by decide +kernel) _ fun j => ?_
  blk_simp
  rw [after0_4]
  frame_out
  idx_vars j
  pointwise [k0_pay1, OProjMath.proj]
  blk_point [iblk, V, idx t0_0]

end Cert.OProjRefIdeal.Value

end
-- ==== Proof.Qkv.lean ====
/- The query, key and value projections: the kernel's array and the reference's array are one function of the arguments. -/
module

public import proofs.«01_k».proof.Proof.Gen.QkvIdeal.Value
public import proofs.«01_k».proof.Proof.Gen.QkvRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvMath

/-- Column `n` of the three weight matrices side by side: 8 heads of 256 query columns, 8 of 256 key columns, 8 of 512
    value columns. -/
def weight (Wq Wk : FVec Ideal ⟨3, ![4096, 8, 256]⟩ .fp8e4m3) (Wv : FVec Ideal ⟨3, ![4096, 8, 512]⟩ .fp8e4m3)
    (k : Fin 4096) (n : Fin 8192) : EReal :=
  if h : n.val < 2048 then Wq (ix3 k ⟨n.val / 256, by omega⟩ ⟨n.val % 256, by omega⟩)
  else if h' : n.val < 4096 then Wk (ix3 k ⟨(n.val - 2048) / 256, by omega⟩ ⟨(n.val - 2048) % 256, by omega⟩)
  else Wv (ix3 k ⟨(n.val - 4096) / 512, by omega⟩ ⟨(n.val - 4096) % 512, by omega⟩)

/-- The column scales side by side, in the order of the weights. -/
def scale (sq sk : FVec Ideal ⟨2, ![8, 256]⟩ .f32) (sv : FVec Ideal ⟨2, ![8, 512]⟩ .f32) (n : Fin 8192) : EReal :=
  if h : n.val < 2048 then sq (ix2 ⟨n.val / 256, by omega⟩ ⟨n.val % 256, by omega⟩)
  else if h' : n.val < 4096 then sk (ix2 ⟨(n.val - 2048) / 256, by omega⟩ ⟨(n.val - 2048) % 256, by omega⟩)
  else sv (ix2 ⟨(n.val - 4096) / 512, by omega⟩ ⟨(n.val - 4096) % 512, by omega⟩)

section Cases
variable (Wq Wk : FVec Ideal ⟨3, ![4096, 8, 256]⟩ .fp8e4m3) (Wv : FVec Ideal ⟨3, ![4096, 8, 512]⟩ .fp8e4m3)
  (k : Fin 4096) (n : Fin 8192) (sq sk : FVec Ideal ⟨2, ![8, 256]⟩ .f32) (sv : FVec Ideal ⟨2, ![8, 512]⟩ .f32)

theorem weight_q (h : n.val < 2048) : weight Wq Wk Wv k n = Wq (ix3 k ⟨n.val / 256, by omega⟩ ⟨n.val % 256, by omega⟩) :=
  dif_pos h
theorem weight_k (h : ¬ n.val < 2048) (h' : n.val < 4096) : weight Wq Wk Wv k n
    = Wk (ix3 k ⟨(n.val - 2048) / 256, by omega⟩ ⟨(n.val - 2048) % 256, by omega⟩) := (dif_neg h).trans (dif_pos h')
theorem weight_v (h : ¬ n.val < 2048) (h' : ¬ n.val < 4096) : weight Wq Wk Wv k n
    = Wv (ix3 k ⟨(n.val - 4096) / 512, by omega⟩ ⟨(n.val - 4096) % 512, by omega⟩) := (dif_neg h).trans (dif_neg h')
theorem scale_q (h : n.val < 2048) : scale sq sk sv n = sq (ix2 ⟨n.val / 256, by omega⟩ ⟨n.val % 256, by omega⟩) :=
  dif_pos h
theorem scale_k (h : ¬ n.val < 2048) (h' : n.val < 4096) : scale sq sk sv n
    = sk (ix2 ⟨(n.val - 2048) / 256, by omega⟩ ⟨(n.val - 2048) % 256, by omega⟩) := (dif_neg h).trans (dif_pos h')
theorem scale_v (h : ¬ n.val < 2048) (h' : ¬ n.val < 4096) : scale sq sk sv n
    = sv (ix2 ⟨(n.val - 4096) / 512, by omega⟩ ⟨(n.val - 4096) % 512, by omega⟩) := (dif_neg h).trans (dif_neg h')
end Cases

/-- The projections at token `r` and column `n`: the codes' product with the weight codes, times the token's scale and the
    column's scale. -/
def proj (X : FVec Ideal ⟨2, ![7680, 4096]⟩ .fp8e4m3) (t : FVec Ideal ⟨2, ![6, 1280]⟩ .f32)
    (Wq : FVec Ideal ⟨3, ![4096, 8, 256]⟩ .fp8e4m3) (sq : FVec Ideal ⟨2, ![8, 256]⟩ .f32)
    (Wk : FVec Ideal ⟨3, ![4096, 8, 256]⟩ .fp8e4m3) (sk : FVec Ideal ⟨2, ![8, 256]⟩ .f32)
    (Wv : FVec Ideal ⟨3, ![4096, 8, 512]⟩ .fp8e4m3) (sv : FVec Ideal ⟨2, ![8, 512]⟩ .f32) :
    FVec Ideal ⟨2, ![7680, 8192]⟩ .bf16 := fun j =>
  (∑ k : Fin 4096, X (ix2 (j 0) k) * weight Wq Wk Wv k (j 1))
    * t (ix2 ⟨(j 0).val / 1280, by have : (j 0).val < 7680 := (j 0).isLt; omega⟩ ⟨(j 0).val % 1280, by omega⟩)
    * scale sq sk sv (j 1)

theorem proj_at (X : FVec Ideal ⟨2, ![7680, 4096]⟩ .fp8e4m3) (t : FVec Ideal ⟨2, ![6, 1280]⟩ .f32)
    (Wq : FVec Ideal ⟨3, ![4096, 8, 256]⟩ .fp8e4m3) (sq : FVec Ideal ⟨2, ![8, 256]⟩ .f32)
    (Wk : FVec Ideal ⟨3, ![4096, 8, 256]⟩ .fp8e4m3) (sk : FVec Ideal ⟨2, ![8, 256]⟩ .f32)
    (Wv : FVec Ideal ⟨3, ![4096, 8, 512]⟩ .fp8e4m3) (sv : FVec Ideal ⟨2, ![8, 512]⟩ .f32) (r : Fin 7680) (n : Fin 8192) :
    proj X t Wq sq Wk sk Wv sv (ix2 r n) = (∑ k : Fin 4096, X (ix2 r k) * weight Wq Wk Wv k n)
      * t (ix2 ⟨r.val / 1280, by omega⟩ ⟨r.val % 1280, by omega⟩) * scale sq sk sv n := rfl

end Cert.QkvMath

namespace Cert.QkvIdeal.Value
open Cert.QkvIdeal Cert.QkvIdeal.Gen
variable (m : (ℓ : Loc nD τ sig) → Buf (Elt Ideal) ℓ)

theorem idx : ∀ t : Fin cfg0.N, win0_0.index t = ![t.val / 8, 0] ∧ win0_1.index t = ![0, t.val % 8]
    ∧ win0_2.index t = ![t.val / 8, 0] ∧ win0_3.index t = ![0, t.val % 8] ∧ win0_4.index t = ![t.val / 8, t.val % 8] :=
  (by decide +kernel : ∀ t : Fin grid0.N, _)

theorem pay (v0 v1 v4 v8) (r : Fin 1280) (n : Fin 1024) : k0_pay1 (F := Ideal) v0 v1 v4 v8 (ix2 r n)
    = (∑ k : Fin 4096, v0 (ix2 r k) * v1 (ix2 k n)) * v4 (ix2 r ⟨n.val % 128, by omega⟩) * v8 (ix2 0 n) := by
  pointwise [k0_pay1]
  refine congrArg (fun z => (∑ x, v0 (ix2 r x) * v1 (ix2 x n)) * z * v8 (ix2 0 n)) ?_
  repeat' split
  all_goals exact congrArg (fun z => v4 (ix2 r z)) (Fin.ext (by show _ = n.val % 128; dsimp only; omega))

variable (c : Dev nD) (t : Fin cfg0.N)

theorem ht : t.val < 48 := lt_of_lt_of_eq t.isLt Gen.N_0

theorem rd0 (r : Fin 1280) (k : Fin 4096) : iblk m c 0 t (ix2 r k)
    = m ((c : Thread nD τ).loc main_arg0) (ix2 ⟨t.val / 8 * 1280 + r.val, by have := ht t; omega⟩ k) := by
  have := ht t
  blk_ext! [iblk, V, idx t]

/-- Three weight matrices side by side. -/
def cat5 (a b : Vec Ideal S4096x2048 .fp8e4m3) (d : Vec Ideal S4096x4096 .fp8e4m3) : Vec Ideal S4096x8192 .fp8e4m3 :=
  concatenate S4096x8192 1 [⟨S4096x2048, a⟩, ⟨S4096x2048, b⟩, ⟨S4096x4096, d⟩] concatenates_S4096x2048_S4096x2048_S4096x4096_S4096x8192_d1

theorem V2 (c : Dev nD) : V m c main_v2 = shapeCast S4096x2048 (m ((c : Thread nD τ).loc main_arg2)) shapeCasts_S4096x8x256_S4096x2048 := by
  entry_read; rfl

theorem V3 (c : Dev nD) : V m c main_v3 = shapeCast S4096x2048 (m ((c : Thread nD τ).loc main_arg4)) shapeCasts_S4096x8x256_S4096x2048 := by
  entry_read; rfl

theorem V4 (c : Dev nD) : V m c main_v4 = shapeCast S4096x4096 (m ((c : Thread nD τ).loc main_arg6)) shapeCasts_S4096x8x512_S4096x4096 := by
  entry_read; rfl

/-- The host's `main_v5` is the three, side by side. -/
theorem V5c (c : Dev nD) : V m c main_v5 = cat5 (V m c main_v2) (V m c main_v3) (V m c main_v4) := by
  generalize hR : cat5 (V m c main_v2) (V m c main_v3) (V m c main_v4) = R
  simp only [V, hostOps0, StableHlo.after_cons, StableHlo.after_nil]
  refine (StableHlo.nary_result_ne (r := main_v5) (h := (by decide : main_v5 ≠ main_v9)) ..).trans ?_
  refine (StableHlo.reshape_result_ne (r := main_v5) (h := (by decide : main_v5 ≠ main_v8)) ..).trans ?_
  refine (StableHlo.reshape_result_ne (r := main_v5) (h := (by decide : main_v5 ≠ main_v7)) ..).trans ?_
  refine (StableHlo.reshape_result_ne (r := main_v5) (h := (by decide : main_v5 ≠ main_v6)) ..).trans ?_
  refine (StableHlo.nary_result ..).trans ?_
  subst hR
  have e2 : V m c main_v2 = StableHlo.after (hostOps0.take 5) (fun b => m (c, b)) main_v2 := by entry_read; rfl
  have e3 : V m c main_v3 = StableHlo.after (hostOps0.take 5) (fun b => m (c, b)) main_v3 := by entry_read; rfl
  have e4 : V m c main_v4 = StableHlo.after (hostOps0.take 5) (fun b => m (c, b)) main_v4 := by entry_read; rfl
  rw [e2, e3, e4]
  rfl

/-- Three rows of scales side by side. -/
def cat9 (a b : Vec Ideal S1x2048 .f32) (d : Vec Ideal S1x4096 .f32) : Vec Ideal S1x8192 .f32 :=
  concatenate S1x8192 1 [⟨S1x2048, a⟩, ⟨S1x2048, b⟩, ⟨S1x4096, d⟩] concatenates_S1x2048_S1x2048_S1x4096_S1x8192_d1

theorem V6 (c : Dev nD) (n : Fin 2048) : V m c main_v6 (ix2 0 n)
    = m ((c : Thread nD τ).loc main_arg3) (ix2 ⟨n.val / 256, by omega⟩ ⟨n.val % 256, by omega⟩) := by
  entry_read
  pointwise

theorem V7 (c : Dev nD) (n : Fin 2048) : V m c main_v7 (ix2 0 n)
    = m ((c : Thread nD τ).loc main_arg5) (ix2 ⟨n.val / 256, by omega⟩ ⟨n.val % 256, by omega⟩) := by
  entry_read
  pointwise

theorem V8 (c : Dev nD) (n : Fin 4096) : V m c main_v8 (ix2 0 n)
    = m ((c : Thread nD τ).loc main_arg7) (ix2 ⟨n.val / 512, by omega⟩ ⟨n.val % 512, by omega⟩) := by
  entry_read
  pointwise

/-- The host's `main_v9` is the three, side by side. -/
theorem V9c (c : Dev nD) : V m c main_v9 = cat9 (V m c main_v6) (V m c main_v7) (V m c main_v8) := by
  generalize hR : cat9 (V m c main_v6) (V m c main_v7) (V m c main_v8) = R
  simp only [V, hostOps0, StableHlo.after_cons, StableHlo.after_nil]
  refine (StableHlo.nary_result ..).trans ?_
  subst hR
  have e6 : V m c main_v6 = StableHlo.after (hostOps0.take 9) (fun b => m (c, b)) main_v6 := by entry_read; rfl
  have e7 : V m c main_v7 = StableHlo.after (hostOps0.take 9) (fun b => m (c, b)) main_v7 := by entry_read; rfl
  have e8 : V m c main_v8 = StableHlo.after (hostOps0.take 9) (fun b => m (c, b)) main_v8 := by entry_read; rfl
  rw [e6, e7, e8]
  rfl

theorem V5 (c : Dev nD) (k : Fin 4096) (n : Fin 8192) : V m c main_v5 (ix2 k n)
    = QkvMath.weight (m ((c : Thread nD τ).loc main_arg2)) (m ((c : Thread nD τ).loc main_arg4))
        (m ((c : Thread nD τ).loc main_arg6)) k n := by
  rw [V5c, V2, V3, V4]
  pointwise [cat5]
  unfold QkvMath.weight
  split
  · rfl
  · split
    · rw [dif_pos (by omega)]
    · rw [dif_neg (by omega)]
      congr 2 <;> exact Fin.ext (by show _ = _; dsimp only; omega)

theorem cat9_at (a b : Vec Ideal S1x2048 .f32) (d : Vec Ideal S1x4096 .f32) (n : Fin 8192) : cat9 a b d (ix2 0 n)
    = if h : n.val < 2048 then a (ix2 0 ⟨n.val, h⟩) else if h' : n.val < 4096 then b (ix2 0 ⟨n.val - 2048, by omega⟩)
      else d (ix2 0 ⟨n.val - 4096, by omega⟩) := by
  pointwise [cat9]
  split
  · rfl
  · split
    · rw [dif_pos (by omega)]
    · rw [dif_neg (by omega)]
      congr 2

theorem V9 (c : Dev nD) (n : Fin 8192) : V m c main_v9 (ix2 0 n)
    = QkvMath.scale (m ((c : Thread nD τ).loc main_arg3)) (m ((c : Thread nD τ).loc main_arg5))
        (m ((c : Thread nD τ).loc main_arg7)) n := by
  rw [V9c, cat9_at]
  unfold QkvMath.scale
  split
  · exact V6 m c _
  · split
    · exact V7 m c _
    · exact V8 m c _

theorem rd1 (k : Fin 4096) (n : Fin 1024) : iblk m c 1 t (ix2 k n)
    = QkvMath.weight (m ((c : Thread nD τ).loc main_arg2)) (m ((c : Thread nD τ).loc main_arg4))
        (m ((c : Thread nD τ).loc main_arg6)) k ⟨t.val % 8 * 1024 + n.val, by omega⟩ := by
  have := ht t
  rw [← V5]
  unfold iblk
  blk_ext [idx t]

theorem rd2 (r : Fin 1280) (l : Fin 128) : iblk m c 2 t (ix2 r l)
    = m ((c : Thread nD τ).loc main_arg1) (ix2 ⟨(t.val / 8 * 1280 + r.val) / 1280, by have := ht t; omega⟩
        ⟨(t.val / 8 * 1280 + r.val) % 1280, by omega⟩) := by
  have := ht t
  blk_ext! [iblk, V, idx t]

theorem rd3 (n : Fin 1024) : iblk m c 3 t (ix2 0 n)
    = QkvMath.scale (m ((c : Thread nD τ).loc main_arg3)) (m ((c : Thread nD τ).loc main_arg5))
        (m ((c : Thread nD τ).loc main_arg7)) ⟨t.val % 8 * 1024 + n.val, by omega⟩ := by
  have := ht t
  rw [← V9]
  unfold iblk
  blk_ext [idx t]

theorem em (r : Fin 1280) (n : Fin 1024) : ((cfg0.win 4).blk t).view.emb (ix2 r n)
    = ix2 ⟨t.val / 8 * 1280 + r.val, by have := ht t; omega⟩ ⟨t.val % 8 * 1024 + n.val, by have := ht t; omega⟩ := by
  have := ht t
  blk_ext [idx t]

theorem point (y) : k0_pay1 (iblk m c 0 t) (iblk m c 1 t) (iblk m c 2 t) (iblk m c 3 t) y
    = QkvMath.proj (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (((cfg0.win 4).blk t).view.emb y) := by
  idx_vars y
  rw [pay, em]
  simp only [rd0, rd1, rd2, rd3]
  rfl

/-- The array the kernel leaves is `QkvMath.proj` of its arguments. -/
theorem final (c : Dev nD) : (dats m 0 c).arrAt 4 cfg0.N
    = QkvMath.proj (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 4 _ (by decide +kernel) fun t _ y => ?_
  blk_simp
  rw [after0_4]
  frame_out
  exact point m c t y

end Cert.QkvIdeal.Value

namespace Cert.QkvRefIdeal.Value
open Cert.QkvRefIdeal Cert.QkvRefIdeal.Gen
variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- What the reference's body computes, at token `r` and column `n`. -/
theorem pay (x : Vec Ideal S7680x4096 .fp8e4m3) (t : Vec Ideal S7680x1 .f32) (wq wk : Vec Ideal S4096x2048 .fp8e4m3)
    (wv : Vec Ideal S4096x4096 .fp8e4m3) (sq sk : Vec Ideal S1x2048 .f32) (sv : Vec Ideal S1x4096 .f32)
    (r : Fin 7680) (n : Fin 8192) :
    k0_pay1 (F := Ideal) (k0_pay2 x wq t sq) (k0_pay3 x wk t sk) (k0_pay4 x wv t) sv (ix2 r n)
    = if h : n.val < 2048 then (∑ k : Fin 4096, x (ix2 r k) * wq (ix2 k ⟨n.val, by omega⟩)) * t (ix2 r 0) * sq (ix2 0 ⟨n.val, by omega⟩)
      else if h' : n.val < 4096 then (∑ k : Fin 4096, x (ix2 r k) * wk (ix2 k ⟨n.val - 2048, by omega⟩)) * t (ix2 r 0) * sk (ix2 0 ⟨n.val - 2048, by omega⟩)
      else (∑ k : Fin 4096, x (ix2 r k) * wv (ix2 k ⟨n.val - 4096, by omega⟩)) * t (ix2 r 0) * sv (ix2 0 ⟨n.val - 4096, by omega⟩) := by
  pointwise [k0_pay1, k0_pay2, k0_pay3, k0_pay4]
  split
  · rfl
  · split
    · rw [dif_pos (by omega)]
    · rw [dif_neg (by omega)]
      have e : n.val - 2048 - 2048 = n.val - 4096 := by omega
      have e' : (⟨n.val - 2048 - 2048, by omega⟩ : Fin 4096) = ⟨n.val - 4096, by omega⟩ := Fin.ext e
      rw [e']

section Reads
variable (c : Dev nD)

theorem rd0 (r : Fin 7680) (k : Fin 4096) : iblk m c 0 t0_0 (ix2 r k) = m ((c : Thread nD τ).loc main_arg0) (ix2 r k) := by
  blk_ext! [iblk, V, idx t0_0]

theorem rd1 (r : Fin 7680) : iblk m c 1 t0_0 (ix2 r 0) = m ((c : Thread nD τ).loc main_arg1) (ix2 ⟨r.val / 1280, by omega⟩ ⟨r.val % 1280, by omega⟩) := by
  blk_ext! [iblk, V, idx t0_0]

theorem rd2 (k : Fin 4096) (n : Fin 2048) : iblk m c 2 t0_0 (ix2 k n) = m ((c : Thread nD τ).loc main_arg2) (ix3 k ⟨n.val / 256, by omega⟩ ⟨n.val % 256, by omega⟩) := by
  blk_ext! [iblk, V, idx t0_0]

theorem rd3 (n : Fin 2048) : iblk m c 3 t0_0 (ix2 0 n) = m ((c : Thread nD τ).loc main_arg3) (ix2 ⟨n.val / 256, by omega⟩ ⟨n.val % 256, by omega⟩) := by
  blk_ext! [iblk, V, idx t0_0]

theorem rd4 (k : Fin 4096) (n : Fin 2048) : iblk m c 4 t0_0 (ix2 k n) = m ((c : Thread nD τ).loc main_arg4) (ix3 k ⟨n.val / 256, by omega⟩ ⟨n.val % 256, by omega⟩) := by
  blk_ext! [iblk, V, idx t0_0]

theorem rd5 (n : Fin 2048) : iblk m c 5 t0_0 (ix2 0 n) = m ((c : Thread nD τ).loc main_arg5) (ix2 ⟨n.val / 256, by omega⟩ ⟨n.val % 256, by omega⟩) := by
  blk_ext! [iblk, V, idx t0_0]

theorem rd6 (k : Fin 4096) (n : Fin 4096) : iblk m c 6 t0_0 (ix2 k n) = m ((c : Thread nD τ).loc main_arg6) (ix3 k ⟨n.val / 512, by omega⟩ ⟨n.val % 512, by omega⟩) := by
  blk_ext! [iblk, V, idx t0_0]

theorem rd7 (n : Fin 4096) : iblk m c 7 t0_0 (ix2 0 n) = m ((c : Thread nD τ).loc main_arg7) (ix2 ⟨n.val / 512, by omega⟩ ⟨n.val % 512, by omega⟩) := by
  blk_ext! [iblk, V, idx t0_0]

end Reads

/-- The array the reference leaves is `QkvMath.proj` of its arguments. -/
theorem final (c : Dev nD) : (dats m 0 c).arrAt 8 cfg0.N
    = QkvMath.proj (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_after_last 8 t0_0 (by decide +kernel) _ fun j => ?_
  blk_simp
  rw [after0_8]
  frame_out
  idx_vars j
  refine (pay _ _ _ _ _ _ _ _ _ _).trans ?_
  simp only [rd0, rd1, rd2, rd3, rd4, rd5, rd6, rd7]
  rw [QkvMath.proj_at]
  split
  · rename_i h
    simp only [QkvMath.weight_q _ _ _ _ _ h, QkvMath.scale_q _ _ _ _ h]
  · split
    · rename_i h h'
      simp only [QkvMath.weight_k _ _ _ _ _ h h', QkvMath.scale_k _ _ _ _ h h']
    · rename_i h h'
      simp only [QkvMath.weight_v _ _ _ _ _ h h', QkvMath.scale_v _ _ _ _ h h']

end Cert.QkvRefIdeal.Value

end
-- ==== Proof.OutMath.lean ====
/- The output projection with the residual, the second norm and its quantiser: what the three arrays hold, in terms of
   the arguments. -/
module

public import Idealize.ShloMosaic.Lib.Pipeline.ValueKit
public import Idealize.ShloMosaic.Lib.Pointwise

@[expose] public section

noncomputable section

open Idealize.ShloMosaic

namespace Cert.OutMath

/-- The residual stream after the output projection, at token `r` and column `d`: the input plus the product of the mixed
    codes with the weight's codes, times the token's scale and the column's scale. -/
def x1At (X : FVec Ideal ⟨2, ![7680, 4096]⟩ .fp8e4m3) (t : FVec Ideal ⟨2, ![6, 1280]⟩ .f32)
    (W : FVec Ideal ⟨3, ![8, 512, 4096]⟩ .fp8e4m3) (s : FVec Ideal ⟨1, ![4096]⟩ .f32)
    (x : FVec Ideal ⟨3, ![6, 1280, 4096]⟩ .bf16) (r : Fin 7680) (d : Fin 4096) : EReal :=
  x (ix3 ⟨r.val / 1280, by omega⟩ ⟨r.val % 1280, by omega⟩ d)
    + (∑ k : Fin 4096, X (ix2 r k) * W (ix3 ⟨k.val / 512, by omega⟩ ⟨k.val % 512, by omega⟩ d))
      * t (ix2 ⟨r.val / 1280, by omega⟩ ⟨r.val % 1280, by omega⟩) * s (ix1 d)

/-- A row over the root of its mean square (plus 1e-6), times the norm's weight. -/
def normAt (row : Fin 4096 → EReal) (w : EReal) (d : Fin 4096) : EReal :=
  Ideal.div (row d) (Ideal.sqrt (Ideal.div (∑ k : Fin 4096, row k * row k) (Ideal.ofBits FTy.f32 1166016512#32)
    + Ideal.ofBits FTy.f32 897988541#32)) * w

/-- The largest magnitude of a row. -/
def amax (row : Fin 4096 → EReal) : EReal :=
  Finset.univ.fold max (Ideal.ofBits FTy.f32 4286578688#32) (fun d => (FloatOps.absf (row d : Ideal .f32) : Ideal .f32))

/-- A scale from the largest magnitude: 1 if that is zero, else that over 448. -/
def scaleOf (a : EReal) : EReal :=
  if a = 0 then 1 else Ideal.div a (Ideal.ofBits FTy.f32 1138753536#32)

/-- A value over its scale, clipped to ±448. -/
def codeOf (v scale : EReal) : EReal :=
  min (Ideal.ofBits FTy.f32 1138753536#32) (max (Ideal.ofBits FTy.f32 3286237184#32) (Ideal.div v scale))

section
variable (X : FVec Ideal ⟨2, ![7680, 4096]⟩ .fp8e4m3) (t : FVec Ideal ⟨2, ![6, 1280]⟩ .f32)
  (W : FVec Ideal ⟨3, ![8, 512, 4096]⟩ .fp8e4m3) (s : FVec Ideal ⟨1, ![4096]⟩ .f32)
  (x : FVec Ideal ⟨3, ![6, 1280, 4096]⟩ .bf16) (w : FVec Ideal ⟨1, ![4096]⟩ .f32)

/-- The normed residual stream at token `r` and column `d`. -/
def xnAt (r : Fin 7680) (d : Fin 4096) : EReal := normAt (x1At X t W s x r) (w (ix1 d)) d

/-- The scale of token `r`. -/
def scaleAt (r : Fin 7680) : EReal := scaleOf (amax (xnAt X t W s x w r))

/-- The residual stream. -/
def x1 : FVec Ideal ⟨2, ![7680, 4096]⟩ .f32 := fun j => x1At X t W s x (j 0) (j 1)

/-- The codes of the normed residual stream. -/
def codes : FVec Ideal ⟨2, ![7680, 4096]⟩ .fp8e4m3 := fun j =>
  codeOf (xnAt X t W s x w (j 0) (j 1)) (scaleAt X t W s x w (j 0))

/-- The scales, in rows of 256 tokens. -/
def scaleRow : FVec Ideal ⟨3, ![30, 1, 256]⟩ .f32 := fun j =>
  scaleAt X t W s x w ⟨(j 0).val * 256 + (j 2).val, by
    have h0 : (j 0).val < 30 := (j 0).isLt
    have h2 : (j 2).val < 256 := (j 2).isLt
    omega⟩

end

end Cert.OutMath

end
-- ==== Proof.OutKernel.lean ====
/- The output projection's kernel: each block it computes is a block of the three arrays. -/
module

public import proofs.«01_k».proof.Proof.Gen.OutIdeal.Value
public import proofs.«01_k».proof.Proof.OutMath

@[expose] public section

set_option maxRecDepth 16384

noncomputable section

open Idealize.ShloMosaic Idealize.ShloMosaic.TcCoe Idealize.SL.Sem
open Idealize.ShloMosaic.Pipeline (Dat)

namespace Cert.OutIdeal.Value
open Cert.OutIdeal Cert.OutIdeal.Gen
variable (m : (ℓ : Loc nD τ sig) → Buf (Elt Ideal) ℓ) (ρ : Dev nD → PrngReg)

/-- The sum of each row. -/
theorem rowSum (x : FVec Ideal S256x4096 .f32) (r : Fin 256) :
    multiReduction .add [1] S256 x 0x00000000#32 reduces_S256x4096_S256 (.inl rfl) rfl (ix1 r)
    = ∑ d : Fin 4096, x (ix2 r d) := by
  refine (Ideal.multiReduction_add_single x _ _ _ _ _).trans ?_
  refine Finset.sum_congr rfl fun d _ => ?_
  show x _ = x _
  congr 1
  idx_ext

/-- The largest entry of each row. -/
theorem rowMax (x : FVec Ideal S256x4096 .f32) (r : Fin 256) :
    multiReduction .maximumf [1] S256 x 0xFF800000#32 reduces_S256x4096_S256 (.inl rfl) rfl (ix1 r)
    = Finset.univ.fold max (Ideal.ofBits FTy.f32 4286578688#32) (fun d => x (ix2 r d)) := by
  refine (Ideal.multiReduction_maximumf_single x _ _ _ _ _).trans ?_
  have : x ∘ (reduces_S256x4096_S256 : S256x4096.Reduces [1] S256).lift (ix1 r) = fun d => x (ix2 r d) := by
    funext d
    show x _ = x _
    congr 1
    idx_ext
  rw [this]
  rfl

/-- A row over the root of its mean square, times a weight, from the row's sum of squares. -/
theorem normOf (x : FVec Ideal S256x4096 .f32) (a : FVec Ideal S256 .f32) (w : FVec Ideal S1x4096 .f32) (r : Fin 256)
    (d : Fin 4096) :
    mulf (divf x (broadcastTo S256x4096 (sqrt (addf (divf (shapeCast S256x1 a shapeCasts_S256_S256x1)
        (broadcast S256x1 (Scalar.ofBits .f32 0x45800000#32))) (broadcast S256x1 (Scalar.ofBits .f32 0x358637BD#32))))
        broadcasts_S256x1_S256x4096))
      (broadcastTo S256x4096 (shapeCast S1x4096 w shapeCasts_S1x4096_S1x4096) broadcasts_S1x4096_S256x4096) (ix2 r d)
    = Ideal.div (x (ix2 r d)) (Ideal.sqrt (Ideal.div (a (ix1 r)) (Ideal.ofBits FTy.f32 1166016512#32)
        + Ideal.ofBits FTy.f32 897988541#32)) * w (ix2 0 d) := by
  pointwise []

/-- A vector of 256 as a column. -/
theorem column (a : FVec Ideal S256 .f32) (r : Fin 256) :
    shapeCast S256x1 a shapeCasts_S256_S256x1 (ix2 r 0) = a (ix1 r) := by
  pointwise []

/-- The projection with the residual, for any spread of the row scales over the columns. -/
theorem residual (v0 : FVec Ideal S256x4096 .fp8e4m3) (v1 : FVec Ideal S4096x4096 .fp8e4m3)
    (v4 : FVec Ideal S256x4096 .bf16) (L : FVec Ideal S256x4096 .f32) (v11 : FVec Ideal S1x4096 .f32)
    (r : Fin 256) (d : Fin 4096) :
    addf (extf .f32 (shapeCast S256x4096 v4 shapeCasts_S256x4096_S256x4096) bitsLt_bf16_f32)
      (mulf (mulf (matmul dot_S256x4096_S4096x4096_S256x4096_1_0_0_1_n_n none v0
          (shapeCast S4096x4096 v1 shapeCasts_S4096x4096_S4096x4096) (constant S256x4096 .f32 0x00000000#32)) L)
        (broadcastTo S256x4096 (shapeCast S1x4096 v11 shapeCasts_S1x4096_S1x4096) broadcasts_S1x4096_S256x4096)) (ix2 r d)
    = v4 (ix2 r d) + (∑ k : Fin 4096, v0 (ix2 r k) * v1 (ix2 k d)) * L (ix2 r d) * v11 (ix2 0 d) := by
  pointwise []

/-- Thirty-two copies of the lanes side by side, read at a column. -/
theorem lanes (v : FVec Ideal S256x128 .f32)
    (h : Shape.Concatenates ((List.replicate 32 (⟨S256x128, v⟩ : (s : Shape) × (s.Idx → Ideal .f32))).map (·.1)) S256x4096 1)
    (r : Fin 256) (d : Fin 4096) :
    concatenate S256x4096 1 (List.replicate 32 (⟨S256x128, v⟩ : (s : Shape) × (s.Idx → Ideal .f32))) h (ix2 r d)
    = v (ix2 r ⟨d.val % 128, by omega⟩) := by
  refine concatenate_replicate_apply 1 32 v h rfl (ix2 r d) (ix2 r ⟨d.val % 128, by omega⟩) rfl ?_
  intro b hb
  match b with
  | ⟨0, _⟩ => rfl
  | ⟨1, _⟩ => exact absurd rfl hb

theorem same (v : FVec Ideal S256x128 .f32) (r : Fin 256) (l : Fin 128) :
    shapeCast S256x128 v shapeCasts_S256x128_S256x128 (ix2 r l) = v (ix2 r l) := by
  pointwise []

/-- The block of the residual stream, one value at a time. -/
theorem pay4 (v0 v1 v4 v7 v11) (r : Fin 256) (d : Fin 4096) : k0_pay4 (F := Ideal) v0 v1 v4 v7 v11 (ix2 r d)
    = v4 (ix2 r d) + (∑ k : Fin 4096, v0 (ix2 r k) * v1 (ix2 k d)) * v7 (ix2 r ⟨d.val % 128, by omega⟩)
      * v11 (ix2 0 d) := by
  refine (residual v0 v1 v4 _ v11 r d).trans ?_
  refine congrArg (fun z => v4 (ix2 r d) + (∑ k : Fin 4096, v0 (ix2 r k) * v1 (ix2 k d)) * z * v11 (ix2 0 d)) ?_
  exact (lanes (shapeCast S256x128 v7 shapeCasts_S256x128_S256x128) _ r d).trans (same v7 r _)

/-- The normed block, one value at a time. -/
theorem pay5 (v0 v1 v4 v7 v11 v27) (r : Fin 256) (d : Fin 4096) :
    k0_pay5 (F := Ideal) v0 v1 v4 v7 v11 v27 (ix2 r d)
    = OutMath.normAt (fun k => k0_pay4 (F := Ideal) v0 v1 v4 v7 v11 (ix2 r k)) (v27 (ix2 0 d)) d := by
  refine (normOf (k0_pay4 v0 v1 v4 v7 v11) _ v27 r d).trans ?_
  rw [rowSum]
  rfl

/-- The largest magnitude of each row of the normed block. -/
theorem pay6 (v0 v1 v4 v7 v11 v27) (r : Fin 256) : k0_pay6 (F := Ideal) v0 v1 v4 v7 v11 v27 (ix2 r 0)
    = OutMath.amax (fun d => k0_pay5 (F := Ideal) v0 v1 v4 v7 v11 v27 (ix2 r d)) := by
  unfold k0_pay6
  refine (column _ r).trans ?_
  rw [rowMax]
  rfl

/-- The scales as a column, from the largest magnitudes as a column. -/
theorem scale1 (v : FVec Ideal S256x1 .f32) (r : Fin 256) :
    k0_pay1 v (cmpf .oeq v (broadcast S256x1 (Scalar.ofBits .f32 0x00000000#32))) k0_pay8 (ix2 r 0)
    = OutMath.scaleOf (v (ix2 r 0)) := by
  pointwise [k0_pay1, k0_pay8, OutMath.scaleOf]

theorem turn (v : FVec Ideal S256x1 .f32) (r : Fin 256) :
    shapeCast S1x1x256 (extractStridedSlice S1x256 ![0, 0] (transpose S128x256 [1, 0]
      (broadcastTo S256x128 (shapeCast S256x1 v shapeCasts_S256x1_S256x1) broadcasts_S256x1_S256x128)
      transposes_S256x128_p1_0_S128x256) slices_S128x256_o0_0_S1x256) shapeCasts_S1x256_S1x1x256 (ix3 0 0 r)
    = v (ix2 r 0) := by
  pointwise []

/-- The scales as a row. -/
theorem pay3 (v : FVec Ideal S256x1 .f32) (r : Fin 256) :
    k0_pay3 v (cmpf .oeq v (broadcast S256x1 (Scalar.ofBits .f32 0x00000000#32))) k0_pay8 (ix3 0 0 r)
    = OutMath.scaleOf (v (ix2 r 0)) :=
  (turn _ r).trans (scale1 v r)

theorem clip (x : FVec Ideal S256x4096 .f32) (s : FVec Ideal S256x1 .f32) (r : Fin 256) (d : Fin 4096) :
    truncf .fp8e4m3 (minimumf (broadcast S256x4096 (Scalar.ofBits .f32 0x43E00000#32))
      (maximumf (broadcast S256x4096 (Scalar.ofBits .f32 0xC3E00000#32))
        (divf x (broadcastTo S256x4096 s broadcasts_S256x1_S256x4096)))) bitsLt_fp8e4m3_f32 (ix2 r d)
    = OutMath.codeOf (x (ix2 r d)) (s (ix2 r 0)) := by
  pointwise [OutMath.codeOf]

/-- The codes, one at a time. -/
theorem pay2 (x : FVec Ideal S256x4096 .f32) (v : FVec Ideal S256x1 .f32) (r : Fin 256) (d : Fin 4096) :
    k0_pay2 x v (cmpf .oeq v (broadcast S256x1 (Scalar.ofBits .f32 0x00000000#32))) k0_pay8 (ix2 r d)
    = OutMath.codeOf (x (ix2 r d)) (OutMath.scaleOf (v (ix2 r 0))) :=
  (clip x _ r d).trans (congrArg (OutMath.codeOf (x (ix2 r d))) (scale1 v r))

/-- Which block each window shows at grid point `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![0, 0]
    ∧ win0_6.index t = ![t.val, 0] ∧ win0_7.index t = ![t.val, 0] ∧ win0_8.index t = ![t.val, 0, 0] :=
  (by decide +kernel : ∀ t : Fin grid0.N, _)

variable (c : Dev nD) (t : Fin cfg0.N)

theorem ht : t.val < 30 := lt_of_lt_of_eq t.isLt Gen.N_0

theorem rd0 (r : Fin 256) (k : Fin 4096) : iblk m c 0 t (ix2 r k)
    = m ((c : Thread nD τ).loc main_arg0) (ix2 ⟨t.val * 256 + r.val, by have := ht t; omega⟩ k) := by
  have := ht t
  blk_ext! [iblk, V, idx t]

theorem rd1 (k d : Fin 4096) : iblk m c 1 t (ix2 k d)
    = m ((c : Thread nD τ).loc main_arg2) (ix3 ⟨k.val / 512, by omega⟩ ⟨k.val % 512, by omega⟩ d) := by
  have := ht t
  blk_ext! [iblk, V, idx t]

theorem rd2 (r : Fin 256) (l : Fin 128) : iblk m c 2 t (ix2 r l)
    = m ((c : Thread nD τ).loc main_arg1) (ix2 ⟨(t.val * 256 + r.val) / 1280, by have := ht t; omega⟩
        ⟨(t.val * 256 + r.val) % 1280, by omega⟩) := by
  have := ht t
  blk_ext! [iblk, V, idx t]

theorem rd3 (d : Fin 4096) : iblk m c 3 t (ix2 0 d) = m ((c : Thread nD τ).loc main_arg3) (ix1 d) := by
  have := ht t
  blk_ext! [iblk, V, idx t]

theorem rd4 (r : Fin 256) (d : Fin 4096) : iblk m c 4 t (ix2 r d)
    = m ((c : Thread nD τ).loc main_arg4) (ix3 ⟨(t.val * 256 + r.val) / 1280, by have := ht t; omega⟩
        ⟨(t.val * 256 + r.val) % 1280, by omega⟩ d) := by
  have := ht t
  blk_ext! [iblk, V, idx t]

theorem rd5 (d : Fin 4096) : iblk m c 5 t (ix2 0 d) = m ((c : Thread nD τ).loc main_arg5) (ix1 d) := by
  have := ht t
  blk_ext! [iblk, V, idx t]

theorem em6 (r : Fin 256) (d : Fin 4096) : ((cfg0.win 6).blk t).view.emb (ix2 r d)
    = ix2 ⟨t.val * 256 + r.val, by have := ht t; omega⟩ d := by
  have := ht t
  blk_ext [idx t]

theorem em7 (r : Fin 256) (d : Fin 4096) : ((cfg0.win 7).blk t).view.emb (ix2 r d)
    = ix2 ⟨t.val * 256 + r.val, by have := ht t; omega⟩ d := by
  have := ht t
  blk_ext [idx t]

theorem em8 (r : Fin 256) : ((cfg0.win 8).blk t).view.emb (ix3 0 0 r)
    = ix3 ⟨t.val, by have := ht t; omega⟩ 0 r := by
  have := ht t
  blk_ext [idx t]

/-- At grid point `t` the block of the residual stream is rows `256 t` to `256 t + 255`. -/
theorem point4 (r : Fin 256) (d : Fin 4096) :
    k0_pay4 (iblk m c 0 t) (iblk m c 1 t) (iblk m c 4 t) (iblk m c 2 t) (iblk m c 3 t) (ix2 r d)
    = OutMath.x1At (m ((c : Thread nD τ).loc main_arg0)) (m ((c : Thread nD τ).loc main_arg1))
      (m ((c : Thread nD τ).loc main_arg2)) (m ((c : Thread nD τ).loc main_arg3))
      (m ((c : Thread nD τ).loc main_arg4))
      ⟨t.val * 256 + r.val, by have := ht t; omega⟩ d := by
  refine (pay4 _ _ _ _ _ r d).trans ?_
  simp only [rd0, rd1, rd2, rd3, rd4]
  rfl

/-- So is the normed block, -/
theorem point5 (r : Fin 256) (d : Fin 4096) :
    k0_pay5 (iblk m c 0 t) (iblk m c 1 t) (iblk m c 4 t) (iblk m c 2 t) (iblk m c 3 t) (iblk m c 5 t) (ix2 r d)
    = OutMath.xnAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      ⟨t.val * 256 + r.val, by have := ht t; omega⟩ d := by
  refine (pay5 _ _ _ _ _ _ r d).trans ?_
  simp only [point4 m c t, rd5]
  rfl

/-- and the largest magnitudes. -/
theorem point6 (r : Fin 256) :
    k0_pay6 (iblk m c 0 t) (iblk m c 1 t) (iblk m c 4 t) (iblk m c 2 t) (iblk m c 3 t) (iblk m c 5 t) (ix2 r 0)
    = OutMath.amax (OutMath.xnAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      ⟨t.val * 256 + r.val, by have := ht t; omega⟩) := by
  refine (pay6 _ _ _ _ _ _ r).trans ?_
  simp only [point5 m c t]

/-- The largest magnitudes, as the kernel's later steps name them. -/
theorem point9 (r : Fin 256) :
    k0_pay9 (iblk m c 0 t) (iblk m c 1 t) (iblk m c 2 t) (iblk m c 3 t) (iblk m c 4 t) (iblk m c 5 t) (ix2 r 0)
    = OutMath.amax (OutMath.xnAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      ⟨t.val * 256 + r.val, by have := ht t; omega⟩) := by
  refine Eq.trans ?_ (point6 m c t r)
  unfold k0_pay9
  frame_out

/-- The codes of the block. -/
theorem codesAt (r : Fin 256) (d : Fin 4096) :
    k0_pay2 (k0_pay5 (iblk m c 0 t) (iblk m c 1 t) (iblk m c 4 t) (iblk m c 2 t) (iblk m c 3 t) (iblk m c 5 t))
      (k0_pay9 (iblk m c 0 t) (iblk m c 1 t) (iblk m c 2 t) (iblk m c 3 t) (iblk m c 4 t) (iblk m c 5 t))
      (k0_pay10 (iblk m c 0 t) (iblk m c 1 t) (iblk m c 2 t) (iblk m c 3 t) (iblk m c 4 t) (iblk m c 5 t))
      (k0_pay11 (iblk m c 0 t) (iblk m c 1 t) (iblk m c 2 t) (iblk m c 3 t) (iblk m c 4 t) (iblk m c 5 t)) (ix2 r d)
    = OutMath.codes (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (ix2 ⟨t.val * 256 + r.val, by have := ht t; omega⟩ d) := by
  refine (pay2 _ (k0_pay9 (iblk m c 0 t) (iblk m c 1 t) (iblk m c 2 t) (iblk m c 3 t) (iblk m c 4 t) (iblk m c 5 t))
    r d).trans ?_
  rw [point9, point5]
  rfl

/-- The scales of the block. -/
theorem scalesAt (r : Fin 256) :
    k0_pay3 (k0_pay9 (iblk m c 0 t) (iblk m c 1 t) (iblk m c 2 t) (iblk m c 3 t) (iblk m c 4 t) (iblk m c 5 t))
      (k0_pay10 (iblk m c 0 t) (iblk m c 1 t) (iblk m c 2 t) (iblk m c 3 t) (iblk m c 4 t) (iblk m c 5 t))
      (k0_pay11 (iblk m c 0 t) (iblk m c 1 t) (iblk m c 2 t) (iblk m c 3 t) (iblk m c 4 t) (iblk m c 5 t)) (ix3 0 0 r)
    = OutMath.scaleRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (ix3 ⟨t.val, by have := ht t; omega⟩ 0 r) := by
  refine (pay3 (k0_pay9 (iblk m c 0 t) (iblk m c 1 t) (iblk m c 2 t) (iblk m c 3 t) (iblk m c 4 t) (iblk m c 5 t))
    r).trans ?_
  rw [point9]
  rfl

/-- The residual stream the kernel writes. -/
theorem finalA (c : Dev nD) : (dats m 0 c).arrAt 6 cfg0.N
    = OutMath.x1 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 6 _ (by decide +kernel) fun t _ y => ?_
  blk_simp
  rw [after0_6]
  frame_out
  refine Eq.trans ?_ (congrArg (OutMath.x1 (m ((c : Thread nD τ).loc main_arg0)) (m ((c : Thread nD τ).loc main_arg1))
      (m ((c : Thread nD τ).loc main_arg2)) (m ((c : Thread nD τ).loc main_arg3))
      (m ((c : Thread nD τ).loc main_arg4))) (em6 t (y 0) (y 1)).symm |>.trans ?_)
  · idx_vars y
    exact point4 m c t y0 y1
  · idx_vars y

/-- The codes the kernel writes. -/
theorem finalB (c : Dev nD) : (dats m 0 c).arrAt 7 cfg0.N
    = OutMath.codes (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 7 _ (by decide +kernel) fun t _ y => ?_
  blk_simp
  rw [after0_7]
  frame_out
  refine Eq.trans ?_ (congrArg (OutMath.codes (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))) (em7 t (y 0) (y 1)).symm |>.trans ?_)
  · idx_vars y
    exact codesAt m c t y0 y1
  · idx_vars y

/-- The scales the kernel writes. -/
theorem finalC (c : Dev nD) : (dats m 0 c).arrAt 8 cfg0.N
    = OutMath.scaleRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t _ y => ?_
  blk_simp
  rw [after0_8]
  frame_out
  refine Eq.trans ?_ (congrArg (OutMath.scaleRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))) (em8 t (y 2)).symm |>.trans ?_)
  · idx_vars y
    obtain rfl : y0 = 0 := Subsingleton.elim _ _
    obtain rfl : y1 = 0 := Subsingleton.elim _ _
    exact scalesAt m c t y2
  · idx_vars y
    obtain rfl : y0 = 0 := Subsingleton.elim _ _
    obtain rfl : y1 = 0 := Subsingleton.elim _ _
    rfl

end Cert.OutIdeal.Value

end
-- ==== Proof.OutReference.lean ====
/- The output projection's reference: its three arrays. -/
module

public import proofs.«01_k».proof.Proof.Gen.OutRefIdeal.Frame
public import proofs.«01_k».proof.Proof.OutMath

@[expose] public section

set_option maxRecDepth 16384

noncomputable section

open Idealize.ShloMosaic Idealize.ShloMosaic.TcCoe Idealize.SL.Sem
open Idealize.ShloMosaic.Pipeline (Dat)

namespace Cert.OutRefIdeal.Value
open Cert.OutRefIdeal Cert.OutRefIdeal.Gen
variable (m : (ℓ : Loc nD τ sig) → Buf (Elt Ideal) ℓ) (ρ : Dev nD → PrngReg)

/-- The sum of each row. -/
theorem rowSum (x : FVec Ideal S7680x4096 .f32) (r : Fin 7680) :
    multiReduction .add [1] S7680 x 0x00000000#32 reduces_S7680x4096_S7680 (.inl rfl) rfl (ix1 r)
    = ∑ d : Fin 4096, x (ix2 r d) := by
  refine (Ideal.multiReduction_add_single x _ _ _ _ _).trans ?_
  refine Finset.sum_congr rfl fun d _ => ?_
  show x _ = x _
  congr 1
  idx_ext

/-- The largest entry of each row. -/
theorem rowMax (x : FVec Ideal S7680x4096 .f32) (r : Fin 7680) :
    multiReduction .maximumf [1] S7680 x 0xFF800000#32 reduces_S7680x4096_S7680 (.inl rfl) rfl (ix1 r)
    = Finset.univ.fold max (Ideal.ofBits FTy.f32 4286578688#32) (fun d => x (ix2 r d)) := by
  refine (Ideal.multiReduction_maximumf_single x _ _ _ _ _).trans ?_
  have : x ∘ (reduces_S7680x4096_S7680 : S7680x4096.Reduces [1] S7680).lift (ix1 r) = fun d => x (ix2 r d) := by
    funext d
    show x _ = x _
    congr 1
    idx_ext
  rw [this]
  rfl

/-- A row over the root of its mean square, times a weight, from the row's sum of squares. -/
theorem normOf (x : FVec Ideal S7680x4096 .f32) (a : FVec Ideal S7680 .f32) (w : FVec Ideal S1x4096 .f32) (r : Fin 7680)
    (d : Fin 4096) :
    mulf (divf x (broadcastTo S7680x4096 (sqrt (addf (divf (shapeCast S7680x1 a shapeCasts_S7680_S7680x1)
        (broadcast S7680x1 (Scalar.ofBits .f32 0x45800000#32))) (broadcast S7680x1 (Scalar.ofBits .f32 0x358637BD#32))))
        broadcasts_S7680x1_S7680x4096))
      (broadcastTo S7680x4096 (shapeCast S1x4096 w shapeCasts_S1x4096_S1x4096) broadcasts_S1x4096_S7680x4096) (ix2 r d)
    = Ideal.div (x (ix2 r d)) (Ideal.sqrt (Ideal.div (a (ix1 r)) (Ideal.ofBits FTy.f32 1166016512#32)
        + Ideal.ofBits FTy.f32 897988541#32)) * w (ix2 0 d) := by
  pointwise []

/-- A vector of 7680 as a column. -/
theorem column (a : FVec Ideal S7680 .f32) (r : Fin 7680) :
    shapeCast S7680x1 a shapeCasts_S7680_S7680x1 (ix2 r 0) = a (ix1 r) := by
  pointwise []

/-- The residual stream, one value at a time. -/
theorem pay3 (v0 v1 v4 v7 v11) (r : Fin 7680) (d : Fin 4096) : k0_pay3 (F := Ideal) v0 v1 v4 v7 v11 (ix2 r d)
    = v4 (ix2 r d) + (∑ k : Fin 4096, v0 (ix2 r k) * v1 (ix2 k d)) * v7 (ix2 r 0) * v11 (ix2 0 d) := by
  pointwise [k0_pay3]

/-- The normed residual stream, one value at a time. -/
theorem pay4 (v0 v1 v4 v7 v11 v26) (r : Fin 7680) (d : Fin 4096) :
    k0_pay4 (F := Ideal) v0 v1 v4 v7 v11 v26 (ix2 r d)
    = OutMath.normAt (fun k => k0_pay3 (F := Ideal) v0 v1 v4 v7 v11 (ix2 r k)) (v26 (ix2 0 d)) d := by
  refine (normOf (k0_pay3 v0 v1 v4 v7 v11) _ v26 r d).trans ?_
  rw [rowSum]
  rfl

/-- The scales as a column, from the largest magnitudes as a column. -/
theorem scale1 (v : FVec Ideal S7680x1 .f32) (r : Fin 7680) :
    select (cmpf .oeq v (broadcast S7680x1 (Scalar.ofBits .f32 0x00000000#32)))
      (broadcast S7680x1 (Scalar.ofBits .f32 0x3F800000#32))
      (divf v (broadcast S7680x1 (Scalar.ofBits .f32 0x43E00000#32))) (ix2 r 0)
    = OutMath.scaleOf (v (ix2 r 0)) := by
  pointwise [OutMath.scaleOf]

/-- The largest magnitude of each row, as a column. -/
theorem maxCol (x : FVec Ideal S7680x4096 .f32) (r : Fin 7680) :
    shapeCast S7680x1 (multiReduction .maximumf [1] S7680 (absf x) 0xFF800000#32 reduces_S7680x4096_S7680 (.inl rfl) rfl)
      shapeCasts_S7680_S7680x1 (ix2 r 0) = OutMath.amax (fun d => x (ix2 r d)) := by
  refine (column _ r).trans ?_
  rw [rowMax]
  rfl

/-- The scales, one at a time. -/
theorem pay5 (v0 v1 v4 v7 v11 v26) (r : Fin 7680) : k0_pay5 (F := Ideal) v0 v1 v4 v7 v11 v26 (ix2 r 0)
    = OutMath.scaleOf (OutMath.amax (fun d => k0_pay4 (F := Ideal) v0 v1 v4 v7 v11 v26 (ix2 r d))) :=
  (scale1 _ r).trans (congrArg OutMath.scaleOf (maxCol _ r))

/-- The codes, one at a time. -/
theorem pay1 (x : FVec Ideal S7680x4096 .f32) (s : FVec Ideal S7680x1 .f32) (r : Fin 7680) (d : Fin 4096) :
    k0_pay1 x s (ix2 r d) = OutMath.codeOf (x (ix2 r d)) (s (ix2 r 0)) := by
  pointwise [k0_pay1, OutMath.codeOf]

/-- The scales in rows of 256. -/
theorem pay2 (s : FVec Ideal S7680x1 .f32) (b : Fin 30) (r : Fin 256) :
    k0_pay2 s (ix3 b 0 r) = s (ix2 ⟨b.val * 256 + r.val, by omega⟩ 0) := by
  pointwise [k0_pay2]

theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0, 0] :=
  (by decide +kernel : ∀ t : Fin grid0.N, _)

variable (c : Dev nD)

theorem rd0 (r : Fin 7680) (k : Fin 4096) : iblk m c 0 t0_0 (ix2 r k)
    = m ((c : Thread nD τ).loc main_arg0) (ix2 r k) := by
  blk_ext! [iblk, V, idx t0_0]

theorem rd1 (r : Fin 7680) : iblk m c 1 t0_0 (ix2 r 0)
    = m ((c : Thread nD τ).loc main_arg1) (ix2 ⟨r.val / 1280, by omega⟩ ⟨r.val % 1280, by omega⟩) := by
  blk_ext! [iblk, V, idx t0_0]

theorem rd2 (k d : Fin 4096) : iblk m c 2 t0_0 (ix2 k d)
    = m ((c : Thread nD τ).loc main_arg2) (ix3 ⟨k.val / 512, by omega⟩ ⟨k.val % 512, by omega⟩ d) := by
  blk_ext! [iblk, V, idx t0_0]

theorem rd3 (d : Fin 4096) : iblk m c 3 t0_0 (ix2 0 d) = m ((c : Thread nD τ).loc main_arg3) (ix1 d) := by
  blk_ext! [iblk, V, idx t0_0]

theorem rd4 (r : Fin 7680) (d : Fin 4096) : iblk m c 4 t0_0 (ix2 r d)
    = m ((c : Thread nD τ).loc main_arg4) (ix3 ⟨r.val / 1280, by omega⟩ ⟨r.val % 1280, by omega⟩ d) := by
  blk_ext! [iblk, V, idx t0_0]

theorem rd5 (d : Fin 4096) : iblk m c 5 t0_0 (ix2 0 d) = m ((c : Thread nD τ).loc main_arg5) (ix1 d) := by
  blk_ext! [iblk, V, idx t0_0]

/-- The reference's residual stream, -/
theorem point3 (r : Fin 7680) (d : Fin 4096) :
    k0_pay3 (iblk m c 0 t0_0) (iblk m c 2 t0_0) (iblk m c 4 t0_0) (iblk m c 1 t0_0) (iblk m c 3 t0_0) (ix2 r d)
    = OutMath.x1At (m ((c : Thread nD τ).loc main_arg0)) (m ((c : Thread nD τ).loc main_arg1))
      (m ((c : Thread nD τ).loc main_arg2)) (m ((c : Thread nD τ).loc main_arg3))
      (m ((c : Thread nD τ).loc main_arg4)) r d := by
  refine (pay3 _ _ _ _ _ r d).trans ?_
  simp only [rd0, rd1, rd2, rd3, rd4]
  rfl

/-- its normed stream, -/
theorem point4 (r : Fin 7680) (d : Fin 4096) :
    k0_pay4 (iblk m c 0 t0_0) (iblk m c 2 t0_0) (iblk m c 4 t0_0) (iblk m c 1 t0_0) (iblk m c 3 t0_0) (iblk m c 5 t0_0)
      (ix2 r d)
    = OutMath.xnAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) r d := by
  refine (pay4 _ _ _ _ _ _ r d).trans ?_
  simp only [point3 m c, rd5]
  rfl

/-- and its scales. -/
theorem point5 (r : Fin 7680) :
    k0_pay5 (iblk m c 0 t0_0) (iblk m c 2 t0_0) (iblk m c 4 t0_0) (iblk m c 1 t0_0) (iblk m c 3 t0_0) (iblk m c 5 t0_0)
      (ix2 r 0)
    = OutMath.scaleAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) r := by
  refine (pay5 _ _ _ _ _ _ r).trans ?_
  simp only [point4 m c]
  rfl

/-- The scales, as the reference's later steps name them. -/
theorem point6 (r : Fin 7680) :
    k0_pay6 (iblk m c 0 t0_0) (iblk m c 1 t0_0) (iblk m c 2 t0_0) (iblk m c 3 t0_0) (iblk m c 4 t0_0) (iblk m c 5 t0_0)
      (ix2 r 0)
    = OutMath.scaleAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) r := by
  refine Eq.trans ?_ (point5 m c r)
  unfold k0_pay6
  frame_out

/-- The residual stream the reference writes. -/
theorem finalA (c : Dev nD) : (dats m 0 c).arrAt 6 cfg0.N
    = OutMath.x1 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_after_last 6 t0_0 (by decide +kernel) _ fun j => ?_
  blk_simp
  rw [after0_6]
  frame_out
  idx_vars j
  exact point3 m c _ _

/-- The codes the reference writes. -/
theorem finalB (c : Dev nD) : (dats m 0 c).arrAt 7 cfg0.N
    = OutMath.codes (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_after_last 7 t0_0 (by decide +kernel) _ fun j => ?_
  blk_simp
  rw [after0_7]
  frame_out
  idx_vars j
  refine (pay1 _ _ _ _).trans ?_
  rw [point4, point6]
  rfl

/-- The scales the reference writes. -/
theorem finalC (c : Dev nD) : (dats m 0 c).arrAt 8 cfg0.N
    = OutMath.scaleRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_after_last 8 t0_0 (by decide +kernel) _ fun j => ?_
  blk_simp
  rw [after0_8]
  frame_out
  idx_vars j
  obtain rfl : j1 = 0 := Subsingleton.elim _ _
  refine (pay2 _ _ _).trans ?_
  rw [point6]
  rfl

/-- The run leaves argument 0 as it was. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The run leaves argument 1 as it was. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as it was. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves argument 3 as it was. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument 4 as it was. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run leaves argument 5 as it was. -/
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with each output array named and the arguments unchanged. -/
theorem run_blocks : θ_run defs (onTc (τ := τ) (main (F := Ideal))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, kept0 m r h c, kept1 m r h c, kept2 m r h c, kept3 m r h c, kept4 m r h c, kept5 m r h c⟩)
    (run_main m ρ)

end Cert.OutRefIdeal.Value

end
-- ==== Proof.Out.lean ====
/- The output projection: the kernel's arrays and the reference's arrays are the same three functions of the arguments
   (`OutMath.x1`, `OutMath.codes` and `OutMath.scaleRow`). -/
module

public import proofs.«01_k».proof.Proof.OutKernel
public import proofs.«01_k».proof.Proof.OutReference
-- ==== Proof.DownBody.lean ====
/-
  Down's kernel body, run once per case of the reduction step: the first step of a column of token blocks (start the
  copy of the residual rows, clear the accumulator, add the first product), a middle step (add one product), and the
  last, partial step (add the product over the 704 remaining rows, wait for the copy, form the output block). Each
  theorem states exactly what every buffer holds afterwards.
-/
module

public import proofs.«01_k».proof.Proof.Gen.Down.Launch
public import proofs.«01_k».proof.Proof.Gen.Down.Skeleton
public import proofs.«01_k».proof.Proof.Gen.Down.Points
public import proofs.«01_k».proof.Proof.Gen.Down.Frame
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Pipeline.ReadBack
public import Idealize.ShloMosaic.Lib.Pipeline.ValueKit.Acc

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The logic of this program's proofs: the pipeline's resources beside the transfers' counters. -/
local notation "𝕄" => MT nD τ sig Unit (Elt F) ℕ (Pipeline.UD sig nD τ) ℕ

/-- The transfers' counters within the proof's resources. -/
abbrev EC : UEmb Counters 𝕄 := countersEmb (U := Pipeline.UD sig nD τ)

/-- The residual array, left in HBM; the accumulator; the buffer its rows are copied into. -/
abbrev xM : Memref sig .tc .hbm S7680x4096 .f32 := Memref.whole main_arg4
abbrev accM : Memref sig .tc .vmem S640x4096 .f32 := Memref.whole cc0_scratch0
abbrev bufM : Memref sig .tc .vmem S640x4096 .f32 := Memref.whole cc0_scratch1

/-- The residual rows of the token block at coordinates `i`. -/
abbrev xRows (i : grid0.Coords) (h : k0_cond1 i = 1#1) : Memref sig .tc .hbm S640x4096 .f32 :=
  xM.slice (Rect.unit (s := S7680x4096) (k0_off1 i) S640x4096.size (k0_off1_inb i h)) (fun _ => rfl)

/-- A buffer read after a store of the whole buffer holds the stored block. -/
theorem read_whole {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) (h : ∀ a, off a = 0) :
    v.read (Elt F) (v.writes (Elt F) f (⟨Rect.unit off s.size inb, w⟩ :: L)) = w := by
  rw [View.read_writes_eq_canon]
  · exact View.canon_cons_unit_lit' inb w L h
  · intro y
    refine ⟨⟨Rect.unit off s.size inb, w⟩, List.mem_cons_self, ?_⟩
    exact (Rect.mem_set_unit (inb := inb)).mpr fun a => ⟨(h a).symm ▸ Nat.zero_le _, by rw [h a, Nat.zero_add]; exact (y a).isLt⟩

/-- The first 704 rows of a block of codes: those the last, partial step reads and writes. -/
abbrev tailRect : Rect S1x1024x640 := Rect.unit (s := S1x1024x640) ![0, 0, 0] S1x704x640.size inb_S1x1024x640_S1x704x640_0_0_0
/-- The first 704 rows of a block of weights. -/
abbrev tailRectW : Rect S1024x4096 := Rect.unit (s := S1024x4096) ![0, 0] S704x4096.size inb_S1024x4096_S704x4096_0_0

/-- The copy of the residual rows of a token block, under way: when it is done it hands back the copy buffer, holding
    those rows, and the rows themselves. -/
abbrev inFlight (c : Dev nD) (i : grid0.Coords) (h : k0_cond1 i = 1#1) (fx : Buf (Elt F) (xM.view.loc (c : Thread nD τ))) : sProp 𝕄 :=
  iprop(∃ fd : Buf (Elt F) (bufM.view.loc (c : Thread nD τ)), ⌜bufM.view.read (Elt F) fd = (xRows i h).view.read (Elt F) fx⌝
    ∗ Transfers.Flight EC (c : Thread nD τ) (SemLoc.dma 11) () 327680
        iprop((bufM.view.loc (c : Thread nD τ) ↦{fullShare} fd) ∗ ((xRows i h).view.loc (c : Thread nD τ) ↦[(xRows i h).view.set]{fullShare} fx)))

/-- A middle step: the output codes' block, and the accumulator with one more product added. -/
theorem run_mid (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole)
    (hc1 : ¬k0_cond1 i = 1#1) (hc2 : k0_cond2 i = 1#1) (hc3 : ¬k0_cond3 i = 1#1)
    (x0 : Vec F S1x1024x640 .f32) (x1 : Vec F S1x1x640 .f32) (x2 : Vec F S1024x4096 .fp8e4m3) (a : Vec F S640x4096 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d) ∗ owns (c : Thread nD τ) accM fullShare a
        ∗ (iprop(owns (c : Thread nD τ) arg3 fullShare x0 ∗ owns (c : Thread nD τ) arg4 fullShare x1 ∗ owns (c : Thread nD τ) arg5 fullShare x2
            ∗ owns (c : Thread nD τ) arg8 fullShare (k0_pay3 x0 x1) ∗ owns (c : Thread nD τ) accM fullShare (k0_pay4 x0 x1 a x2)) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  have hA : (accM).IsWhole := Memref.isWhole_whole _
  rw [cc0_down_eq_skeleton]; unfold cc0_down_skel
  unfold owns
  iintro ⟨⟨%f0, %hf0, H0⟩, ⟨%f1, %hf1, H1⟩, ⟨%f2, %hf2, H2⟩, ⟨%d4, %f4, -, H4⟩, ⟨%fa, %hfa, HA⟩, Hk⟩
  obtain rfl := harg3.eq_unread hf0; obtain rfl := harg4.eq_unread hf1; obtain rfl := harg5.eq_unread hf2; obtain rfl := hA.eq_unread hfa
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; swap; · iexact H4
    ipureintro
    refine (read_whole _ _ _ _ _ (by decide)).trans ?_
    simp (disch := decide) only [View.readAt_eq_ld, Memref.IsWhole.read_unread, View.ld_unit_lit', View.readCov_unit_lit', read_unread_whole, hf0, hf1, hf2]
  iexists _; isplitr; swap; · iexact HA
  ipureintro
  refine (read_whole _ _ _ _ _ (by decide)).trans ?_
  simp (disch := decide) only [View.readAt_eq_ld, Memref.IsWhole.read_unread, View.ld_unit_lit', View.readCov_unit_lit', read_unread_whole, hf0, hf1, hf2]

/-- The first step of a token block: the copy of its residual rows is started, the accumulator is cleared, and the
    codes' block and the first product are formed. -/
theorem run_first (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole)
    (hc1 : k0_cond1 i = 1#1) (hc2 : k0_cond2 i = 1#1) (hc3 : ¬k0_cond3 i = 1#1)
    (x0 : Vec F S1x1024x640 .f32) (x1 : Vec F S1x1x640 .f32) (x2 : Vec F S1024x4096 .fp8e4m3) (fx : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d) ∗ (∃ d, owns (c : Thread nD τ) accM fullShare d)
        ∗ (∃ f : Buf (Elt F) (bufM.view.loc (c : Thread nD τ)), bufM.view.loc (c : Thread nD τ) ↦{fullShare} f) ∗ semVal ((c : Thread nD τ), SemLoc.dma 11) 0
        ∗ (xM.view.loc (c : Thread nD τ) ↦{fullShare} fx) ∗ owes (c : Thread nD τ) 0 W
        ∗ (iprop(owns (c : Thread nD τ) arg3 fullShare x0 ∗ owns (c : Thread nD τ) arg4 fullShare x1 ∗ owns (c : Thread nD τ) arg5 fullShare x2
            ∗ owns (c : Thread nD τ) arg8 fullShare (k0_pay3 x0 x1) ∗ owns (c : Thread nD τ) accM fullShare (k0_pay4 x0 x1 (k0_pay1 (F := F)) x2)
            ∗ inFlight c i hc1 fx ∗ (xM.view.loc (c : Thread nD τ) ↦[Finset.univ \ (xRows i hc1).view.set]{fullShare} fx)
            ∗ (∃ W', owes (c : Thread nD τ) 0 W')) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  rw [cc0_down_eq_skeleton]; unfold cc0_down_skel
  unfold owns
  iintro ⟨⟨%f0, %hf0, H0⟩, ⟨%f1, %hf1, H1⟩, ⟨%f2, %hf2, H2⟩, ⟨%d4, %f4, -, H4⟩, ⟨%da, %fa, -, HA⟩, ⟨%fb, HB⟩, HS, HX, HW, Hk⟩
  obtain rfl := harg3.eq_unread hf0; obtain rfl := harg4.eq_unread hf1; obtain rfl := harg5.eq_unread hf2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; swap; · iexact H4
    ipureintro
    refine (read_whole _ _ _ _ _ (by decide)).trans ?_
    simp (disch := decide) only [View.readAt_eq_ld, Memref.IsWhole.read_unread, View.ld_unit_lit', View.readCov_unit_lit', read_unread_whole, hf0, hf1, hf2]
  isplitl [HA]
  · iexists _; isplitr; swap; · iexact HA
    ipureintro
    refine (read_whole _ _ _ _ _ (by decide)).trans ?_
    unfold run_first.sl.v23 run_first.sl.HA_1
    simp (disch := decide) only [View.readAt_eq_ld, Memref.IsWhole.read_unread, View.ld_unit_lit', View.readCov_unit_lit', read_unread_whole, hf0, hf1, hf2]
  isplitl [HS]
  · iexists _; isplitr; swap; · iexact HS
    ipureintro
    unfold run_first.sl.dma0
    exact View.read_write_univ _ _
  isplitl [HX]; · iexact HX
  iexists _; iexact HW

/-- The last, partial step: the codes of the 704 remaining rows, the accumulator with their product added, and, the
    copy waited for, the output block. -/
theorem run_last (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole) (i₀ : grid0.Coords) (h₀ : k0_cond1 i₀ = 1#1)
    (hc1 : ¬k0_cond1 i = 1#1) (hc2 : ¬k0_cond2 i = 1#1) (hc3 : k0_cond3 i = 1#1)
    (x0 : Vec F S1x1024x640 .f32) (x1 : Vec F S1x1x640 .f32) (x2 : Vec F S1024x4096 .fp8e4m3) (x3 : Vec F S1x4096 .f32) (a : Vec F S640x4096 .f32) (fx : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg7 fullShare x3
        ∗ (∃ d, owns (c : Thread nD τ) arg8 fullShare d) ∗ (∃ d, owns (c : Thread nD τ) arg9 fullShare d) ∗ owns (c : Thread nD τ) accM fullShare a
        ∗ inFlight c i₀ h₀ fx ∗ (xM.view.loc (c : Thread nD τ) ↦[Finset.univ \ (xRows i₀ h₀).view.set]{fullShare} fx) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg7 fullShare x3
            ∗ (∃ d, owns (c : Thread nD τ) arg8 fullShare (VecWindow.put d ![0, 0, 0] S1x704x640.size (k0_pay7 (View.ld x0 tailRect) x1)))
            ∗ owns (c : Thread nD τ) arg9 fullShare (k0_pay5 (k0_pay9 x1) ((xRows i₀ h₀).view.read (Elt F) fx) (k0_pay8 (View.ld x0 tailRect) x1 a (View.ld x2 tailRectW)) x3)
            ∗ (∃ d, owns (c : Thread nD τ) accM fullShare d)
            ∗ (∃ f : Buf (Elt F) (bufM.view.loc (c : Thread nD τ)), bufM.view.loc (c : Thread nD τ) ↦{fullShare} f) ∗ semVal ((c : Thread nD τ), SemLoc.dma 11) 0
            ∗ (xM.view.loc (c : Thread nD τ) ↦{fullShare} fx) ∗ (∃ W', owes (c : Thread nD τ) 0 W')) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  have hA : (accM).IsWhole := Memref.isWhole_whole _
  rw [cc0_down_eq_skeleton]; unfold cc0_down_skel
  rw [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fa, %hfa, HA⟩, ⟨%fd, %hfd, HF⟩, HX, HW, Hk⟩
  obtain rfl := harg3.eq_unread hf0; obtain rfl := harg4.eq_unread hf1; obtain rfl := harg5.eq_unread hf2; obtain rfl := harg7.eq_unread hf3; obtain rfl := hA.eq_unread hfa
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg7.read_unread _
    iexact H3
  isplitl [H4]
  · iexists (arg8.view.read (Elt F) f4); iexists _; isplitr; swap; · iexact H4
    ipureintro
    refine (View.read_writes_cons_put _ _ _ _ _ rfl).trans ?_
    rw [View.writes_nil]
    simp (disch := decide) only [View.readAt_eq_ld, Memref.IsWhole.read_unread, View.ld_unit_lit', View.readCov_unit_lit', read_unread_whole, hf0, hf1, hf2, hf3, hfa]
  isplitl [H5]
  · iexists _; isplitr; swap; · iexact H5
    ipureintro
    refine (read_whole _ _ _ _ _ (by decide)).trans ?_
    unfold run_last.sl.r run_last.sl.v41
    have e2 : accM.view.readCov (run_last.sl.HA_1 c arg3 harg3 arg4 harg4 arg5 harg5 x0 x1 x2 a hA) (Rect.unit ![0, 0] S640x4096.size inb_S640x4096_S640x4096_0_0).toLoadRect
        = k0_pay8 (View.ld x0 tailRect) x1 a (View.ld x2 tailRectW) := by
      unfold run_last.sl.HA_1
      rw [View.readCov_unit_lit' _ _ _ (by decide)]
      simp (disch := decide) only [View.readAt_eq_ld, Memref.IsWhole.read_unread, View.ld_unit_lit', View.readCov_unit_lit', read_unread_whole, hf0, hf1, hf2, hf3, hfa]
    simp (disch := decide) only [View.readAt_eq_ld, Memref.IsWhole.read_unread, View.ld_unit_lit', View.readCov_unit_lit', read_unread_whole, hf0, hf1, hf2, hf3, hfa]
    exact congrArg₂ (fun u v => k0_pay5 (k0_pay9 x1) u v x3) hfd e2
  isplitl [HA]
  · iexists _; iexists _; isplitr; swap; · iexact HA
    ipureintro; rfl
  isplitl [HF_dst]
  · iexists _; iexact HF_dst
  isplitl [HF]; · iexact HF
  isplitl [HX]; · iexact HX
  iexists _; iexact HW

end Cert.Down.Hand

end
-- ==== Proof.DownFrame.lean ====
/-
  Down's frame: the program terminates without a fault, its arguments end unchanged, every counter ends at zero; and, for
  the values, what the two result arrays hold (`run_main`). Between two steps of a token block the accumulator holds
  exactly the partial sum of the products so far (`accAfter`), and the copy of the block's residual rows is under way.
-/
module

public import proofs.«01_k».proof.Proof.DownBody

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The schedule -/

/-- The first step of a token block is the first of its eleven. -/
theorem hcond1 : ∀ t : Fin grid0.N, k0_cond1 (grid0.coords t) = 1#1 ↔ t.val % 11 = 0 := by decide +kernel
/-- All but the last of the eleven steps are whole. -/
theorem hcond2 : ∀ t : Fin grid0.N, k0_cond2 (grid0.coords t) = 1#1 ↔ t.val % 11 ≠ 10 := by decide +kernel
/-- The last of the eleven is the partial one. -/
theorem hcond3 : ∀ t : Fin grid0.N, k0_cond3 (grid0.coords t) = 1#1 ↔ t.val % 11 = 10 := by decide +kernel
theorem idle_4 : ∀ t : Fin grid0.N, cfg0.idle 4 (grid0.coords t) = false := by decide +kernel
theorem idle_5 : ∀ t : Fin grid0.N, t.val % 11 = 10 → cfg0.idle 5 (grid0.coords t) = false := by decide +kernel
theorem idle_5' : ∀ t : Fin grid0.N, t.val % 11 ≠ 10 → cfg0.idle 5 (grid0.coords t) = true := by decide +kernel
theorem flush_5 (t : Fin cfg0.N) (h : t.val % 11 ≠ 10) : (cfg0.win 5).flush t = false :=
  Bool.eq_false_iff.mpr fun e => h ((flush0_5 t).mp e)

/-- A whole step's block of hidden values lies inside the array, -/
theorem xsize_0 : ∀ t : Fin grid0.N, t.val % 11 ≠ 10 → ∀ a, win0_0.xsize (grid0.coords t) a = win0_0.size a := by decide +kernel
theorem xsize_2 : ∀ t : Fin grid0.N, t.val % 11 ≠ 10 → ∀ a, win0_2.xsize (grid0.coords t) a = win0_2.size a := by decide +kernel
theorem xsize_4 : ∀ t : Fin grid0.N, t.val % 11 ≠ 10 → ∀ a, win0_4.xsize (grid0.coords t) a = win0_4.size a := by decide +kernel
/-- and of the partial step's the first 704 rows do. -/
theorem xsize_0' : ∀ t : Fin grid0.N, t.val % 11 = 10 → ∀ a, win0_0.xsize (grid0.coords t) a = ![1, 704, 640] a := by decide +kernel
theorem xsize_2' : ∀ t : Fin grid0.N, t.val % 11 = 10 → ∀ a, win0_2.xsize (grid0.coords t) a = ![704, 4096] a := by decide +kernel
theorem xsize_4' : ∀ t : Fin grid0.N, t.val % 11 = 10 → ∀ a, win0_4.xsize (grid0.coords t) a = ![1, 704, 640] a := by decide +kernel

/-- The first of the eleven steps of the token block that step `n` belongs to. -/
def start (n : ℕ) (h : n < cfg0.N) : Fin cfg0.N := ⟨n - n % 11, by omega⟩
theorem start_mod (n : ℕ) (h : n < cfg0.N) : (start n h).val % 11 = 0 := by dsimp only [start]; omega

/-! ## The blocks -/

/-- The hidden values' block at step `t`, zeros filled in past the array's end. -/
def hidB (c : Dev nD) (t : Fin cfg0.N) : Vec F S1x1024x640 .f32 :=
  win0_0.fill (grid0.coords t) (fun _ => Scalar.ofBits .f32 0#32) (iblk m c 0 t)
/-- The hidden values' scales, -/
def hsB (c : Dev nD) (t : Fin cfg0.N) : Vec F S1x1x640 .f32 := iblk m c 1 t
/-- the weights' block, zeros filled in past the array's end, -/
def wB (c : Dev nD) (t : Fin cfg0.N) : Vec F S1024x4096 .fp8e4m3 :=
  win0_2.fill (grid0.coords t) (fun _ => Scalar.ofBits .fp8e4m3 0#8) (iblk m c 2 t)
/-- and the weights' scales. -/
def sdB (c : Dev nD) (t : Fin cfg0.N) : Vec F S1x4096 .f32 := iblk m c 3 t

/-- One step of the accumulator: the product of the step's codes and weights added, the 704 rows inside the arrays only
    at the partial step. -/
def accStep (c : Dev nD) (t : Fin cfg0.N) (a : Vec F S640x4096 .f32) : Vec F S640x4096 .f32 :=
  if t.val % 11 = 10 then k0_pay8 (View.ld (hidB m c t) tailRect) (hsB m c t) a (View.ld (wB m c t) tailRectW)
  else k0_pay4 (hidB m c t) (hsB m c t) a (wB m c t)
/-- The accumulator after step `n`: cleared at the first step of each token block, one product added at every step. -/
def accAfter (c : Dev nD) : (n : ℕ) → n < cfg0.N → Vec F S640x4096 .f32
  | 0, h => accStep m c ⟨0, h⟩ k0_pay1
  | n + 1, h => accStep m c ⟨n + 1, h⟩ (if (n + 1) % 11 = 0 then k0_pay1 else accAfter c n (Nat.lt_of_succ_lt h))
theorem accAfter_first (c : Dev nD) (t : Fin cfg0.N) (h : t.val % 11 = 0) :
    accAfter m c t.val t.isLt = accStep m c t k0_pay1 := by
  obtain ⟨n, hn⟩ := t
  cases n with
  | zero => rfl
  | succ n => dsimp only at h; rw [accAfter, if_pos h]
theorem accAfter_next (c : Dev nD) (t : Fin cfg0.N) (h : t.val % 11 ≠ 0) :
    accAfter m c t.val t.isLt = accStep m c t (accAfter m c (t.val - 1) (by have := t.isLt; omega)) := by
  obtain ⟨n, hn⟩ := t
  cases n with
  | zero => exact absurd rfl h
  | succ n => dsimp only at h; rw [accAfter, if_neg h]; rfl

/-- The residual rows of the token block that starts at step `s`. -/
def rowsB (c : Dev nD) (s : Fin cfg0.N) (hs : s.val % 11 = 0) : Vec F S640x4096 .f32 :=
  (xRows (grid0.coords s) ((hcond1 s).mpr hs)).view.read (Elt F) (V m c main_arg4)

/-- The codes' block after step `t`: at the partial step its first 704 rows. -/
def codesB (c : Dev nD) (t : Fin cfg0.N) : Vec F S1x1024x640 .fp8e4m3 :=
  if t.val % 11 = 10 then
    VecWindow.put (k0_pay3 (hidB m c t) (hsB m c t)) ![0, 0, 0] S1x704x640.size (k0_pay7 (View.ld (hidB m c t) tailRect) (hsB m c t))
  else k0_pay3 (hidB m c t) (hsB m c t)
/-- The output block, stored by the partial step. -/
def yB (c : Dev nD) (t : Fin cfg0.N) : Vec F S640x4096 .bf16 :=
  k0_pay5 (k0_pay9 (hsB m c t)) (rowsB m c (start t.val t.isLt) (start_mod _ _)) (accAfter m c t.val t.isLt) (sdB m c t)

/-- Whatever fills a block out past the array's end, a whole step's block is the same, -/
theorem fill_0 (t : Fin grid0.N) (h : t.val % 11 ≠ 10) (d d' X) :
    win0_0.fill (α := Elt F .f32) (grid0.coords t) d X = win0_0.fill (grid0.coords t) d' X := by
  funext j; unfold Window.fill; split
  · rfl
  · rename_i hn; exact absurd ((win0_0.moved_iff _ _).mpr fun a => by rw [xsize_0 t h a]; exact (j a).isLt) hn
theorem fill_2 (t : Fin grid0.N) (h : t.val % 11 ≠ 10) (d d' X) :
    win0_2.fill (α := Elt F .fp8e4m3) (grid0.coords t) d X = win0_2.fill (grid0.coords t) d' X := by
  funext j; unfold Window.fill; split
  · rfl
  · rename_i hn; exact absurd ((win0_2.moved_iff _ _).mpr fun a => by rw [xsize_2 t h a]; exact (j a).isLt) hn
/-- and of the partial step's block the first 704 rows are. -/
theorem fill_0' (t : Fin grid0.N) (h : t.val % 11 = 10) (d d' X) :
    View.ld (win0_0.fill (α := Elt F .f32) (grid0.coords t) d X) tailRect = View.ld (win0_0.fill (grid0.coords t) d' X) tailRect := by
  funext j; unfold View.ld Window.fill; dsimp only; split
  · rfl
  · rename_i hn
    refine absurd ((win0_0.moved_iff _ _).mpr fun a => ?_) hn
    rw [xsize_0' t h a]
    have hj := (j a).isLt
    have e : ((tailRect.idx j) a).val = (tailRect.off a) + 1 * (j a).val := rfl
    have e0 : tailRect.off a = 0 := by fin_cases a <;> rfl
    rw [e, e0, Nat.zero_add, Nat.one_mul]
    exact hj
theorem fill_2' (t : Fin grid0.N) (h : t.val % 11 = 10) (d d' X) :
    View.ld (win0_2.fill (α := Elt F .fp8e4m3) (grid0.coords t) d X) tailRectW = View.ld (win0_2.fill (grid0.coords t) d' X) tailRectW := by
  funext j; unfold View.ld Window.fill; dsimp only; split
  · rfl
  · rename_i hn
    refine absurd ((win0_2.moved_iff _ _).mpr fun a => ?_) hn
    rw [xsize_2' t h a]
    have hj := (j a).isLt
    have e : ((tailRectW.idx j) a).val = (tailRectW.off a) + 1 * (j a).val := rfl
    have e0 : tailRectW.off a = 0 := by fin_cases a <;> rfl
    rw [e, e0, Nat.zero_add, Nat.one_mul]
    exact hj
/-- The part of the partial step's codes that is written back does not depend on what the rest of the buffer held. -/
theorem cut_put (t : Fin grid0.N) (h : t.val % 11 = 10) (d d' w) :
    win0_4.cut (α := Elt F .fp8e4m3) (grid0.coords t) (VecWindow.put d ![0, 0, 0] S1x704x640.size w)
      = win0_4.cut (grid0.coords t) (VecWindow.put d' ![0, 0, 0] S1x704x640.size w) := by
  funext j; unfold Window.cut VecWindow.put; dsimp only
  split
  · rfl
  · rename_i hn
    refine absurd (fun a => ?_) hn
    have hj := (j a).isLt
    have := xsize_4' t h a
    have hj := hj.trans_eq this
    have e0 : (![0, 0, 0] : Fin 3 → ℕ) a = 0 := by fin_cases a <;> rfl
    rw [e0, Nat.zero_add]
    exact ⟨Nat.zero_le _, hj⟩

/-! ## The invariant -/

/-- The body's semaphore of its own. -/
abbrev osem0 : Fin 1 → SemLoc sig := fun j => (![SemLoc.dma 11] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
/-- The array left in HBM that the body's copies read. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(xM.view.loc (c : Thread nD τ) ↦{fullShare} V m c main_arg4) := by
  rw [BI.bigSep_eq_bigSepL_of_eq [main_arg4] (by decide) (by decide)]; rfl

/-- Between token blocks: the scratch buffers at anything, the semaphore at zero, the residual array whole. -/
def PhiIdle (c : Dev nD) : sProp 𝕄 :=
  iprop((∃ d, owns (c : Thread nD τ) accM fullShare d)
    ∗ (∃ f : Buf (Elt F) (bufM.view.loc (c : Thread nD τ)), bufM.view.loc (c : Thread nD τ) ↦{fullShare} f)
    ∗ semVal ((c : Thread nD τ), SemLoc.dma 11) 0 ∗ (xM.view.loc (c : Thread nD τ) ↦{fullShare} V m c main_arg4) ∗ (∃ r, prngReg c r))
/-- Within the token block that starts at step `s`: the accumulator at `a`, the copy of the block's rows under way. -/
def PhiFly (c : Dev nD) (s : Fin cfg0.N) (hs : s.val % 11 = 0) (a : Vec F S640x4096 .f32) : sProp 𝕄 :=
  iprop(owns (c : Thread nD τ) accM fullShare a ∗ inFlight c (grid0.coords s) ((hcond1 s).mpr hs) (V m c main_arg4)
    ∗ (xM.view.loc (c : Thread nD τ) ↦[Finset.univ \ (xRows (grid0.coords s) ((hcond1 s).mpr hs)).view.set]{fullShare} V m c main_arg4)
    ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => hidB m c t
    | ⟨1, _⟩ => iblk m c 1 t
    | ⟨2, _⟩ => wB m c t
    | ⟨3, _⟩ => iblk m c 3 t
    | ⟨4, _⟩ => codesB m c t
    | ⟨5, _⟩ => yB m c t
  Φ p := if h : p.val % 11 = 0 then PhiIdle m c
    else PhiFly m c (start (p.val - 1) (by have := p.isLt; omega)) (start_mod _ _) (accAfter m c (p.val - 1) (by have := p.isLt; omega))
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = hidB m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = wB m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = codesB m c t := by dsimp only [dats]
theorem after_5 (c : Dev nD) (t : Fin cfg0.N) : (dats m 0 c).after 5 t = yB m c t := by dsimp only [dats]

theorem before_0 (c : Dev nD) (t : Fin cfg0.N) (d) : (dats m 0 c).before 0 t d = win0_0.fill (grid0.coords t) d (iblk m c 0 t) := by
  unfold Dat.before; rw [if_pos (fetch0_0 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_1 (c : Dev nD) (t : Fin cfg0.N) (d) : (dats m 0 c).before 1 t d = hsB m c t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf hsB iblk; rw [A_eq]; try rfl)
theorem before_3 (c : Dev nD) (t : Fin cfg0.N) (d) : (dats m 0 c).before 3 t d = sdB m c t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf sdB iblk; rw [A_eq]; try rfl)

theorem Phi_first (c : Dev nD) (t : Fin cfg0.N) (h : t.val % 11 = 0) : (dats m 0 c).Φ t.castSucc = PhiIdle m c := by
  dsimp only [dats]; rw [dif_pos (show (t.castSucc).val % 11 = 0 from h)]
theorem Phi_end (c : Dev nD) (t : Fin cfg0.N) (h : t.val % 11 = 10) : (dats m 0 c).Φ t.succ = PhiIdle m c := by
  dsimp only [dats]; rw [dif_pos (show (t.succ).val % 11 = 0 by rw [Fin.val_succ]; omega)]
theorem Phi_succ (c : Dev nD) (t : Fin cfg0.N) (h : t.val % 11 ≠ 10) :
    (dats m 0 c).Φ t.succ = PhiFly m c (start t.val t.isLt) (start_mod _ _) (accAfter m c t.val t.isLt) := by
  dsimp only [dats]; rw [dif_neg (show ¬(t.succ).val % 11 = 0 by rw [Fin.val_succ]; omega)]; rfl
theorem PhiFly_start (c : Dev nD) {s s' : Fin cfg0.N} (e : s = s') (hs : s.val % 11 = 0) (hs' : s'.val % 11 = 0) (a) :
    PhiFly m c s hs a = PhiFly m c s' hs' a := by subst e; rfl
theorem start_pred (t : Fin cfg0.N) (h : t.val % 11 ≠ 0) (h' : t.val - 1 < cfg0.N) : start (t.val - 1) h' = start t.val t.isLt :=
  Fin.ext (by dsimp only [start]; omega)
theorem Phi_cast (c : Dev nD) (t : Fin cfg0.N) (h : t.val % 11 ≠ 0) :
    (dats m 0 c).Φ t.castSucc = PhiFly m c (start t.val t.isLt) (start_mod _ _) (accAfter m c (t.val - 1) (by have := t.isLt; omega)) := by
  dsimp only [dats]; rw [dif_neg (show ¬(t.castSucc).val % 11 = 0 from h)]
  exact PhiFly_start m c (start_pred t h _) _ _ _

/-! ## The body obligation -/

theorem defs₀_row (t : Fin cfg0.N) :
    defs₀ (F := F) .tc cfg0.body (cfg0.bodyArgs t (cfg0.slots t)) = bodyAt0 t := by
  unfold defs₀; rw [Defs.onTc_tc]

theorem step_first (c : Dev nD) (t : Fin cfg0.N) (h : t.val % 11 = 0) (d0 d2) :
    k0_pay4 (win0_0.fill (grid0.coords t) d0 (iblk m c 0 t)) (hsB m c t) (k0_pay1 (F := F)) (win0_2.fill (grid0.coords t) d2 (iblk m c 2 t))
      = accAfter m c t.val t.isLt := by
  rw [accAfter_first m c t h]; unfold accStep; rw [if_neg (by omega)]
  unfold hidB wB
  rw [fill_0 t (by omega) d0, fill_2 t (by omega) d2]
theorem step_mid (c : Dev nD) (t : Fin cfg0.N) (h : t.val % 11 ≠ 0) (h' : t.val % 11 ≠ 10) (d0 d2) :
    k0_pay4 (win0_0.fill (grid0.coords t) d0 (iblk m c 0 t)) (hsB m c t) (accAfter m c (t.val - 1) (by have := t.isLt; omega)) (win0_2.fill (grid0.coords t) d2 (iblk m c 2 t))
      = accAfter m c t.val t.isLt := by
  rw [accAfter_next m c t h]; unfold accStep; rw [if_neg h']
  unfold hidB wB
  rw [fill_0 t h' d0, fill_2 t h' d2]
theorem step_last (c : Dev nD) (t : Fin cfg0.N) (h : t.val % 11 = 10) (d0 d2) :
    k0_pay8 (View.ld (win0_0.fill (grid0.coords t) d0 (iblk m c 0 t)) tailRect) (hsB m c t) (accAfter m c (t.val - 1) (by have := t.isLt; omega)) (View.ld (win0_2.fill (grid0.coords t) d2 (iblk m c 2 t)) tailRectW)
      = accAfter m c t.val t.isLt := by
  rw [accAfter_next m c t (by omega)]; unfold accStep; rw [if_pos h]
  unfold hidB wB
  rw [fill_0' t h d0, fill_2' t h d2]
theorem y_last (c : Dev nD) (t : Fin cfg0.N) (h : t.val % 11 = 10) (d0 d2) :
    yB m c t = k0_pay5 (k0_pay9 (hsB m c t)) ((xRows (grid0.coords (start t.val t.isLt)) ((hcond1 _).mpr (start_mod _ _))).view.read (Elt F) (V m c main_arg4))
      (k0_pay8 (View.ld (win0_0.fill (grid0.coords t) d0 (iblk m c 0 t)) tailRect) (hsB m c t) (accAfter m c (t.val - 1) (by have := t.isLt; omega)) (View.ld (win0_2.fill (grid0.coords t) d2 (iblk m c 2 t)) tailRectW))
      (sdB m c t) :=
  congrArg (fun a => k0_pay5 (k0_pay9 (hsB m c t)) (rowsB m c (start t.val t.isLt) (start_mod _ _)) a (sdB m c t)) (step_last m c t h d0 d2).symm
theorem codes_whole (c : Dev nD) (t : Fin cfg0.N) (h : t.val % 11 ≠ 10) (d0) :
    k0_pay3 (win0_0.fill (grid0.coords t) d0 (iblk m c 0 t)) (hsB m c t) = codesB m c t := by
  unfold codesB; rw [if_neg h]; unfold hidB; rw [fill_0 t h d0]
theorem codes_last (c : Dev nD) (t : Fin cfg0.N) (h : t.val % 11 = 10) (d0 d) :
    win0_4.cut (grid0.coords t) (VecWindow.put d ![0, 0, 0] S1x704x640.size (k0_pay7 (View.ld (win0_0.fill (grid0.coords t) d0 (iblk m c 0 t)) tailRect) (hsB m c t)))
      = win0_4.cut (grid0.coords t) (codesB m c t) := by
  unfold codesB; rw [if_pos h]; unfold hidB; rw [fill_0' t h d0]; exact cut_put t h _ _ _

/-- What the body is handed at step `t`, and what it hands back, with the two clipped inputs described on the part inside
    the arrays. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) (P : sProp 𝕄) : sProp 𝕄 :=
  iprop((dats m 0 c).Φ t.succ ∗ (dats m 0 c).owesAt () t.succ
    ∗ (∃ d, owns (c : Thread nD τ) (win0_0.stage (cfg0.slots t 0)) fullShare (win0_0.fill (grid0.coords t) d (win0_0.cut (grid0.coords t) (hidB m c t))))
    ∗ owns (c : Thread nD τ) (win0_1.stage (cfg0.slots t 1)) fullShare (iblk m c 1 t)
    ∗ (∃ d, owns (c : Thread nD τ) (win0_2.stage (cfg0.slots t 2)) fullShare (win0_2.fill (grid0.coords t) d (win0_2.cut (grid0.coords t) (wB m c t))))
    ∗ owns (c : Thread nD τ) (win0_3.stage (cfg0.slots t 3)) fullShare (iblk m c 3 t)
    ∗ (∃ d, owns (c : Thread nD τ) (win0_4.stage (cfg0.slots t 4)) fullShare (win0_4.fill (grid0.coords t) d (win0_4.cut (grid0.coords t) (codesB m c t))))
    ∗ P)

/-- The first step of a token block. -/
theorem body_first (c : Dev nD) (t : Fin cfg0.N) (h : t.val % 11 = 0) :
    bodyPre m c t ⊢ wp frame (wpE (defs₀ (F := F)) Variants.none c none) Set.univ (bodyAt0 t)
      (fun _ => bodyPost m c t iprop(∃ d, owns (c : Thread nD τ) (win0_5.stage (cfg0.slots t 5)) fullShare ((dats m 0 c).before 5 t d))) := by
  unfold bodyPre bodyPost bodyAt0
  rw [Phi_first m c t h, Phi_succ m c t (by omega), PhiFly_start m c (Fin.ext (by dsimp only [start]; omega) : start t.val t.isLt = t) _ h]
  unfold PhiIdle PhiFly Dat.owesAt Pipeline.owesWithin
  rw [show (dats m 0 c).owed t.castSucc = 0 from rfl, show (dats m 0 c).owed t.succ = 0 from rfl]
  iintro ⟨⟨HA, HB, HS, HX, Hg⟩, ⟨%W, -, HW⟩, ⟨%d0, H0⟩, ⟨%d1, H1⟩, ⟨%d2, H2⟩, ⟨%d3, H3⟩, ⟨%d4, H4⟩, H5⟩
  rw [before_0 m c t d0, before_1 m c t d1, before_2 m c t d2, before_3 m c t d3]
  iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    ((hcond1 t).mpr h) ((hcond2 t).mpr (by omega)) (fun e => by have := (hcond3 t).mp e; omega)
    (win0_0.fill (grid0.coords t) d0 (iblk m c 0 t)) (hsB m c t) (win0_2.fill (grid0.coords t) d2 (iblk m c 2 t)) (V m c main_arg4) W _)
  isplitl [H0]; · iexact H0
  isplitl [H1]; · iexact H1
  isplitl [H2]; · iexact H2
  isplitl [H4]; · iexists _; iexact H4
  isplitl [HA]; · iexact HA
  isplitl [HB]; · iexact HB
  isplitl [HS]; · iexact HS
  isplitl [HX]; · iexact HX
  isplitl [HW]; · iexact HW
  rw [step_first m c t h d0 d2, codes_whole m c t (by omega) d0]
  iintro ⟨H0, H1, H2, H4, HA, HF, HX, ⟨%W', HW'⟩⟩
  isplitl [HA HF HX Hg]
  · isplitl [HA]; · iexact HA
    isplitl [HF]; · iexact HF
    isplitl [HX]; · iexact HX
    iexact Hg
  isplitl [HW']
  · iexists W'; isplitr; · ipureintro; exact fun _ _ => Or.inl trivial
    iexact HW'
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists (codesB m c t); rw [win0_4.fill_cut]; iexact H4
  iexact H5

/-- A middle step. -/
theorem body_mid (c : Dev nD) (t : Fin cfg0.N) (h : t.val % 11 ≠ 0) (h' : t.val % 11 ≠ 10) :
    bodyPre m c t ⊢ wp frame (wpE (defs₀ (F := F)) Variants.none c none) Set.univ (bodyAt0 t)
      (fun _ => bodyPost m c t iprop(∃ d, owns (c : Thread nD τ) (win0_5.stage (cfg0.slots t 5)) fullShare ((dats m 0 c).before 5 t d))) := by
  unfold bodyPre bodyPost bodyAt0
  rw [Phi_cast m c t h, Phi_succ m c t h']
  unfold PhiFly Dat.owesAt Pipeline.owesWithin
  rw [show (dats m 0 c).owed t.castSucc = 0 from rfl, show (dats m 0 c).owed t.succ = 0 from rfl]
  iintro ⟨⟨HA, HF, HX, Hg⟩, ⟨%W, -, HW⟩, ⟨%d0, H0⟩, ⟨%d1, H1⟩, ⟨%d2, H2⟩, ⟨%d3, H3⟩, ⟨%d4, H4⟩, H5⟩
  rw [before_0 m c t d0, before_1 m c t d1, before_2 m c t d2, before_3 m c t d3]
  iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (fun e => h ((hcond1 t).mp e)) ((hcond2 t).mpr h') (fun e => h' ((hcond3 t).mp e))
    (win0_0.fill (grid0.coords t) d0 (iblk m c 0 t)) (hsB m c t) (win0_2.fill (grid0.coords t) d2 (iblk m c 2 t)) _ _)
  isplitl [H0]; · iexact H0
  isplitl [H1]; · iexact H1
  isplitl [H2]; · iexact H2
  isplitl [H4]; · iexists _; iexact H4
  isplitl [HA]; · iexact HA
  rw [step_mid m c t h h' d0 d2, codes_whole m c t h' d0]
  iintro ⟨H0, H1, H2, H4, HA⟩
  isplitl [HA HF HX Hg]
  · isplitl [HA]; · iexact HA
    isplitl [HF]; · iexact HF
    isplitl [HX]; · iexact HX
    iexact Hg
  isplitl [HW]
  · iexists W; isplitr; · ipureintro; exact fun _ _ => Or.inl trivial
    iexact HW
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists (codesB m c t); rw [win0_4.fill_cut]; iexact H4
  iexact H5

/-- The last, partial step. -/
theorem body_last (c : Dev nD) (t : Fin cfg0.N) (h : t.val % 11 = 10) :
    bodyPre m c t ⊢ wp frame (wpE (defs₀ (F := F)) Variants.none c none) Set.univ (bodyAt0 t)
      (fun _ => bodyPost m c t iprop(owns (c : Thread nD τ) (win0_5.stage (cfg0.slots t 5)) fullShare (yB m c t))) := by
  unfold bodyPre bodyPost bodyAt0
  rw [Phi_cast m c t (by omega), Phi_end m c t h]
  unfold PhiFly PhiIdle Dat.owesAt Pipeline.owesWithin
  rw [show (dats m 0 c).owed t.castSucc = 0 from rfl, show (dats m 0 c).owed t.succ = 0 from rfl]
  iintro ⟨⟨HA, HF, HX, Hg⟩, ⟨%W, -, HW⟩, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3]
  iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (grid0.coords (start t.val t.isLt)) ((hcond1 _).mpr (start_mod _ _))
    (fun e => by have := (hcond1 t).mp e; omega) (fun e => (hcond2 t).mp e h) ((hcond3 t).mpr h)
    (win0_0.fill (grid0.coords t) d0 (iblk m c 0 t)) (hsB m c t) (win0_2.fill (grid0.coords t) d2 (iblk m c 2 t)) (sdB m c t) _ (V m c main_arg4) W _)
  isplitl [H0]; · iexact H0
  isplitl [H1]; · iexact H1
  isplitl [H2]; · iexact H2
  isplitl [H3]; · iexact H3
  isplitl [H4]; · iexists _; iexact H4
  isplitl [H5]; · iexists _; iexact H5
  isplitl [HA]; · iexact HA
  isplitl [HF]; · iexact HF
  isplitl [HX]; · iexact HX
  isplitl [HW]; · iexact HW
  iintro ⟨H0, H1, H2, H3, ⟨%d, H4⟩, H5, HA, HB, HS, HX, ⟨%W', HW'⟩⟩
  isplitl [HA HB HS HX Hg]
  · isplitl [HA]; · iexact HA
    isplitl [HB]; · iexact HB
    isplitl [HS]; · iexact HS
    isplitl [HX]; · iexact HX
    iexact Hg
  isplitl [HW']
  · iexists W'; isplitr; · ipureintro; exact fun _ _ => Or.inl trivial
    iexact HW'
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists _; rw [← codes_last m c t h d0 d, win0_4.fill_cut]; iexact H4
  rw [y_last m c t h d0 d2]; iexact H5

/-- The body obligation: the three kinds of step. -/
theorem body_obligation (c : Dev nD) : BodyObligationLoose (dats (F := F) m 0 c) (defs₀ (F := F)) Variants.none () Set.univ := fun t => by
  rw [bigSep_W0, bigSep_W0, defs₀_row]
  simp only
  rw [show idle0 4 (grid0.coords t) = false from idle_4 t]
  by_cases h : t.val % 11 = 10
  · rw [show idle0 5 (grid0.coords t) = false from idle_5 t h]
    simp only
    rw [after_0, after_1, after_2, after_3, after_4, after_5]
    exact body_last m c t h
  · rw [show idle0 5 (grid0.coords t) = true from idle_5' t h, show (win0 5).flush t = false from flush_5 t h]
    simp only
    rw [after_0, after_1, after_2, after_3, after_4]
    by_cases h0 : t.val % 11 = 0
    · exact body_first m c t h0
    · exact body_mid m c t h0 h

/-! ## The run and the frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- At the start the scratch buffers hold anything, the semaphore is at zero and the residual array is whole, -/
theorem Phi_in (c : Dev nD) : Pipeline.ΦD osem0 spec0 H0 (V m) c ⊢ (dats m 0 c).Φ 0 := by
  rw [show (dats m 0 c).Φ 0 = PhiIdle m c from by dsimp only [dats]; exact dif_pos (Nat.zero_mod 11), Pipeline.ΦD_eq, scopedRest0_eq, ownSems00_eq, hbmPts0_eq]
  unfold PhiIdle
  rw [show (accM : Memref sig .tc .vmem S640x4096 .f32) = Memref.whole cc0_scratch0 from rfl]
  simp only [owns_whole]
  iintro ⟨⟨HA, HB⟩, Hg, HS, HX⟩
  isplitl [HA]; · iexact HA
  isplitl [HB]; · iexact HB
  isplitl [HS]; · iexact HS
  isplitl [HX]; · iexact HX
  iexact Hg
/-- and so at the end. -/
theorem Phi_out (c : Dev nD) : (dats m 0 c).Φ (Fin.last _) ⊢ Pipeline.ΦD osem0 spec0 H0 (V m) c := by
  rw [show (dats m 0 c).Φ (Fin.last _) = PhiIdle m c from by dsimp only [dats]; rw [dif_pos (by decide +kernel)], Pipeline.ΦD_eq, scopedRest0_eq, ownSems00_eq, hbmPts0_eq]
  unfold PhiIdle
  rw [show (accM : Memref sig .tc .vmem S640x4096 .f32) = Memref.whole cc0_scratch0 from rfl]
  simp only [owns_whole]
  iintro ⟨HA, HB, HS, HX, Hg⟩
  isplitl [HA HB]
  · isplitl [HA]; · iexact HA
    iexact HB
  isplitl [Hg]; · iexact Hg
  isplitl [HS]; · iexact HS
  iexact HX

set_option backward.isDefEq.respectTransparency.types false in
/-- Every execution terminates without a fault, the arrays holding what the write-backs made of them and
    every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => body_obligation m c) (hshare := fun c => (dats m 0 c).share_full fun _ => rfl)
    (howed := fun _ _ => rfl) (V := V m) (hmain := hmain m Variants.none) (hA := A_eq m)
    (hin := Phi_in m) (hout := Phi_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched. -/
theorem kept (r) (h : Pipeline.FramePost cfgs (dats (F := F) m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- THE FRAME: the program terminates without a fault, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main_quiescent m ρ)

end Cert.Down.Hand

end
-- ==== Proof.DownIdealBody.lean ====
/-
  DownIdeal's kernel body, run once per case of the reduction step: the first step of a column of token blocks (start the
  copy of the residual rows, clear the accumulator, add the first product), a middle step (add one product), and the
  last, partial step (add the product over the 704 remaining rows, wait for the copy, form the output block). Each
  theorem states exactly what every buffer holds afterwards.
-/
module

public import proofs.«01_k».proof.Proof.Gen.DownIdeal.Launch
public import proofs.«01_k».proof.Proof.Gen.DownIdeal.Skeleton
public import proofs.«01_k».proof.Proof.Gen.DownIdeal.Points
public import proofs.«01_k».proof.Proof.Gen.DownIdeal.Frame
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Pipeline.ReadBack
public import Idealize.ShloMosaic.Lib.Pipeline.ValueKit.Acc

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The logic of this program's proofs: the pipeline's resources beside the transfers' counters. -/
local notation "𝕄" => MT nD τ sig Unit (Elt F) ℕ (Pipeline.UD sig nD τ) ℕ

/-- The transfers' counters within the proof's resources. -/
abbrev EC : UEmb Counters 𝕄 := countersEmb (U := Pipeline.UD sig nD τ)

/-- The residual array, left in HBM; the accumulator; the buffer its rows are copied into. -/
abbrev xM : Memref sig .tc .hbm S7680x4096 .f32 := Memref.whole main_arg4
abbrev accM : Memref sig .tc .vmem S640x4096 .f32 := Memref.whole cc0_scratch0
abbrev bufM : Memref sig .tc .vmem S640x4096 .f32 := Memref.whole cc0_scratch1

/-- The residual rows of the token block at coordinates `i`. -/
abbrev xRows (i : grid0.Coords) (h : k0_cond1 i = 1#1) : Memref sig .tc .hbm S640x4096 .f32 :=
  xM.slice (Rect.unit (s := S7680x4096) (k0_off1 i) S640x4096.size (k0_off1_inb i h)) (fun _ => rfl)

/-- A buffer read after a store of the whole buffer holds the stored block. -/
theorem read_whole {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) (h : ∀ a, off a = 0) :
    v.read (Elt F) (v.writes (Elt F) f (⟨Rect.unit off s.size inb, w⟩ :: L)) = w := by
  rw [View.read_writes_eq_canon]
  · exact View.canon_cons_unit_lit' inb w L h
  · intro y
    refine ⟨⟨Rect.unit off s.size inb, w⟩, List.mem_cons_self, ?_⟩
    exact (Rect.mem_set_unit (inb := inb)).mpr fun a => ⟨(h a).symm ▸ Nat.zero_le _, by rw [h a, Nat.zero_add]; exact (y a).isLt⟩

/-- The first 704 rows of a block of codes: those the last, partial step reads and writes. -/
abbrev tailRect : Rect S1x1024x640 := Rect.unit (s := S1x1024x640) ![0, 0, 0] S1x704x640.size inb_S1x1024x640_S1x704x640_0_0_0
/-- The first 704 rows of a block of weights. -/
abbrev tailRectW : Rect S1024x4096 := Rect.unit (s := S1024x4096) ![0, 0] S704x4096.size inb_S1024x4096_S704x4096_0_0

/-- The copy of the residual rows of a token block, under way: when it is done it hands back the copy buffer, holding
    those rows, and the rows themselves. -/
abbrev inFlight (c : Dev nD) (i : grid0.Coords) (h : k0_cond1 i = 1#1) (fx : Buf (Elt F) (xM.view.loc (c : Thread nD τ))) : sProp 𝕄 :=
  iprop(∃ fd : Buf (Elt F) (bufM.view.loc (c : Thread nD τ)), ⌜bufM.view.read (Elt F) fd = (xRows i h).view.read (Elt F) fx⌝
    ∗ Transfers.Flight EC (c : Thread nD τ) (SemLoc.dma 11) () 327680
        iprop((bufM.view.loc (c : Thread nD τ) ↦{fullShare} fd) ∗ ((xRows i h).view.loc (c : Thread nD τ) ↦[(xRows i h).view.set]{fullShare} fx)))

/-- A middle step: the output codes' block, and the accumulator with one more product added. -/
theorem run_mid (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole)
    (hc1 : ¬k0_cond1 i = 1#1) (hc2 : k0_cond2 i = 1#1) (hc3 : ¬k0_cond3 i = 1#1)
    (x0 : Vec F S1x1024x640 .f32) (x1 : Vec F S1x1x640 .f32) (x2 : Vec F S1024x4096 .fp8e4m3) (a : Vec F S640x4096 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d) ∗ owns (c : Thread nD τ) accM fullShare a
        ∗ (iprop(owns (c : Thread nD τ) arg3 fullShare x0 ∗ owns (c : Thread nD τ) arg4 fullShare x1 ∗ owns (c : Thread nD τ) arg5 fullShare x2
            ∗ owns (c : Thread nD τ) arg8 fullShare (k0_pay3 x0 x1) ∗ owns (c : Thread nD τ) accM fullShare (k0_pay4 x0 x1 a x2)) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  have hA : (accM).IsWhole := Memref.isWhole_whole _
  rw [cc0_down_eq_skeleton]; unfold cc0_down_skel
  unfold owns
  iintro ⟨⟨%f0, %hf0, H0⟩, ⟨%f1, %hf1, H1⟩, ⟨%f2, %hf2, H2⟩, ⟨%d4, %f4, -, H4⟩, ⟨%fa, %hfa, HA⟩, Hk⟩
  obtain rfl := harg3.eq_unread hf0; obtain rfl := harg4.eq_unread hf1; obtain rfl := harg5.eq_unread hf2; obtain rfl := hA.eq_unread hfa
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; swap; · iexact H4
    ipureintro
    refine (read_whole _ _ _ _ _ (by decide)).trans ?_
    simp (disch := decide) only [View.readAt_eq_ld, Memref.IsWhole.read_unread, View.ld_unit_lit', View.readCov_unit_lit', read_unread_whole, hf0, hf1, hf2]
  iexists _; isplitr; swap; · iexact HA
  ipureintro
  refine (read_whole _ _ _ _ _ (by decide)).trans ?_
  simp (disch := decide) only [View.readAt_eq_ld, Memref.IsWhole.read_unread, View.ld_unit_lit', View.readCov_unit_lit', read_unread_whole, hf0, hf1, hf2]

/-- The first step of a token block: the copy of its residual rows is started, the accumulator is cleared, and the
    codes' block and the first product are formed. -/
theorem run_first (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole)
    (hc1 : k0_cond1 i = 1#1) (hc2 : k0_cond2 i = 1#1) (hc3 : ¬k0_cond3 i = 1#1)
    (x0 : Vec F S1x1024x640 .f32) (x1 : Vec F S1x1x640 .f32) (x2 : Vec F S1024x4096 .fp8e4m3) (fx : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d) ∗ (∃ d, owns (c : Thread nD τ) accM fullShare d)
        ∗ (∃ f : Buf (Elt F) (bufM.view.loc (c : Thread nD τ)), bufM.view.loc (c : Thread nD τ) ↦{fullShare} f) ∗ semVal ((c : Thread nD τ), SemLoc.dma 11) 0
        ∗ (xM.view.loc (c : Thread nD τ) ↦{fullShare} fx) ∗ owes (c : Thread nD τ) 0 W
        ∗ (iprop(owns (c : Thread nD τ) arg3 fullShare x0 ∗ owns (c : Thread nD τ) arg4 fullShare x1 ∗ owns (c : Thread nD τ) arg5 fullShare x2
            ∗ owns (c : Thread nD τ) arg8 fullShare (k0_pay3 x0 x1) ∗ owns (c : Thread nD τ) accM fullShare (k0_pay4 x0 x1 (k0_pay1 (F := F)) x2)
            ∗ inFlight c i hc1 fx ∗ (xM.view.loc (c : Thread nD τ) ↦[Finset.univ \ (xRows i hc1).view.set]{fullShare} fx)
            ∗ (∃ W', owes (c : Thread nD τ) 0 W')) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  rw [cc0_down_eq_skeleton]; unfold cc0_down_skel
  unfold owns
  iintro ⟨⟨%f0, %hf0, H0⟩, ⟨%f1, %hf1, H1⟩, ⟨%f2, %hf2, H2⟩, ⟨%d4, %f4, -, H4⟩, ⟨%da, %fa, -, HA⟩, ⟨%fb, HB⟩, HS, HX, HW, Hk⟩
  obtain rfl := harg3.eq_unread hf0; obtain rfl := harg4.eq_unread hf1; obtain rfl := harg5.eq_unread hf2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H4]
  · iexists _; isplitr; swap; · iexact H4
    ipureintro
    refine (read_whole _ _ _ _ _ (by decide)).trans ?_
    simp (disch := decide) only [View.readAt_eq_ld, Memref.IsWhole.read_unread, View.ld_unit_lit', View.readCov_unit_lit', read_unread_whole, hf0, hf1, hf2]
  isplitl [HA]
  · iexists _; isplitr; swap; · iexact HA
    ipureintro
    refine (read_whole _ _ _ _ _ (by decide)).trans ?_
    unfold run_first.sl.v23 run_first.sl.HA_1
    simp (disch := decide) only [View.readAt_eq_ld, Memref.IsWhole.read_unread, View.ld_unit_lit', View.readCov_unit_lit', read_unread_whole, hf0, hf1, hf2]
  isplitl [HS]
  · iexists _; isplitr; swap; · iexact HS
    ipureintro
    unfold run_first.sl.dma0
    exact View.read_write_univ _ _
  isplitl [HX]; · iexact HX
  iexists _; iexact HW

/-- The last, partial step: the codes of the 704 remaining rows, the accumulator with their product added, and, the
    copy waited for, the output block. -/
theorem run_last (c : Dev nD) (i : grid0.Coords) (arg3 : Memref sig .tc .vmem S1x1024x640 .f32) (harg3 : arg3.IsWhole) (arg4 : Memref sig .tc .vmem S1x1x640 .f32) (harg4 : arg4.IsWhole) (arg5 : Memref sig .tc .vmem S1024x4096 .fp8e4m3) (harg5 : arg5.IsWhole) (arg7 : Memref sig .tc .vmem S1x4096 .f32) (harg7 : arg7.IsWhole) (arg8 : Memref sig .tc .vmem S1x1024x640 .fp8e4m3) (harg8 : arg8.IsWhole) (arg9 : Memref sig .tc .vmem S640x4096 .bf16) (harg9 : arg9.IsWhole) (i₀ : grid0.Coords) (h₀ : k0_cond1 i₀ = 1#1)
    (hc1 : ¬k0_cond1 i = 1#1) (hc2 : ¬k0_cond2 i = 1#1) (hc3 : k0_cond3 i = 1#1)
    (x0 : Vec F S1x1024x640 .f32) (x1 : Vec F S1x1x640 .f32) (x2 : Vec F S1024x4096 .fp8e4m3) (x3 : Vec F S1x4096 .f32) (a : Vec F S640x4096 .f32) (fx : Buf (Elt F) (xM.view.loc (c : Thread nD τ))) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg7 fullShare x3
        ∗ (∃ d, owns (c : Thread nD τ) arg8 fullShare d) ∗ (∃ d, owns (c : Thread nD τ) arg9 fullShare d) ∗ owns (c : Thread nD τ) accM fullShare a
        ∗ inFlight c i₀ h₀ fx ∗ (xM.view.loc (c : Thread nD τ) ↦[Finset.univ \ (xRows i₀ h₀).view.set]{fullShare} fx) ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg7 fullShare x3
            ∗ (∃ d, owns (c : Thread nD τ) arg8 fullShare (VecWindow.put d ![0, 0, 0] S1x704x640.size (k0_pay7 (View.ld x0 tailRect) x1)))
            ∗ owns (c : Thread nD τ) arg9 fullShare (k0_pay5 (k0_pay9 x1) ((xRows i₀ h₀).view.read (Elt F) fx) (k0_pay8 (View.ld x0 tailRect) x1 a (View.ld x2 tailRectW)) x3)
            ∗ (∃ d, owns (c : Thread nD τ) accM fullShare d)
            ∗ (∃ f : Buf (Elt F) (bufM.view.loc (c : Thread nD τ)), bufM.view.loc (c : Thread nD τ) ↦{fullShare} f) ∗ semVal ((c : Thread nD τ), SemLoc.dma 11) 0
            ∗ (xM.view.loc (c : Thread nD τ) ↦{fullShare} fx) ∗ (∃ W', owes (c : Thread nD τ) 0 W')) -∗ K ⟨⟩))
      ⊢ wp frame (wpE (defs₀ (F := F)) Variants.none c none) Set.univ
          (cc0_down i arg3 harg3 arg4 harg4 arg5 harg5 xM (Memref.isWhole_whole _) arg7 harg7 arg8 harg8 arg9 harg9 accM (Memref.isWhole_whole _) bufM (Memref.isWhole_whole _) cc0_scratch2) K := by
  have hA : (accM).IsWhole := Memref.isWhole_whole _
  rw [cc0_down_eq_skeleton]; unfold cc0_down_skel
  rw [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fa, %hfa, HA⟩, ⟨%fd, %hfd, HF⟩, HX, HW, Hk⟩
  obtain rfl := harg3.eq_unread hf0; obtain rfl := harg4.eq_unread hf1; obtain rfl := harg5.eq_unread hf2; obtain rfl := harg7.eq_unread hf3; obtain rfl := hA.eq_unread hfa
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg7.read_unread _
    iexact H3
  isplitl [H4]
  · iexists (arg8.view.read (Elt F) f4); iexists _; isplitr; swap; · iexact H4
    ipureintro
    refine (View.read_writes_cons_put _ _ _ _ _ rfl).trans ?_
    rw [View.writes_nil]
    simp (disch := decide) only [View.readAt_eq_ld, Memref.IsWhole.read_unread, View.ld_unit_lit', View.readCov_unit_lit', read_unread_whole, hf0, hf1, hf2, hf3, hfa]
  isplitl [H5]
  · iexists _; isplitr; swap; · iexact H5
    ipureintro
    refine (read_whole _ _ _ _ _ (by decide)).trans ?_
    unfold run_last.sl.r run_last.sl.v41
    have e2 : accM.view.readCov (run_last.sl.HA_1 c arg3 harg3 arg4 harg4 arg5 harg5 x0 x1 x2 a hA) (Rect.unit ![0, 0] S640x4096.size inb_S640x4096_S640x4096_0_0).toLoadRect
        = k0_pay8 (View.ld x0 tailRect) x1 a (View.ld x2 tailRectW) := by
      unfold run_last.sl.HA_1
      rw [View.readCov_unit_lit' _ _ _ (by decide)]
      simp (disch := decide) only [View.readAt_eq_ld, Memref.IsWhole.read_unread, View.ld_unit_lit', View.readCov_unit_lit', read_unread_whole, hf0, hf1, hf2, hf3, hfa]
    simp (disch := decide) only [View.readAt_eq_ld, Memref.IsWhole.read_unread, View.ld_unit_lit', View.readCov_unit_lit', read_unread_whole, hf0, hf1, hf2, hf3, hfa]
    exact congrArg₂ (fun u v => k0_pay5 (k0_pay9 x1) u v x3) hfd e2
  isplitl [HA]
  · iexists _; iexists _; isplitr; swap; · iexact HA
    ipureintro; rfl
  isplitl [HF_dst]
  · iexists _; iexact HF_dst
  isplitl [HF]; · iexact HF
  isplitl [HX]; · iexact HX
  iexists _; iexact HW

end Cert.DownIdeal.Hand

end
-- ==== Proof.DownIdealFrame.lean ====
/-
  DownIdeal's frame: the program terminates without a fault, its arguments end unchanged, every counter ends at zero; and, for
  the values, what the two result arrays hold (`run_main`). Between two steps of a token block the accumulator holds
  exactly the partial sum of the products so far (`accAfter`), and the copy of the block's residual rows is under way.
-/
module

public import proofs.«01_k».proof.Proof.DownIdealBody

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The schedule -/

/-- The first step of a token block is the first of its eleven. -/
theorem hcond1 : ∀ t : Fin grid0.N, k0_cond1 (grid0.coords t) = 1#1 ↔ t.val % 11 = 0 := by decide +kernel
/-- All but the last of the eleven steps are whole. -/
theorem hcond2 : ∀ t : Fin grid0.N, k0_cond2 (grid0.coords t) = 1#1 ↔ t.val % 11 ≠ 10 := by decide +kernel
/-- The last of the eleven is the partial one. -/
theorem hcond3 : ∀ t : Fin grid0.N, k0_cond3 (grid0.coords t) = 1#1 ↔ t.val % 11 = 10 := by decide +kernel
theorem idle_4 : ∀ t : Fin grid0.N, cfg0.idle 4 (grid0.coords t) = false := by decide +kernel
theorem idle_5 : ∀ t : Fin grid0.N, t.val % 11 = 10 → cfg0.idle 5 (grid0.coords t) = false := by decide +kernel
theorem idle_5' : ∀ t : Fin grid0.N, t.val % 11 ≠ 10 → cfg0.idle 5 (grid0.coords t) = true := by decide +kernel
theorem flush_5 (t : Fin cfg0.N) (h : t.val % 11 ≠ 10) : (cfg0.win 5).flush t = false :=
  Bool.eq_false_iff.mpr fun e => h ((flush0_5 t).mp e)

/-- A whole step's block of hidden values lies inside the array, -/
theorem xsize_0 : ∀ t : Fin grid0.N, t.val % 11 ≠ 10 → ∀ a, win0_0.xsize (grid0.coords t) a = win0_0.size a := by decide +kernel
theorem xsize_2 : ∀ t : Fin grid0.N, t.val % 11 ≠ 10 → ∀ a, win0_2.xsize (grid0.coords t) a = win0_2.size a := by decide +kernel
theorem xsize_4 : ∀ t : Fin grid0.N, t.val % 11 ≠ 10 → ∀ a, win0_4.xsize (grid0.coords t) a = win0_4.size a := by decide +kernel
/-- and of the partial step's the first 704 rows do. -/
theorem xsize_0' : ∀ t : Fin grid0.N, t.val % 11 = 10 → ∀ a, win0_0.xsize (grid0.coords t) a = ![1, 704, 640] a := by decide +kernel
theorem xsize_2' : ∀ t : Fin grid0.N, t.val % 11 = 10 → ∀ a, win0_2.xsize (grid0.coords t) a = ![704, 4096] a := by decide +kernel
theorem xsize_4' : ∀ t : Fin grid0.N, t.val % 11 = 10 → ∀ a, win0_4.xsize (grid0.coords t) a = ![1, 704, 640] a := by decide +kernel

/-- The first of the eleven steps of the token block that step `n` belongs to. -/
def start (n : ℕ) (h : n < cfg0.N) : Fin cfg0.N := ⟨n - n % 11, by omega⟩
theorem start_mod (n : ℕ) (h : n < cfg0.N) : (start n h).val % 11 = 0 := by dsimp only [start]; omega

/-! ## The blocks -/

/-- The hidden values' block at step `t`, zeros filled in past the array's end. -/
def hidB (c : Dev nD) (t : Fin cfg0.N) : Vec F S1x1024x640 .f32 :=
  win0_0.fill (grid0.coords t) (fun _ => Scalar.ofBits .f32 0#32) (iblk m c 0 t)
/-- The hidden values' scales, -/
def hsB (c : Dev nD) (t : Fin cfg0.N) : Vec F S1x1x640 .f32 := iblk m c 1 t
/-- the weights' block, zeros filled in past the array's end, -/
def wB (c : Dev nD) (t : Fin cfg0.N) : Vec F S1024x4096 .fp8e4m3 :=
  win0_2.fill (grid0.coords t) (fun _ => Scalar.ofBits .fp8e4m3 0#8) (iblk m c 2 t)
/-- and the weights' scales. -/
def sdB (c : Dev nD) (t : Fin cfg0.N) : Vec F S1x4096 .f32 := iblk m c 3 t

/-- One step of the accumulator: the product of the step's codes and weights added, the 704 rows inside the arrays only
    at the partial step. -/
def accStep (c : Dev nD) (t : Fin cfg0.N) (a : Vec F S640x4096 .f32) : Vec F S640x4096 .f32 :=
  if t.val % 11 = 10 then k0_pay8 (View.ld (hidB m c t) tailRect) (hsB m c t) a (View.ld (wB m c t) tailRectW)
  else k0_pay4 (hidB m c t) (hsB m c t) a (wB m c t)
/-- The accumulator after step `n`: cleared at the first step of each token block, one product added at every step. -/
def accAfter (c : Dev nD) : (n : ℕ) → n < cfg0.N → Vec F S640x4096 .f32
  | 0, h => accStep m c ⟨0, h⟩ k0_pay1
  | n + 1, h => accStep m c ⟨n + 1, h⟩ (if (n + 1) % 11 = 0 then k0_pay1 else accAfter c n (Nat.lt_of_succ_lt h))
theorem accAfter_first (c : Dev nD) (t : Fin cfg0.N) (h : t.val % 11 = 0) :
    accAfter m c t.val t.isLt = accStep m c t k0_pay1 := by
  obtain ⟨n, hn⟩ := t
  cases n with
  | zero => rfl
  | succ n => dsimp only at h; rw [accAfter, if_pos h]
theorem accAfter_next (c : Dev nD) (t : Fin cfg0.N) (h : t.val % 11 ≠ 0) :
    accAfter m c t.val t.isLt = accStep m c t (accAfter m c (t.val - 1) (by have := t.isLt; omega)) := by
  obtain ⟨n, hn⟩ := t
  cases n with
  | zero => exact absurd rfl h
  | succ n => dsimp only at h; rw [accAfter, if_neg h]; rfl

/-- The residual rows of the token block that starts at step `s`. -/
def rowsB (c : Dev nD) (s : Fin cfg0.N) (hs : s.val % 11 = 0) : Vec F S640x4096 .f32 :=
  (xRows (grid0.coords s) ((hcond1 s).mpr hs)).view.read (Elt F) (V m c main_arg4)

/-- The codes' block after step `t`: at the partial step its first 704 rows. -/
def codesB (c : Dev nD) (t : Fin cfg0.N) : Vec F S1x1024x640 .fp8e4m3 :=
  if t.val % 11 = 10 then
    VecWindow.put (k0_pay3 (hidB m c t) (hsB m c t)) ![0, 0, 0] S1x704x640.size (k0_pay7 (View.ld (hidB m c t) tailRect) (hsB m c t))
  else k0_pay3 (hidB m c t) (hsB m c t)
/-- The output block, stored by the partial step. -/
def yB (c : Dev nD) (t : Fin cfg0.N) : Vec F S640x4096 .bf16 :=
  k0_pay5 (k0_pay9 (hsB m c t)) (rowsB m c (start t.val t.isLt) (start_mod _ _)) (accAfter m c t.val t.isLt) (sdB m c t)

/-- Whatever fills a block out past the array's end, a whole step's block is the same, -/
theorem fill_0 (t : Fin grid0.N) (h : t.val % 11 ≠ 10) (d d' X) :
    win0_0.fill (α := Elt F .f32) (grid0.coords t) d X = win0_0.fill (grid0.coords t) d' X := by
  funext j; unfold Window.fill; split
  · rfl
  · rename_i hn; exact absurd ((win0_0.moved_iff _ _).mpr fun a => by rw [xsize_0 t h a]; exact (j a).isLt) hn
theorem fill_2 (t : Fin grid0.N) (h : t.val % 11 ≠ 10) (d d' X) :
    win0_2.fill (α := Elt F .fp8e4m3) (grid0.coords t) d X = win0_2.fill (grid0.coords t) d' X := by
  funext j; unfold Window.fill; split
  · rfl
  · rename_i hn; exact absurd ((win0_2.moved_iff _ _).mpr fun a => by rw [xsize_2 t h a]; exact (j a).isLt) hn
/-- and of the partial step's block the first 704 rows are. -/
theorem fill_0' (t : Fin grid0.N) (h : t.val % 11 = 10) (d d' X) :
    View.ld (win0_0.fill (α := Elt F .f32) (grid0.coords t) d X) tailRect = View.ld (win0_0.fill (grid0.coords t) d' X) tailRect := by
  funext j; unfold View.ld Window.fill; dsimp only; split
  · rfl
  · rename_i hn
    refine absurd ((win0_0.moved_iff _ _).mpr fun a => ?_) hn
    rw [xsize_0' t h a]
    have hj := (j a).isLt
    have e : ((tailRect.idx j) a).val = (tailRect.off a) + 1 * (j a).val := rfl
    have e0 : tailRect.off a = 0 := by fin_cases a <;> rfl
    rw [e, e0, Nat.zero_add, Nat.one_mul]
    exact hj
theorem fill_2' (t : Fin grid0.N) (h : t.val % 11 = 10) (d d' X) :
    View.ld (win0_2.fill (α := Elt F .fp8e4m3) (grid0.coords t) d X) tailRectW = View.ld (win0_2.fill (grid0.coords t) d' X) tailRectW := by
  funext j; unfold View.ld Window.fill; dsimp only; split
  · rfl
  · rename_i hn
    refine absurd ((win0_2.moved_iff _ _).mpr fun a => ?_) hn
    rw [xsize_2' t h a]
    have hj := (j a).isLt
    have e : ((tailRectW.idx j) a).val = (tailRectW.off a) + 1 * (j a).val := rfl
    have e0 : tailRectW.off a = 0 := by fin_cases a <;> rfl
    rw [e, e0, Nat.zero_add, Nat.one_mul]
    exact hj
/-- The part of the partial step's codes that is written back does not depend on what the rest of the buffer held. -/
theorem cut_put (t : Fin grid0.N) (h : t.val % 11 = 10) (d d' w) :
    win0_4.cut (α := Elt F .fp8e4m3) (grid0.coords t) (VecWindow.put d ![0, 0, 0] S1x704x640.size w)
      = win0_4.cut (grid0.coords t) (VecWindow.put d' ![0, 0, 0] S1x704x640.size w) := by
  funext j; unfold Window.cut VecWindow.put; dsimp only
  split
  · rfl
  · rename_i hn
    refine absurd (fun a => ?_) hn
    have hj := (j a).isLt
    have := xsize_4' t h a
    have hj := hj.trans_eq this
    have e0 : (![0, 0, 0] : Fin 3 → ℕ) a = 0 := by fin_cases a <;> rfl
    rw [e0, Nat.zero_add]
    exact ⟨Nat.zero_le _, hj⟩

/-! ## The invariant -/

/-- The body's semaphore of its own. -/
abbrev osem0 : Fin 1 → SemLoc sig := fun j => (![SemLoc.dma 11] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
/-- The array left in HBM that the body's copies read. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(xM.view.loc (c : Thread nD τ) ↦{fullShare} V m c main_arg4) := by
  rw [BI.bigSep_eq_bigSepL_of_eq [main_arg4] (by decide) (by decide)]; rfl

/-- Between token blocks: the scratch buffers at anything, the semaphore at zero, the residual array whole. -/
def PhiIdle (c : Dev nD) : sProp 𝕄 :=
  iprop((∃ d, owns (c : Thread nD τ) accM fullShare d)
    ∗ (∃ f : Buf (Elt F) (bufM.view.loc (c : Thread nD τ)), bufM.view.loc (c : Thread nD τ) ↦{fullShare} f)
    ∗ semVal ((c : Thread nD τ), SemLoc.dma 11) 0 ∗ (xM.view.loc (c : Thread nD τ) ↦{fullShare} V m c main_arg4) ∗ (∃ r, prngReg c r))
/-- Within the token block that starts at step `s`: the accumulator at `a`, the copy of the block's rows under way. -/
def PhiFly (c : Dev nD) (s : Fin cfg0.N) (hs : s.val % 11 = 0) (a : Vec F S640x4096 .f32) : sProp 𝕄 :=
  iprop(owns (c : Thread nD τ) accM fullShare a ∗ inFlight c (grid0.coords s) ((hcond1 s).mpr hs) (V m c main_arg4)
    ∗ (xM.view.loc (c : Thread nD τ) ↦[Finset.univ \ (xRows (grid0.coords s) ((hcond1 s).mpr hs)).view.set]{fullShare} V m c main_arg4)
    ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => hidB m c t
    | ⟨1, _⟩ => iblk m c 1 t
    | ⟨2, _⟩ => wB m c t
    | ⟨3, _⟩ => iblk m c 3 t
    | ⟨4, _⟩ => codesB m c t
    | ⟨5, _⟩ => yB m c t
  Φ p := if h : p.val % 11 = 0 then PhiIdle m c
    else PhiFly m c (start (p.val - 1) (by have := p.isLt; omega)) (start_mod _ _) (accAfter m c (p.val - 1) (by have := p.isLt; omega))
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = hidB m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = wB m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = codesB m c t := by dsimp only [dats]
theorem after_5 (c : Dev nD) (t : Fin cfg0.N) : (dats m 0 c).after 5 t = yB m c t := by dsimp only [dats]

theorem before_0 (c : Dev nD) (t : Fin cfg0.N) (d) : (dats m 0 c).before 0 t d = win0_0.fill (grid0.coords t) d (iblk m c 0 t) := by
  unfold Dat.before; rw [if_pos (fetch0_0 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_1 (c : Dev nD) (t : Fin cfg0.N) (d) : (dats m 0 c).before 1 t d = hsB m c t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf hsB iblk; rw [A_eq]; try rfl)
theorem before_3 (c : Dev nD) (t : Fin cfg0.N) (d) : (dats m 0 c).before 3 t d = sdB m c t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf sdB iblk; rw [A_eq]; try rfl)

theorem Phi_first (c : Dev nD) (t : Fin cfg0.N) (h : t.val % 11 = 0) : (dats m 0 c).Φ t.castSucc = PhiIdle m c := by
  dsimp only [dats]; rw [dif_pos (show (t.castSucc).val % 11 = 0 from h)]
theorem Phi_end (c : Dev nD) (t : Fin cfg0.N) (h : t.val % 11 = 10) : (dats m 0 c).Φ t.succ = PhiIdle m c := by
  dsimp only [dats]; rw [dif_pos (show (t.succ).val % 11 = 0 by rw [Fin.val_succ]; omega)]
theorem Phi_succ (c : Dev nD) (t : Fin cfg0.N) (h : t.val % 11 ≠ 10) :
    (dats m 0 c).Φ t.succ = PhiFly m c (start t.val t.isLt) (start_mod _ _) (accAfter m c t.val t.isLt) := by
  dsimp only [dats]; rw [dif_neg (show ¬(t.succ).val % 11 = 0 by rw [Fin.val_succ]; omega)]; rfl
theorem PhiFly_start (c : Dev nD) {s s' : Fin cfg0.N} (e : s = s') (hs : s.val % 11 = 0) (hs' : s'.val % 11 = 0) (a) :
    PhiFly m c s hs a = PhiFly m c s' hs' a := by subst e; rfl
theorem start_pred (t : Fin cfg0.N) (h : t.val % 11 ≠ 0) (h' : t.val - 1 < cfg0.N) : start (t.val - 1) h' = start t.val t.isLt :=
  Fin.ext (by dsimp only [start]; omega)
theorem Phi_cast (c : Dev nD) (t : Fin cfg0.N) (h : t.val % 11 ≠ 0) :
    (dats m 0 c).Φ t.castSucc = PhiFly m c (start t.val t.isLt) (start_mod _ _) (accAfter m c (t.val - 1) (by have := t.isLt; omega)) := by
  dsimp only [dats]; rw [dif_neg (show ¬(t.castSucc).val % 11 = 0 from h)]
  exact PhiFly_start m c (start_pred t h _) _ _ _

/-! ## The body obligation -/

theorem defs₀_row (t : Fin cfg0.N) :
    defs₀ (F := F) .tc cfg0.body (cfg0.bodyArgs t (cfg0.slots t)) = bodyAt0 t := by
  unfold defs₀; rw [Defs.onTc_tc]

theorem step_first (c : Dev nD) (t : Fin cfg0.N) (h : t.val % 11 = 0) (d0 d2) :
    k0_pay4 (win0_0.fill (grid0.coords t) d0 (iblk m c 0 t)) (hsB m c t) (k0_pay1 (F := F)) (win0_2.fill (grid0.coords t) d2 (iblk m c 2 t))
      = accAfter m c t.val t.isLt := by
  rw [accAfter_first m c t h]; unfold accStep; rw [if_neg (by omega)]
  unfold hidB wB
  rw [fill_0 t (by omega) d0, fill_2 t (by omega) d2]
theorem step_mid (c : Dev nD) (t : Fin cfg0.N) (h : t.val % 11 ≠ 0) (h' : t.val % 11 ≠ 10) (d0 d2) :
    k0_pay4 (win0_0.fill (grid0.coords t) d0 (iblk m c 0 t)) (hsB m c t) (accAfter m c (t.val - 1) (by have := t.isLt; omega)) (win0_2.fill (grid0.coords t) d2 (iblk m c 2 t))
      = accAfter m c t.val t.isLt := by
  rw [accAfter_next m c t h]; unfold accStep; rw [if_neg h']
  unfold hidB wB
  rw [fill_0 t h' d0, fill_2 t h' d2]
theorem step_last (c : Dev nD) (t : Fin cfg0.N) (h : t.val % 11 = 10) (d0 d2) :
    k0_pay8 (View.ld (win0_0.fill (grid0.coords t) d0 (iblk m c 0 t)) tailRect) (hsB m c t) (accAfter m c (t.val - 1) (by have := t.isLt; omega)) (View.ld (win0_2.fill (grid0.coords t) d2 (iblk m c 2 t)) tailRectW)
      = accAfter m c t.val t.isLt := by
  rw [accAfter_next m c t (by omega)]; unfold accStep; rw [if_pos h]
  unfold hidB wB
  rw [fill_0' t h d0, fill_2' t h d2]
theorem y_last (c : Dev nD) (t : Fin cfg0.N) (h : t.val % 11 = 10) (d0 d2) :
    yB m c t = k0_pay5 (k0_pay9 (hsB m c t)) ((xRows (grid0.coords (start t.val t.isLt)) ((hcond1 _).mpr (start_mod _ _))).view.read (Elt F) (V m c main_arg4))
      (k0_pay8 (View.ld (win0_0.fill (grid0.coords t) d0 (iblk m c 0 t)) tailRect) (hsB m c t) (accAfter m c (t.val - 1) (by have := t.isLt; omega)) (View.ld (win0_2.fill (grid0.coords t) d2 (iblk m c 2 t)) tailRectW))
      (sdB m c t) :=
  congrArg (fun a => k0_pay5 (k0_pay9 (hsB m c t)) (rowsB m c (start t.val t.isLt) (start_mod _ _)) a (sdB m c t)) (step_last m c t h d0 d2).symm
theorem codes_whole (c : Dev nD) (t : Fin cfg0.N) (h : t.val % 11 ≠ 10) (d0) :
    k0_pay3 (win0_0.fill (grid0.coords t) d0 (iblk m c 0 t)) (hsB m c t) = codesB m c t := by
  unfold codesB; rw [if_neg h]; unfold hidB; rw [fill_0 t h d0]
theorem codes_last (c : Dev nD) (t : Fin cfg0.N) (h : t.val % 11 = 10) (d0 d) :
    win0_4.cut (grid0.coords t) (VecWindow.put d ![0, 0, 0] S1x704x640.size (k0_pay7 (View.ld (win0_0.fill (grid0.coords t) d0 (iblk m c 0 t)) tailRect) (hsB m c t)))
      = win0_4.cut (grid0.coords t) (codesB m c t) := by
  unfold codesB; rw [if_pos h]; unfold hidB; rw [fill_0' t h d0]; exact cut_put t h _ _ _

/-- What the body is handed at step `t`, and what it hands back, with the two clipped inputs described on the part inside
    the arrays. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) (P : sProp 𝕄) : sProp 𝕄 :=
  iprop((dats m 0 c).Φ t.succ ∗ (dats m 0 c).owesAt () t.succ
    ∗ (∃ d, owns (c : Thread nD τ) (win0_0.stage (cfg0.slots t 0)) fullShare (win0_0.fill (grid0.coords t) d (win0_0.cut (grid0.coords t) (hidB m c t))))
    ∗ owns (c : Thread nD τ) (win0_1.stage (cfg0.slots t 1)) fullShare (iblk m c 1 t)
    ∗ (∃ d, owns (c : Thread nD τ) (win0_2.stage (cfg0.slots t 2)) fullShare (win0_2.fill (grid0.coords t) d (win0_2.cut (grid0.coords t) (wB m c t))))
    ∗ owns (c : Thread nD τ) (win0_3.stage (cfg0.slots t 3)) fullShare (iblk m c 3 t)
    ∗ (∃ d, owns (c : Thread nD τ) (win0_4.stage (cfg0.slots t 4)) fullShare (win0_4.fill (grid0.coords t) d (win0_4.cut (grid0.coords t) (codesB m c t))))
    ∗ P)

/-- The first step of a token block. -/
theorem body_first (c : Dev nD) (t : Fin cfg0.N) (h : t.val % 11 = 0) :
    bodyPre m c t ⊢ wp frame (wpE (defs₀ (F := F)) Variants.none c none) Set.univ (bodyAt0 t)
      (fun _ => bodyPost m c t iprop(∃ d, owns (c : Thread nD τ) (win0_5.stage (cfg0.slots t 5)) fullShare ((dats m 0 c).before 5 t d))) := by
  unfold bodyPre bodyPost bodyAt0
  rw [Phi_first m c t h, Phi_succ m c t (by omega), PhiFly_start m c (Fin.ext (by dsimp only [start]; omega) : start t.val t.isLt = t) _ h]
  unfold PhiIdle PhiFly Dat.owesAt Pipeline.owesWithin
  rw [show (dats m 0 c).owed t.castSucc = 0 from rfl, show (dats m 0 c).owed t.succ = 0 from rfl]
  iintro ⟨⟨HA, HB, HS, HX, Hg⟩, ⟨%W, -, HW⟩, ⟨%d0, H0⟩, ⟨%d1, H1⟩, ⟨%d2, H2⟩, ⟨%d3, H3⟩, ⟨%d4, H4⟩, H5⟩
  rw [before_0 m c t d0, before_1 m c t d1, before_2 m c t d2, before_3 m c t d3]
  iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    ((hcond1 t).mpr h) ((hcond2 t).mpr (by omega)) (fun e => by have := (hcond3 t).mp e; omega)
    (win0_0.fill (grid0.coords t) d0 (iblk m c 0 t)) (hsB m c t) (win0_2.fill (grid0.coords t) d2 (iblk m c 2 t)) (V m c main_arg4) W _)
  isplitl [H0]; · iexact H0
  isplitl [H1]; · iexact H1
  isplitl [H2]; · iexact H2
  isplitl [H4]; · iexists _; iexact H4
  isplitl [HA]; · iexact HA
  isplitl [HB]; · iexact HB
  isplitl [HS]; · iexact HS
  isplitl [HX]; · iexact HX
  isplitl [HW]; · iexact HW
  rw [step_first m c t h d0 d2, codes_whole m c t (by omega) d0]
  iintro ⟨H0, H1, H2, H4, HA, HF, HX, ⟨%W', HW'⟩⟩
  isplitl [HA HF HX Hg]
  · isplitl [HA]; · iexact HA
    isplitl [HF]; · iexact HF
    isplitl [HX]; · iexact HX
    iexact Hg
  isplitl [HW']
  · iexists W'; isplitr; · ipureintro; exact fun _ _ => Or.inl trivial
    iexact HW'
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists (codesB m c t); rw [win0_4.fill_cut]; iexact H4
  iexact H5

/-- A middle step. -/
theorem body_mid (c : Dev nD) (t : Fin cfg0.N) (h : t.val % 11 ≠ 0) (h' : t.val % 11 ≠ 10) :
    bodyPre m c t ⊢ wp frame (wpE (defs₀ (F := F)) Variants.none c none) Set.univ (bodyAt0 t)
      (fun _ => bodyPost m c t iprop(∃ d, owns (c : Thread nD τ) (win0_5.stage (cfg0.slots t 5)) fullShare ((dats m 0 c).before 5 t d))) := by
  unfold bodyPre bodyPost bodyAt0
  rw [Phi_cast m c t h, Phi_succ m c t h']
  unfold PhiFly Dat.owesAt Pipeline.owesWithin
  rw [show (dats m 0 c).owed t.castSucc = 0 from rfl, show (dats m 0 c).owed t.succ = 0 from rfl]
  iintro ⟨⟨HA, HF, HX, Hg⟩, ⟨%W, -, HW⟩, ⟨%d0, H0⟩, ⟨%d1, H1⟩, ⟨%d2, H2⟩, ⟨%d3, H3⟩, ⟨%d4, H4⟩, H5⟩
  rw [before_0 m c t d0, before_1 m c t d1, before_2 m c t d2, before_3 m c t d3]
  iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (fun e => h ((hcond1 t).mp e)) ((hcond2 t).mpr h') (fun e => h' ((hcond3 t).mp e))
    (win0_0.fill (grid0.coords t) d0 (iblk m c 0 t)) (hsB m c t) (win0_2.fill (grid0.coords t) d2 (iblk m c 2 t)) _ _)
  isplitl [H0]; · iexact H0
  isplitl [H1]; · iexact H1
  isplitl [H2]; · iexact H2
  isplitl [H4]; · iexists _; iexact H4
  isplitl [HA]; · iexact HA
  rw [step_mid m c t h h' d0 d2, codes_whole m c t h' d0]
  iintro ⟨H0, H1, H2, H4, HA⟩
  isplitl [HA HF HX Hg]
  · isplitl [HA]; · iexact HA
    isplitl [HF]; · iexact HF
    isplitl [HX]; · iexact HX
    iexact Hg
  isplitl [HW]
  · iexists W; isplitr; · ipureintro; exact fun _ _ => Or.inl trivial
    iexact HW
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists (codesB m c t); rw [win0_4.fill_cut]; iexact H4
  iexact H5

/-- The last, partial step. -/
theorem body_last (c : Dev nD) (t : Fin cfg0.N) (h : t.val % 11 = 10) :
    bodyPre m c t ⊢ wp frame (wpE (defs₀ (F := F)) Variants.none c none) Set.univ (bodyAt0 t)
      (fun _ => bodyPost m c t iprop(owns (c : Thread nD τ) (win0_5.stage (cfg0.slots t 5)) fullShare (yB m c t))) := by
  unfold bodyPre bodyPost bodyAt0
  rw [Phi_cast m c t (by omega), Phi_end m c t h]
  unfold PhiFly PhiIdle Dat.owesAt Pipeline.owesWithin
  rw [show (dats m 0 c).owed t.castSucc = 0 from rfl, show (dats m 0 c).owed t.succ = 0 from rfl]
  iintro ⟨⟨HA, HF, HX, Hg⟩, ⟨%W, -, HW⟩, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3]
  iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (grid0.coords (start t.val t.isLt)) ((hcond1 _).mpr (start_mod _ _))
    (fun e => by have := (hcond1 t).mp e; omega) (fun e => (hcond2 t).mp e h) ((hcond3 t).mpr h)
    (win0_0.fill (grid0.coords t) d0 (iblk m c 0 t)) (hsB m c t) (win0_2.fill (grid0.coords t) d2 (iblk m c 2 t)) (sdB m c t) _ (V m c main_arg4) W _)
  isplitl [H0]; · iexact H0
  isplitl [H1]; · iexact H1
  isplitl [H2]; · iexact H2
  isplitl [H3]; · iexact H3
  isplitl [H4]; · iexists _; iexact H4
  isplitl [H5]; · iexists _; iexact H5
  isplitl [HA]; · iexact HA
  isplitl [HF]; · iexact HF
  isplitl [HX]; · iexact HX
  isplitl [HW]; · iexact HW
  iintro ⟨H0, H1, H2, H3, ⟨%d, H4⟩, H5, HA, HB, HS, HX, ⟨%W', HW'⟩⟩
  isplitl [HA HB HS HX Hg]
  · isplitl [HA]; · iexact HA
    isplitl [HB]; · iexact HB
    isplitl [HS]; · iexact HS
    isplitl [HX]; · iexact HX
    iexact Hg
  isplitl [HW']
  · iexists W'; isplitr; · ipureintro; exact fun _ _ => Or.inl trivial
    iexact HW'
  isplitl [H0]
  · iexists d0; unfold hidB; rw [win0_0.cut_fill]; iexact H0
  isplitl [H1]; · iexact H1
  isplitl [H2]
  · iexists d2; unfold wB; rw [win0_2.cut_fill]; iexact H2
  isplitl [H3]; · iexact H3
  isplitl [H4]
  · iexists _; rw [← codes_last m c t h d0 d, win0_4.fill_cut]; iexact H4
  rw [y_last m c t h d0 d2]; iexact H5

/-- The body obligation: the three kinds of step. -/
theorem body_obligation (c : Dev nD) : BodyObligationLoose (dats (F := F) m 0 c) (defs₀ (F := F)) Variants.none () Set.univ := fun t => by
  rw [bigSep_W0, bigSep_W0, defs₀_row]
  simp only
  rw [show idle0 4 (grid0.coords t) = false from idle_4 t]
  by_cases h : t.val % 11 = 10
  · rw [show idle0 5 (grid0.coords t) = false from idle_5 t h]
    simp only
    rw [after_0, after_1, after_2, after_3, after_4, after_5]
    exact body_last m c t h
  · rw [show idle0 5 (grid0.coords t) = true from idle_5' t h, show (win0 5).flush t = false from flush_5 t h]
    simp only
    rw [after_0, after_1, after_2, after_3, after_4]
    by_cases h0 : t.val % 11 = 0
    · exact body_first m c t h0
    · exact body_mid m c t h0 h

/-! ## The run and the frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- At the start the scratch buffers hold anything, the semaphore is at zero and the residual array is whole, -/
theorem Phi_in (c : Dev nD) : Pipeline.ΦD osem0 spec0 H0 (V m) c ⊢ (dats m 0 c).Φ 0 := by
  rw [show (dats m 0 c).Φ 0 = PhiIdle m c from by dsimp only [dats]; exact dif_pos (Nat.zero_mod 11), Pipeline.ΦD_eq, scopedRest0_eq, ownSems00_eq, hbmPts0_eq]
  unfold PhiIdle
  rw [show (accM : Memref sig .tc .vmem S640x4096 .f32) = Memref.whole cc0_scratch0 from rfl]
  simp only [owns_whole]
  iintro ⟨⟨HA, HB⟩, Hg, HS, HX⟩
  isplitl [HA]; · iexact HA
  isplitl [HB]; · iexact HB
  isplitl [HS]; · iexact HS
  isplitl [HX]; · iexact HX
  iexact Hg
/-- and so at the end. -/
theorem Phi_out (c : Dev nD) : (dats m 0 c).Φ (Fin.last _) ⊢ Pipeline.ΦD osem0 spec0 H0 (V m) c := by
  rw [show (dats m 0 c).Φ (Fin.last _) = PhiIdle m c from by dsimp only [dats]; rw [dif_pos (by decide +kernel)], Pipeline.ΦD_eq, scopedRest0_eq, ownSems00_eq, hbmPts0_eq]
  unfold PhiIdle
  rw [show (accM : Memref sig .tc .vmem S640x4096 .f32) = Memref.whole cc0_scratch0 from rfl]
  simp only [owns_whole]
  iintro ⟨HA, HB, HS, HX, Hg⟩
  isplitl [HA HB]
  · isplitl [HA]; · iexact HA
    iexact HB
  isplitl [Hg]; · iexact Hg
  isplitl [HS]; · iexact HS
  iexact HX

set_option backward.isDefEq.respectTransparency.types false in
/-- Every execution terminates without a fault, the arrays holding what the write-backs made of them and
    every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => body_obligation m c) (hshare := fun c => (dats m 0 c).share_full fun _ => rfl)
    (howed := fun _ _ => rfl) (V := V m) (hmain := hmain m Variants.none) (hA := A_eq m)
    (hin := Phi_in m) (hout := Phi_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched. -/
theorem kept (r) (h : Pipeline.FramePost cfgs (dats (F := F) m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- THE FRAME: the program terminates without a fault, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main_quiescent m ρ)

end Cert.DownIdeal.Hand

end
-- ==== Proof.DownMath.lean ====
/- The down projection: what the two arrays hold, in terms of the arguments. -/
module

public import Idealize.ShloMosaic.Lib.Pipeline.ValueKit
public import Idealize.ShloMosaic.Lib.Pointwise

@[expose] public section

noncomputable section

open Idealize.ShloMosaic

namespace Cert.DownMath

/-- A value over its scale, clipped to ±448. -/
def codeOf (v scale : EReal) : EReal :=
  min (Ideal.ofBits FTy.f32 1138753536#32) (max (Ideal.ofBits FTy.f32 3286237184#32) (Ideal.div v scale))

section
variable (H : FVec Ideal ⟨3, ![6, 10944, 1280]⟩ .f32) (t : FVec Ideal ⟨3, ![6, 1, 1280]⟩ .f32)
  (W : FVec Ideal ⟨2, ![10944, 4096]⟩ .fp8e4m3) (s : FVec Ideal ⟨1, ![4096]⟩ .f32)
  (x : FVec Ideal ⟨2, ![7680, 4096]⟩ .f32)

/-- The code of the hidden value at batch `b`, column `f` and position `p`. -/
def codeAt (b : Fin 6) (f : Fin 10944) (p : Fin 1280) : EReal := codeOf (H (ix3 b f p)) (t (ix3 b 0 p))

/-- The codes of the hidden values. -/
def codes : FVec Ideal ⟨3, ![6, 10944, 1280]⟩ .fp8e4m3 := fun j => codeAt H t (j 0) (j 1) (j 2)

/-- The output at token `r` and column `d`: the residual stream plus the product of the token's codes with the weight's
    codes, times the token's scale and the column's scale. -/
def yAt (r : Fin 7680) (d : Fin 4096) : EReal :=
  x (ix2 r d)
    + (∑ f : Fin 10944, codeAt H t ⟨r.val / 1280, by omega⟩ f ⟨r.val % 1280, by omega⟩ * W (ix2 f d))
      * t (ix3 ⟨r.val / 1280, by omega⟩ 0 ⟨r.val % 1280, by omega⟩) * s (ix1 d)

/-- The output. -/
def y : FVec Ideal ⟨2, ![7680, 4096]⟩ .bf16 := fun j => yAt H t W s x (j 0) (j 1)

end

/-- A sum over eleven runs of 1024 is a sum over the numbers below 11264. -/
theorem sum_runs (g : ℕ → EReal) (n : ℕ) :
    ∑ k ∈ Finset.range n, ∑ i ∈ Finset.range 1024, g (k * 1024 + i) = ∑ j ∈ Finset.range (n * 1024), g j := by
  induction n with
  | zero => rw [Nat.zero_mul]; rfl
  | succ n ih => rw [Finset.sum_range_succ, ih, Nat.succ_mul, Finset.sum_range_add]

/-- Of a function that is zero from 10944 on, it is the sum over the first 10944 numbers. -/
theorem sum_columns (g : ℕ → EReal) (hg : ∀ n, 10944 ≤ n → g n = 0) :
    ∑ k ∈ Finset.range 11, ∑ i ∈ Finset.range 1024, g (k * 1024 + i) = ∑ f : Fin 10944, g f.val := by
  rw [sum_runs, show 11 * 1024 = 10944 + 320 from rfl, Finset.sum_range_add,
    Finset.sum_eq_zero (fun i _ => hg _ (Nat.le_add_right _ _)), add_zero, Fin.sum_univ_eq_sum_range g]

end Cert.DownMath

end
-- ==== Proof.DownKernel.lean ====
/- The down projection's kernel: its two arrays. -/
module

public import proofs.«01_k».proof.Proof.DownIdealFrame
public import proofs.«01_k».proof.Proof.DownMath

@[expose] public section

set_option maxRecDepth 16384

noncomputable section

open Idealize.ShloMosaic Idealize.ShloMosaic.TcCoe Idealize.SL.Sem
open Idealize.ShloMosaic.Pipeline (Dat Window)

namespace Cert.DownIdeal.Value
open Cert.DownIdeal Cert.DownIdeal.Gen Cert.DownIdeal.Hand
variable (m : (ℓ : Loc nD τ sig) → Buf (Elt Ideal) ℓ) (ρ : Dev nD → PrngReg)

/-- A block of codes over 1024 columns, one at a time. -/
theorem pay2 (v9 : FVec Ideal S1x1024x640 .f32) (v11 : FVec Ideal S1x1x640 .f32) (r : Fin 1024) (p : Fin 640) :
    k0_pay2 (F := Ideal) v9 v11 (ix2 r p) = DownMath.codeOf (v9 (ix3 0 r p)) (v11 (ix3 0 0 p)) := by
  pointwise [k0_pay2, DownMath.codeOf]

theorem pay3 (v9 : FVec Ideal S1x1024x640 .f32) (v11 : FVec Ideal S1x1x640 .f32) (r : Fin 1024) (p : Fin 640) :
    k0_pay3 (F := Ideal) v9 v11 (ix3 0 r p) = DownMath.codeOf (v9 (ix3 0 r p)) (v11 (ix3 0 0 p)) := by
  pointwise [k0_pay3, k0_pay2, DownMath.codeOf]

/-- A block of codes over the 704 remaining columns, one at a time. -/
theorem pay6 (v9 : FVec Ideal S1x704x640 .f32) (v11 : FVec Ideal S1x1x640 .f32) (r : Fin 704) (p : Fin 640) :
    k0_pay6 (F := Ideal) v9 v11 (ix2 r p) = DownMath.codeOf (v9 (ix3 0 r p)) (v11 (ix3 0 0 p)) := by
  pointwise [k0_pay6, DownMath.codeOf]

theorem pay7 (v9 : FVec Ideal S1x704x640 .f32) (v11 : FVec Ideal S1x1x640 .f32) (r : Fin 704) (p : Fin 640) :
    k0_pay7 (F := Ideal) v9 v11 (ix3 0 r p) = DownMath.codeOf (v9 (ix3 0 r p)) (v11 (ix3 0 0 p)) := by
  pointwise [k0_pay7, k0_pay6, DownMath.codeOf]

/-- The cleared accumulator. -/
theorem pay1 (p : Fin 640) (d : Fin 4096) : k0_pay1 (F := Ideal) (ix2 p d) = 0 := by
  pointwise [k0_pay1]

/-- The accumulator with the product over 1024 columns added. -/
theorem pay4 (v9 : FVec Ideal S1x1024x640 .f32) (v11 : FVec Ideal S1x1x640 .f32) (a : FVec Ideal S640x4096 .f32)
    (v24 : FVec Ideal S1024x4096 .fp8e4m3) (p : Fin 640) (d : Fin 4096) : k0_pay4 v9 v11 a v24 (ix2 p d)
    = a (ix2 p d) + ∑ r : Fin 1024, DownMath.codeOf (v9 (ix3 0 r p)) (v11 (ix3 0 0 p)) * v24 (ix2 r d) := by
  pointwise [k0_pay4, k0_pay2, DownMath.codeOf]

/-- The accumulator with the product over the 704 remaining columns added. -/
theorem pay8 (v9 : FVec Ideal S1x704x640 .f32) (v11 : FVec Ideal S1x1x640 .f32) (a : FVec Ideal S640x4096 .f32)
    (v24 : FVec Ideal S704x4096 .fp8e4m3) (p : Fin 640) (d : Fin 4096) : k0_pay8 v9 v11 a v24 (ix2 p d)
    = a (ix2 p d) + ∑ r : Fin 704, DownMath.codeOf (v9 (ix3 0 r p)) (v11 (ix3 0 0 p)) * v24 (ix2 r d) := by
  pointwise [k0_pay8, k0_pay6, DownMath.codeOf]

/-- The scales turned into 128 equal columns. -/
theorem pay9 (v : FVec Ideal S1x1x640 .f32) (p : Fin 640) (l : Fin 128) : k0_pay9 v (ix2 p l) = v (ix3 0 0 p) := by
  pointwise [k0_pay9]

/-- Thirty-two copies of the lanes side by side, read at a column. -/
theorem lanes (v : FVec Ideal S640x128 .f32)
    (h : Shape.Concatenates ((List.replicate 32 (⟨S640x128, v⟩ : (s : Shape) × (s.Idx → Ideal .f32))).map (·.1)) S640x4096 1)
    (r : Fin 640) (d : Fin 4096) :
    concatenate S640x4096 1 (List.replicate 32 (⟨S640x128, v⟩ : (s : Shape) × (s.Idx → Ideal .f32))) h (ix2 r d)
    = v (ix2 r ⟨d.val % 128, by omega⟩) := by
  refine concatenate_replicate_apply 1 32 v h rfl (ix2 r d) (ix2 r ⟨d.val % 128, by omega⟩) rfl ?_
  intro b hb
  match b with
  | ⟨0, _⟩ => rfl
  | ⟨1, _⟩ => exact absurd rfl hb

/-- The output block, for any spread of the scales over the columns. -/
theorem out (x a L : FVec Ideal S640x4096 .f32) (s : FVec Ideal S1x4096 .f32) (p : Fin 640) (d : Fin 4096) :
    truncf .bf16 (addf x (mulf (mulf a L)
      (broadcastTo S640x4096 (shapeCast S1x4096 s shapeCasts_S1x4096_S1x4096) broadcasts_S1x4096_S640x4096)))
      bitsLt_bf16_f32 (ix2 p d)
    = x (ix2 p d) + a (ix2 p d) * L (ix2 p d) * s (ix2 0 d) := by
  pointwise []

/-- The output block, one value at a time. -/
theorem pay5 (v : FVec Ideal S640x128 .f32) (x a : FVec Ideal S640x4096 .f32) (s : FVec Ideal S1x4096 .f32)
    (p : Fin 640) (d : Fin 4096) : k0_pay5 v x a s (ix2 p d)
    = x (ix2 p d) + a (ix2 p d) * v (ix2 p ⟨d.val % 128, by omega⟩) * s (ix2 0 d) := by
  refine (out x a _ s p d).trans ?_
  exact congrArg (fun z => x (ix2 p d) + a (ix2 p d) * z * s (ix2 0 d)) (lanes v _ p d)

/-- Which block each window shows at grid point `t`. -/
theorem idx : ∀ t : Fin cfg0.N, win0_0.index t = ![t.val / 22, t.val % 11, t.val / 11 % 2]
    ∧ win0_1.index t = ![t.val / 22, 0, t.val / 11 % 2] ∧ win0_2.index t = ![t.val % 11, 0] ∧ win0_3.index t = ![0, 0]
    ∧ win0_4.index t = ![t.val / 22, t.val % 11, t.val / 11 % 2] ∧ win0_5.index t = ![t.val / 11, 0] :=
  (by decide +kernel : ∀ t : Fin grid0.N, _)

variable (c : Dev nD) (t : Fin cfg0.N)

theorem ht : t.val < 132 := lt_of_lt_of_eq t.isLt Gen.N_0

theorem rd1 (p : Fin 640) : hsB m c t (ix3 0 0 p)
    = m ((c : Thread nD τ).loc main_arg1) (ix3 ⟨t.val / 11 / 2, by have := ht t; omega⟩ 0
      ⟨t.val / 11 % 2 * 640 + p.val, by omega⟩) := by
  have := ht t
  blk_ext! [hsB, iblk, V, idx t]

theorem rd3 (d : Fin 4096) : sdB m c t (ix2 0 d) = m ((c : Thread nD τ).loc main_arg3) (ix1 d) := by
  blk_ext! [sdB, iblk, V, idx t]

/-- The rows of the hidden values' block that lie inside the array. -/
theorem size0 : ∀ t : Fin cfg0.N, win0_0.xsize (grid0.coords t) = ![1, min 1024 (10944 - t.val % 11 * 1024), 640] :=
  (by decide +kernel : ∀ t : Fin grid0.N, _)
/-- The rows of the weights' block that lie inside the array. -/
theorem size2 : ∀ t : Fin cfg0.N, win0_2.xsize (grid0.coords t) = ![min 1024 (10944 - t.val % 11 * 1024), 4096] :=
  (by decide +kernel : ∀ t : Fin grid0.N, _)
/-- The rows of the codes' block that lie inside the array. -/
theorem size4 : ∀ t : Fin cfg0.N, win0_4.xsize (grid0.coords t) = ![1, min 1024 (10944 - t.val % 11 * 1024), 640] :=
  (by decide +kernel : ∀ t : Fin grid0.N, _)

/-- The hidden values' block inside the array. -/
theorem rd0 (r : Fin 1024) (p : Fin 640) (h : t.val % 11 * 1024 + r.val < 10944) : hidB m c t (ix3 0 r p)
    = m ((c : Thread nD τ).loc main_arg0) (ix3 ⟨t.val / 11 / 2, by have := ht t; omega⟩
      ⟨t.val % 11 * 1024 + r.val, h⟩ ⟨t.val / 11 % 2 * 640 + p.val, by omega⟩) := by
  have := ht t
  have hm : win0_0.moved (grid0.coords t) (ix3 0 r p) = true := (win0_0.moved_iff _ _).mpr fun a => by
    rw [size0 t]
    match a with
    | ⟨0, _⟩ => exact Nat.zero_lt_one
    | ⟨1, _⟩ => show r.val < min 1024 (10944 - t.val % 11 * 1024); omega
    | ⟨2, _⟩ => exact p.isLt
  unfold hidB Window.fill
  rw [dif_pos hm]
  blk_ext! [iblk, V, idx t]

/-- The weights' block inside the array. -/
theorem rd2 (r : Fin 1024) (d : Fin 4096) (h : t.val % 11 * 1024 + r.val < 10944) : wB m c t (ix2 r d)
    = m ((c : Thread nD τ).loc main_arg2) (ix2 ⟨t.val % 11 * 1024 + r.val, h⟩ d) := by
  have := ht t
  have hm : win0_2.moved (grid0.coords t) (ix2 r d) = true := (win0_2.moved_iff _ _).mpr fun a => by
    rw [size2 t]
    match a with
    | ⟨0, _⟩ => show r.val < min 1024 (10944 - t.val % 11 * 1024); omega
    | ⟨1, _⟩ => exact d.isLt
  unfold wB Window.fill
  rw [dif_pos hm]
  blk_ext! [iblk, V, idx t]

/-- The codes of the kernel's arguments. -/
abbrev code (b : Fin 6) (f : Fin 10944) (p : Fin 1280) : EReal := DownMath.codeAt (m ((c : Thread nD τ).loc main_arg0)) (m ((c : Thread nD τ).loc main_arg1)) b f p

theorem ld0 (X : Vec Ideal S1x1024x640 .f32) (r : Fin 704) (p : Fin 640) :
    View.ld (Val := Elt Ideal) X tailRect (ix3 0 r p) = X (ix3 0 ⟨r.val, by omega⟩ p) :=
  congrArg X (funext fun a => Fin.ext (by
    match a with
    | ⟨0, _⟩ => rfl
    | ⟨1, _⟩ => show 0 + 1 * r.val = r.val; omega
    | ⟨2, _⟩ => show 0 + 1 * p.val = p.val; omega))

theorem ld2 (X : Vec Ideal S1024x4096 .fp8e4m3) (r : Fin 704) (d : Fin 4096) :
    View.ld (Val := Elt Ideal) X tailRectW (ix2 r d) = X (ix2 ⟨r.val, by omega⟩ d) :=
  congrArg X (funext fun a => Fin.ext (by
    match a with
    | ⟨0, _⟩ => show 0 + 1 * r.val = r.val; omega
    | ⟨1, _⟩ => show 0 + 1 * d.val = d.val; omega))

/-- The codes' block, inside the array, one code at a time. -/
theorem codesB_at (r : Fin 1024) (p : Fin 640) (h : t.val % 11 * 1024 + r.val < 10944) : codesB m c t (ix3 0 r p)
    = code m c ⟨t.val / 11 / 2, by have := ht t; omega⟩ ⟨t.val % 11 * 1024 + r.val, h⟩
      ⟨t.val / 11 % 2 * 640 + p.val, by omega⟩ := by
  unfold codesB
  by_cases hl : t.val % 11 = 10
  · have hr : r.val < 704 := by omega
    have hw : ∀ a : Fin 3, (![0, 0, 0] : Fin 3 → ℕ) a ≤ ((ix3 0 r p : S1x1024x640.Idx) a).val
        ∧ ((ix3 0 r p : S1x1024x640.Idx) a).val < (![0, 0, 0] : Fin 3 → ℕ) a + S1x704x640.size a := fun a => by
      match a with
      | ⟨0, _⟩ => exact ⟨Nat.le_refl _, Nat.zero_lt_one⟩
      | ⟨1, _⟩ => exact ⟨Nat.zero_le _, by show r.val < 0 + 704; omega⟩
      | ⟨2, _⟩ => exact ⟨Nat.zero_le _, by show p.val < 0 + 640; omega⟩
    rw [if_pos hl]
    unfold VecWindow.put
    rw [dif_pos hw]
    have e : Rect.unitLocal (s := S1x1024x640) (off := ![0, 0, 0]) (size := S1x704x640.size) (ix3 0 r p) hw
        = (ix3 0 ⟨r.val, hr⟩ p : S1x704x640.Idx) := funext fun a => Fin.ext (by
      match a with
      | ⟨0, _⟩ => rfl
      | ⟨1, _⟩ => rfl
      | ⟨2, _⟩ => rfl)
    rw [e]
    refine (pay7 _ _ _ _).trans ?_
    rw [ld0, rd0 m c t r p h, rd1]
    rfl
  · rw [if_neg hl]
    refine (pay3 _ _ _ _).trans ?_
    rw [rd0 m c t r p h, rd1]
    rfl

/-- The codes the kernel writes. -/
theorem finalA (c : Dev nD) : (dats m 0 c).arrAt 4 cfg0.N = DownMath.codes (m ((c : Thread nD τ).loc main_arg0)) (m ((c : Thread nD τ).loc main_arg1)) := by
  refine (dats m 0 c).arrAt_eq_of_covers 4 _ (by decide +kernel) fun t _ y => ?_
  have := ht t
  blk_simp
  rw [after_4]
  have s0 := (y 0).isLt.trans_eq (congrFun (size4 t) 0)
  have s1 := (y 1).isLt.trans_eq (congrFun (size4 t) 1)
  have s2 := (y 2).isLt.trans_eq (congrFun (size4 t) 2)
  replace s0 : (y 0).val < 1 := s0
  replace s1 : (y 1).val < min 1024 (10944 - t.val % 11 * 1024) := s1
  replace s2 : (y 2).val < 640 := s2
  have e : (cfg0.win 4).xinj (grid0.coords t) y
      = (ix3 0 ⟨(y 1).val, by omega⟩ ⟨(y 2).val, s2⟩ : S1x1024x640.Idx) := funext fun a => Fin.ext (by
    match a with
    | ⟨0, _⟩ => show (y 0).val = 0; omega
    | ⟨1, _⟩ => rfl
    | ⟨2, _⟩ => rfl)
  have e' : ((cfg0.win 4).blk t).view.emb y = ix3 ⟨t.val / 11 / 2, by omega⟩ ⟨t.val % 11 * 1024 + (y 1).val, by omega⟩
      ⟨t.val / 11 % 2 * 640 + (y 2).val, by omega⟩ := by
    blk_ext [idx t]
  refine (congrArg (codesB m c t) e).trans ((codesB_at m c t _ _ (by dsimp only; omega)).trans ?_)
  rw [e']
  rfl

/-- One product of the sum that token block `q` takes for its row `p` and column `d`; zero past the last column. -/
def prod (q : ℕ) (p : Fin 640) (d : Fin 4096) (n : ℕ) : EReal :=
  if h : n < 10944 ∧ q < 12 then
    code m c ⟨q / 2, by omega⟩ ⟨n, h.1⟩ ⟨q % 2 * 640 + p.val, by omega⟩ * (m ((c : Thread nD τ).loc main_arg2)) (ix2 ⟨n, h.1⟩ d)
  else 0

theorem term (r : Fin 1024) (p : Fin 640) (d : Fin 4096) (h : t.val % 11 * 1024 + r.val < 10944) :
    DownMath.codeOf (hidB m c t (ix3 0 r p)) (hsB m c t (ix3 0 0 p)) * wB m c t (ix2 r d)
    = prod m c (t.val / 11) p d (t.val % 11 * 1024 + r.val) := by
  have := ht t
  rw [rd0 m c t r p h, rd1, rd2 m c t r d h, prod, dif_pos ⟨h, by omega⟩]
  rfl

/-- One step adds one run of 1024 products. -/
theorem accStep_at (a : FVec Ideal S640x4096 .f32) (p : Fin 640) (d : Fin 4096) : accStep m c t a (ix2 p d)
    = a (ix2 p d) + ∑ r ∈ Finset.range 1024, prod m c (t.val / 11) p d (t.val % 11 * 1024 + r) := by
  unfold accStep
  by_cases hl : t.val % 11 = 10
  · rw [if_pos hl]
    refine (pay8 _ _ _ _ _ _).trans (congrArg (a (ix2 p d) + ·) ?_)
    rw [show (1024 : ℕ) = 704 + 320 from rfl, Finset.sum_range_add,
      Finset.sum_eq_zero (s := Finset.range 320) (fun r _ => dif_neg fun h => by omega), add_zero,
      Finset.sum_range]
    refine Finset.sum_congr rfl fun r _ => ?_
    rw [ld0, ld2]
    exact term m c t ⟨r.val, by omega⟩ p d (by dsimp only; omega)
  · rw [if_neg hl]
    refine (pay4 _ _ _ _ _ _).trans (congrArg (a (ix2 p d) + ·) ?_)
    rw [Finset.sum_range]
    exact Finset.sum_congr rfl fun r _ => term m c t r p d (by omega)

/-- At the partial step the accumulator holds the sum over all columns. -/
theorem accAfter_last (h : t.val % 11 = 10) (p : Fin 640) (d : Fin 4096) : accAfter m c t.val t.isLt (ix2 p d)
    = ∑ f : Fin 10944, prod m c (t.val / 11) p d f.val := by
  have e := Pipeline.eq_sum_of_reset_step_apply_of_mod (M := EReal) (accAfter m c) 11 (fun _ => 0)
    (fun n j => ∑ r ∈ Finset.range 1024, prod m c (n / 11) (j 0) (j 1) (n % 11 * 1024 + r))
    (fun t h j => by
      rw [accAfter_first m c t h]
      idx_vars j
      refine (accStep_at m c t _ _ _).trans ?_
      rw [pay1])
    (fun t h j => by
      rw [accAfter_next m c t h]
      idx_vars j
      exact accStep_at m c t _ _ _) t h (ix2 p d)
  refine e.trans ?_
  rw [zero_add, ← DownMath.sum_columns _ fun n hn => dif_neg fun h => by omega]
  refine Finset.sum_congr rfl fun k hk => Finset.sum_congr rfl fun r _ => ?_
  have hk := Finset.mem_range.mp hk
  show prod m c ((11 * (t.val / 11) + k) / 11) p d ((11 * (t.val / 11) + k) % 11 * 1024 + r) = _
  rw [show (11 * (t.val / 11) + k) / 11 = t.val / 11 by omega, show (11 * (t.val / 11) + k) % 11 = k by omega]

/-- Where the copied rows of a token block start. -/
theorem off1 : ∀ t : Fin cfg0.N, k0_off1 (grid0.coords t) = ![t.val / 11 * 640, 0] :=
  (by decide +kernel : ∀ t : Fin grid0.N, _)

theorem rows (h : t.val % 11 = 0) (p : Fin 640) (d : Fin 4096) : rowsB m c t h (ix2 p d)
    = (m ((c : Thread nD τ).loc main_arg4)) (ix2 ⟨t.val / 11 * 640 + p.val, by have := ht t; omega⟩ d) := by
  refine (congrFun (V_main_arg4 m c) _).trans (congrArg _ (funext fun a => Fin.ext ?_))
  match a with
  | ⟨0, _⟩ =>
    show k0_off1 (grid0.coords t) 0 + 1 * p.val = t.val / 11 * 640 + p.val
    rw [off1 t]
    show t.val / 11 * 640 + 1 * p.val = _
    omega
  | ⟨1, _⟩ =>
    show k0_off1 (grid0.coords t) 1 + 1 * d.val = d.val
    rw [off1 t]
    show 0 + 1 * d.val = _
    omega

/-- The output block, one value at a time. -/
theorem yB_at (h : t.val % 11 = 10) (p : Fin 640) (d : Fin 4096) : yB m c t (ix2 p d)
    = DownMath.yAt (m ((c : Thread nD τ).loc main_arg0)) (m ((c : Thread nD τ).loc main_arg1)) (m ((c : Thread nD τ).loc main_arg2)) (m ((c : Thread nD τ).loc main_arg3)) (m ((c : Thread nD τ).loc main_arg4)) ⟨t.val / 11 * 640 + p.val, by have := ht t; omega⟩ d := by
  have := ht t
  refine (pay5 _ _ _ _ _ _).trans ?_
  rw [pay9, rows, accAfter_last m c t h, rd1, rd3]
  have hs : (start t.val t.isLt).val / 11 = t.val / 11 := by dsimp only [start]; omega
  have hb : (⟨t.val / 11 / 2, by omega⟩ : Fin 6) = ⟨(t.val / 11 * 640 + p.val) / 1280, by omega⟩ :=
    Fin.ext (by dsimp only; omega)
  have hp : (⟨t.val / 11 % 2 * 640 + p.val, by omega⟩ : Fin 1280) = ⟨(t.val / 11 * 640 + p.val) % 1280, by omega⟩ :=
    Fin.ext (by dsimp only; omega)
  unfold DownMath.yAt
  simp only [hs]
  rw [← hb, ← hp]
  have hf : ∑ f : Fin 10944, prod m c (t.val / 11) p d f.val = ∑ f : Fin 10944,
      code m c ⟨t.val / 11 / 2, by omega⟩ f ⟨t.val / 11 % 2 * 640 + p.val, by omega⟩ * (m ((c : Thread nD τ).loc main_arg2)) (ix2 f d) :=
    Finset.sum_congr rfl fun f _ => dif_pos ⟨f.isLt, by omega⟩
  rw [hf]

/-- The output the kernel writes. -/
theorem finalB (c : Dev nD) : (dats m 0 c).arrAt 5 cfg0.N = DownMath.y (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have := ht t
  blk_simp
  rw [after_5]
  idx_vars y
  have e' : ((cfg0.win 5).blk t).view.emb (ix2 y0 y1) = ix2 ⟨t.val / 11 * 640 + y0.val, by omega⟩ y1 := by
    blk_ext [idx t]
  rw [e']
  exact yB_at m c t ((flush0_5 t).mp hf) y0 y1

/-- The run, with each output array named and the arguments unchanged. -/
theorem run_blocks : θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 4, (h c).1 5, kept m r h c⟩) (run_main m ρ)

end Cert.DownIdeal.Value

end
-- ==== Proof.DownReference.lean ====
/- The down projection's reference: its two arrays. -/
module

public import proofs.«01_k».proof.Proof.Gen.DownRefIdeal.Frame
public import proofs.«01_k».proof.Proof.DownMath

@[expose] public section

set_option maxRecDepth 16384

noncomputable section

open Idealize.ShloMosaic Idealize.ShloMosaic.TcCoe Idealize.SL.Sem
open Idealize.ShloMosaic.Pipeline (Dat Window)

namespace Cert.DownRefIdeal.Value
open Cert.DownRefIdeal Cert.DownRefIdeal.Gen
variable (m : (ℓ : Loc nD τ sig) → Buf (Elt Ideal) ℓ) (ρ : Dev nD → PrngReg)

/-- The scales, one at a time. -/
theorem pay1 (v : FVec Ideal S7680x1 .f32) (r : Fin 7680) : k0_pay1 v (ix2 r 0) = v (ix2 r 0) := by
  pointwise [k0_pay1]

/-- The codes by tokens, one at a time. -/
theorem pay2 (v0 : FVec Ideal S6x10944x1280 .f32) (v3 : FVec Ideal S7680x1 .f32) (r : Fin 7680) (f : Fin 10944) :
    k0_pay2 (F := Ideal) v0 v3 (ix2 r f)
    = DownMath.codeOf (v0 (ix3 ⟨r.val / 1280, by omega⟩ f ⟨r.val % 1280, by omega⟩)) (v3 (ix2 r 0)) := by
  pointwise [k0_pay2, k0_pay1, DownMath.codeOf]

/-- Rows of 7680 tokens turned into batches of columns. -/
theorem turn (v : FVec Ideal S7680x10944 .fp8e4m3) (b : Fin 6) (f : Fin 10944) (p : Fin 1280) :
    transpose S6x10944x1280 [0, 2, 1] (shapeCast S6x1280x10944 v shapeCasts_S7680x10944_S6x1280x10944)
      transposes_S6x1280x10944_p0_2_1_S6x10944x1280 (ix3 b f p) = v (ix2 ⟨b.val * 1280 + p.val, by omega⟩ f) := by
  pointwise []

/-- The codes by batches, one at a time. -/
theorem pay3 (v0 : FVec Ideal S6x10944x1280 .f32) (v3 : FVec Ideal S7680x1 .f32) (b : Fin 6) (f : Fin 10944)
    (p : Fin 1280) :
    k0_pay3 (F := Ideal) v0 v3 (ix3 b f p) = DownMath.codeOf (v0 (ix3 b f p)) (v3 (ix2 ⟨b.val * 1280 + p.val, by omega⟩ 0)) := by
  refine (turn _ b f p).trans ((pay2 v0 v3 _ f).trans ?_)
  congr 2
  refine congrArg₂ (fun b p => ix3 b f p) (Fin.ext ?_) (Fin.ext ?_) <;> dsimp only <;> omega

/-- The output, one value at a time, for any codes and scales. -/
theorem out (v12 : FVec Ideal S10944x4096 .fp8e4m3) (v16 : FVec Ideal S1x4096 .f32)
    (v23 : FVec Ideal S7680x4096 .f32) (C : FVec Ideal S7680x10944 .fp8e4m3) (S : FVec Ideal S7680x1 .f32)
    (r : Fin 7680) (d : Fin 4096) :
    truncf .bf16 (addf v23 (mulf (mulf (matmul dot_S7680x10944_S10944x4096_S7680x4096_1_0_0_1_n_n none C v12
        (constant S7680x4096 .f32 0x00000000#32)) (broadcastTo S7680x4096 S broadcasts_S7680x1_S7680x4096))
        (broadcastTo S7680x4096 (shapeCast S1x4096 v16 shapeCasts_S1x4096_S1x4096) broadcasts_S1x4096_S7680x4096)))
      bitsLt_bf16_f32 (ix2 r d)
    = v23 (ix2 r d) + (∑ f : Fin 10944, C (ix2 r f) * v12 (ix2 f d)) * S (ix2 r 0) * v16 (ix2 0 d) := by
  pointwise []

/-- The output, one value at a time. -/
theorem pay4 (v0 v3 v12 v16 v23) (r : Fin 7680) (d : Fin 4096) : k0_pay4 (F := Ideal) v0 v3 v12 v16 v23 (ix2 r d)
    = v23 (ix2 r d) + (∑ f : Fin 10944, DownMath.codeOf (v0 (ix3 ⟨r.val / 1280, by omega⟩ f ⟨r.val % 1280, by omega⟩))
      (v3 (ix2 r 0)) * v12 (ix2 f d)) * v3 (ix2 r 0) * v16 (ix2 0 d) := by
  refine (out v12 v16 v23 (k0_pay2 v0 v3) (k0_pay1 v3) r d).trans ?_
  simp only [pay1, pay2]

theorem idx : ∀ t : Fin cfg0.N, win0_0.index t = ![0, 0, 0] ∧ win0_1.index t = ![0, 0]
    ∧ win0_2.index t = ![0, 0] ∧ win0_3.index t = ![0, 0] ∧ win0_4.index t = ![0, 0] ∧ win0_5.index t = ![0, 0, 0]
    ∧ win0_6.index t = ![0, 0] :=
  (by decide +kernel : ∀ t : Fin grid0.N, _)

variable (c : Dev nD)

theorem rd0 (b : Fin 6) (f : Fin 10944) (p : Fin 1280) : iblk m c 0 t0_0 (ix3 b f p)
    = m ((c : Thread nD τ).loc main_arg0) (ix3 b f p) := by
  blk_ext! [iblk, V, idx t0_0]

theorem rd1 (r : Fin 7680) : iblk m c 1 t0_0 (ix2 r 0)
    = m ((c : Thread nD τ).loc main_arg1) (ix3 ⟨r.val / 1280, by omega⟩ 0 ⟨r.val % 1280, by omega⟩) := by
  blk_ext! [iblk, V, idx t0_0]

theorem rd2 (f : Fin 10944) (d : Fin 4096) : iblk m c 2 t0_0 (ix2 f d)
    = m ((c : Thread nD τ).loc main_arg2) (ix2 f d) := by
  blk_ext! [iblk, V, idx t0_0]

theorem rd3 (d : Fin 4096) : iblk m c 3 t0_0 (ix2 0 d) = m ((c : Thread nD τ).loc main_arg3) (ix1 d) := by
  blk_ext! [iblk, V, idx t0_0]

theorem rd4 (r : Fin 7680) (d : Fin 4096) : iblk m c 4 t0_0 (ix2 r d)
    = m ((c : Thread nD τ).loc main_arg4) (ix2 r d) := by
  blk_ext! [iblk, V, idx t0_0]

/-- The codes the reference writes. -/
theorem finalA (c : Dev nD) : (dats m 0 c).arrAt 5 cfg0.N = DownMath.codes (m ((c : Thread nD τ).loc main_arg0)) (m ((c : Thread nD τ).loc main_arg1)) := by
  refine (dats m 0 c).arrAt_eq_of_after_last 5 t0_0 (by decide +kernel) _ fun j => ?_
  blk_simp
  rw [after0_5]
  frame_out
  idx_vars j
  refine (pay3 _ _ _ _ _).trans ?_
  rw [rd0, rd1]
  have hb : (⟨(j0.val * 1280 + j2.val) / 1280, by omega⟩ : Fin 6) = j0 := Fin.ext (by dsimp only; omega)
  have hp : (⟨(j0.val * 1280 + j2.val) % 1280, by omega⟩ : Fin 1280) = j2 := Fin.ext (by dsimp only; omega)
  rw [hb, hp]
  rfl

/-- The output the reference writes. -/
theorem finalB (c : Dev nD) : (dats m 0 c).arrAt 6 cfg0.N = DownMath.y (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_0 (by decide +kernel) _ fun j => ?_
  blk_simp
  rw [after0_6]
  frame_out
  idx_vars j
  refine (pay4 _ _ _ _ _ _ _).trans ?_
  simp only [rd0, rd1, rd2, rd3, rd4]
  rfl

/-- The run leaves argument 0 as it was. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The run leaves argument 1 as it was. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as it was. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run leaves argument 3 as it was. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument 4 as it was. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The run, with each output array named and the arguments unchanged. -/
theorem run_blocks : θ_run defs (onTc (τ := τ) (main (F := Ideal))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, kept0 m r h c, kept1 m r h c, kept2 m r h c, kept3 m r h c, kept4 m r h c⟩)
    (run_main m ρ)

end Cert.DownRefIdeal.Value

end
-- ==== Proof.Down.lean ====
/- The down projection: the frame of the kernel as printed, and that the kernel's arrays and the reference's arrays are
   the same two functions of the arguments (`DownMath.codes` and `DownMath.y`). -/
module

public import proofs.«01_k».proof.Proof.DownFrame
public import proofs.«01_k».proof.Proof.DownKernel
public import proofs.«01_k».proof.Proof.DownReference
-- ==== Proof.PrepMath.lean ====
/- The first norm with its quantiser and the two gates: what the six arrays hold, in terms of the arguments, and the
   laws by which the kernel's way of computing the gates gives the same values. -/
module

public import proofs.«01_k».proof.Proof.OutMath

@[expose] public section

noncomputable section

open Idealize.ShloMosaic

namespace Cert.PrepMath

/-- The root of a row's mean square (plus 1e-6). -/
def den (row : Fin 4096 → EReal) : EReal :=
  Ideal.sqrt (Ideal.div (∑ k : Fin 4096, row k * row k) (Ideal.ofBits FTy.f32 1166016512#32)
    + Ideal.ofBits FTy.f32 897988541#32)

/-- A gate: 15 times the hyperbolic tangent of the value over 15. -/
def cap (v : EReal) : EReal :=
  Ideal.ofBits FTy.f32 1097859072#32 * Ideal.tanh (Ideal.div v (Ideal.ofBits FTy.f32 1097859072#32))

/-- The logarithm to base 2 of a gate's logistic. -/
def logOf (f : EReal) : EReal :=
  (0 - (max (0 - f) 0 + Ideal.log1p (Ideal.exp (0 - max f (-f))))) * Ideal.ofBits FTy.f32 1069066811#32

section
variable (x : FVec Ideal ⟨3, ![6, 1280, 4096]⟩ .bf16) (w : FVec Ideal ⟨1, ![4096]⟩ .f32)
  (wi wf : FVec Ideal ⟨2, ![4096, 8]⟩ .f32) (bi bf : FVec Ideal ⟨1, ![8]⟩ .f32)
  (off : FVec Ideal ⟨2, ![6, 1280]⟩ .f32)

/-- The input at token `r` and column `d`. -/
def xAt (r : Fin 7680) (d : Fin 4096) : EReal := x (ix3 ⟨r.val / 1280, by omega⟩ ⟨r.val % 1280, by omega⟩ d)

/-- The normed input. -/
def xnAt (r : Fin 7680) (d : Fin 4096) : EReal := OutMath.normAt (xAt x r) (w (ix1 d)) d

/-- The scale of token `r`. -/
def scaleAt (r : Fin 7680) : EReal := OutMath.scaleOf (OutMath.amax (xnAt x w r))

/-- The codes of the normed input. -/
def codes : FVec Ideal ⟨2, ![7680, 4096]⟩ .fp8e4m3 := fun j =>
  OutMath.codeOf (xnAt x w (j 0) (j 1)) (scaleAt x w (j 0))

/-- The scales, each repeated over 128 lanes. -/
def scaleLanes : FVec Ideal ⟨2, ![7680, 128]⟩ .f32 := fun j => scaleAt x w (j 0)

/-- The scales, in rows of 256 tokens. -/
def scaleRow : FVec Ideal ⟨3, ![30, 1, 256]⟩ .f32 := fun j =>
  scaleAt x w ⟨(j 0).val * 256 + (j 2).val, by
    have h0 : (j 0).val < 30 := (j 0).isLt
    have h2 : (j 2).val < 256 := (j 2).isLt
    omega⟩

/-- The product of the normed input with a gate's weights. -/
def dotAt (W : FVec Ideal ⟨2, ![4096, 8]⟩ .f32) (r : Fin 7680) (h : Fin 8) : EReal :=
  ∑ d : Fin 4096, xnAt x w r d * W (ix2 d h)

/-- The input gate at token `r` and head `h`. -/
def igAt (r : Fin 7680) (h : Fin 8) : EReal :=
  cap (dotAt x w wi r h + bi (ix1 h) + off (ix2 ⟨r.val / 1280, by omega⟩ ⟨r.val % 1280, by omega⟩))

/-- The forget gate at token `r` and head `h`. -/
def fgAt (r : Fin 7680) (h : Fin 8) : EReal := cap (dotAt x w wf r h + bf (ix1 h))

/-- The sum, within token `r`'s chunk of 128, of the logarithms of the forget gates up to and including token `r`. -/
def bcAt (r : Fin 7680) (h : Fin 8) : EReal :=
  ∑ s : Fin 128, if s.val ≤ r.val % 128 then logOf (fgAt x w wf bf ⟨r.val / 128 * 128 + s.val, by omega⟩ h) else 0

/-- The token at position `t` of sequence `b`. -/
def tok (b : Fin 6) (t : Fin 1280) : Fin 7680 := ⟨b.val * 1280 + t.val, by omega⟩

/-- The input gates. -/
def ig : FVec Ideal ⟨3, ![6, 8, 1280]⟩ .f32 := fun j => igAt x w wi bi off (tok (j 0) (j 2)) (j 1)

/-- The forget gates. -/
def fg : FVec Ideal ⟨3, ![6, 8, 1280]⟩ .f32 := fun j => fgAt x w wf bf (tok (j 0) (j 2)) (j 1)

/-- The sums of the forget gates' logarithms. -/
def bc : FVec Ideal ⟨3, ![6, 8, 1280]⟩ .f32 := fun j => bcAt x w wf bf (tok (j 0) (j 2)) (j 1)

end

/-! ## The laws -/

/-- A factor that is not negative and not infinite moves into a sum, whatever the terms. -/
theorem sum_mul {n : ℕ} (f : Fin n → EReal) {c : EReal} (h0 : 0 ≤ c) (ht : c ≠ ⊤) :
    (∑ k : Fin n, f k) * c = ∑ k : Fin n, f k * c := by
  have (s : Finset (Fin n)) : (∑ k ∈ s, f k) * c = ∑ k ∈ s, f k * c := by
    induction s using Finset.cons_induction with
    | empty => simp
    | cons a s ha ih =>
      rw [Finset.sum_cons, Finset.sum_cons, EReal.right_distrib_of_nonneg_of_ne_top h0 ht, ih]
  exact this _

theorem mul_self_nonneg (a : EReal) : 0 ≤ a * a := by
  induction a with
  | bot => simp
  | top => simp
  | coe a => exact_mod_cast _root_.mul_self_nonneg a

theorem width : Ideal.ofBits FTy.f32 1166016512#32 = ((4096 : ℝ) : EReal) := by
  simp [Ideal.ofBits, Ideal.ieee, -EReal.coe_mul]; norm_num

theorem small : 0 < Ideal.ofBits FTy.f32 897988541#32 := by
  have h : Ideal.ofBits FTy.f32 897988541#32 = (((8796093 : ℝ) * 2 ^ (-43 : ℤ) : ℝ) : EReal) := by
    simp [Ideal.ofBits, Ideal.ieee, -EReal.coe_mul]
  rw [h]
  exact_mod_cast (by norm_num : (0 : ℝ) < 8796093 * 2 ^ (-43 : ℤ))

/-- The root of a mean square plus 1e-6 is positive. -/
theorem den_pos (row : Fin 4096 → EReal) : 0 < den row := by
  unfold den
  have hs : 0 ≤ ∑ k : Fin 4096, row k * row k := Finset.sum_nonneg fun k _ => mul_self_nonneg _
  have hd : 0 ≤ Ideal.div (∑ k : Fin 4096, row k * row k) (Ideal.ofBits FTy.f32 1166016512#32) := by
    rw [width, Ideal.div, if_neg (by norm_num)]
    exact mul_nonneg hs (EReal.inv_nonneg_of_nonneg (by exact_mod_cast (by norm_num : (0 : ℝ) ≤ 4096)))
  have hp := lt_of_lt_of_le small (le_add_of_nonneg_left hd)
  generalize Ideal.div _ _ + _ = a at hp
  induction a with
  | bot => simp at hp
  | top =>
    show (0 : EReal) < ⊤
    exact EReal.zero_lt_top
  | coe a =>
    have ha : (0 : ℝ) < a := by exact_mod_cast hp
    show 0 < (if a < 0 then (⊥ : EReal) else ((Real.sqrt a : ℝ) : EReal))
    rw [if_neg ha.not_gt]
    exact_mod_cast Real.sqrt_pos.2 ha

/-- Division by a positive value is the product with its inverse, -/
theorem div_pos (a : EReal) {b : EReal} (hb : 0 < b) : Ideal.div a b = a * b⁻¹ := by
  rw [Ideal.div, if_neg hb.ne']

/-- which is neither negative nor infinite. -/
theorem inv_ne_top (b : EReal) : b⁻¹ ≠ ⊤ := by
  induction b with
  | bot => simp
  | top => simp
  | coe b => rw [← EReal.coe_inv]; exact EReal.coe_ne_top _

/-- A value is finite if it is neither infinity. -/
def Finite (a : EReal) : Prop := a ≠ ⊤ ∧ a ≠ ⊥

/-- What is left of a finite value after taking it away is nothing. -/
theorem rest {a b : EReal} (ha : Finite a) (hb : Finite b) : a * b - a * b = 0 := by
  lift a to ℝ using ha
  lift b to ℝ using hb
  rw [← EReal.coe_mul, ← EReal.coe_sub, sub_self, EReal.coe_zero]

/-- The product of the input with the weights already multiplied by the norm's, divided by the root of the mean square at
    the end, with the two remainders that are nothing: the product of the normed input with the weights. -/
theorem logit (row w v : Fin 4096 → EReal) (hw : ∀ d, Finite (w d)) (hv : ∀ d, Finite (v d)) :
    Ideal.div (((∑ d : Fin 4096, v d * w d * row d) + ∑ d : Fin 4096, (v d * w d - v d * w d) * row d)
      + ∑ d : Fin 4096, (v d * w d - v d * w d - (v d * w d - v d * w d)) * row d) (den row)
    = ∑ d : Fin 4096, OutMath.normAt row (w d) d * v d := by
  have hd := den_pos row
  simp only [rest (hv _) (hw _), sub_zero, zero_mul, Finset.sum_const_zero, add_zero]
  rw [div_pos _ hd, sum_mul _ (EReal.inv_nonneg_of_nonneg hd.le) (inv_ne_top _)]
  refine Finset.sum_congr rfl fun d _ => ?_
  show v d * w d * row d * (den row)⁻¹ = Ideal.div (row d) (den row) * w d * v d
  rw [div_pos _ hd]
  ac_rfl

/-- Comparing two positions of a chunk as 32-bit words is comparing them. -/
theorem atOrBefore : ∀ s t : Fin 128, IntOp.cmpi .sle (BitVec.ofNat 32 s.val) (BitVec.ofNat 32 t.val)
    = BitVec.ofBool (decide (s.val ≤ t.val)) := by decide +kernel

/-- A value times one or nothing is the value or nothing. -/
theorem mask (p : Prop) [Decidable p] (a : EReal) : a * (if p then 1 else 0) = if p then a else 0 := by
  split <;> simp

/-- The logarithm of the logistic as the reference states it. -/
theorem logOf_neg (f : EReal) : max (0 - f - 0) (-(0 - f - 0)) = max f (-f) := by
  rw [sub_zero, zero_sub, neg_neg, max_comm]

end Cert.PrepMath

end
-- ==== Proof.PrepKernel.lean ====
/- The first norm's and the gates' kernel: each block it computes is a block of the six arrays. -/
module

public import proofs.«01_k».proof.Proof.Gen.PrepIdeal.Value
public import proofs.«01_k».proof.Proof.PrepMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PrepIdeal.Value
open Cert.PrepIdeal Cert.PrepIdeal.Gen
variable (m : (ℓ : Loc nD τ sig) → Buf (Elt Ideal) ℓ) (ρ : Dev nD → PrngReg)

/-- The sum of each row. -/
theorem rowSum (x : FVec Ideal S256x4096 .f32) (r : Fin 256) :
    multiReduction .add [1] S256 x 0x00000000#32 reduces_S256x4096_S256 (.inl rfl) rfl (ix1 r)
    = ∑ d : Fin 4096, x (ix2 r d) := by
  refine (Ideal.multiReduction_add_single x _ _ _ _ _).trans ?_
  refine Finset.sum_congr rfl fun d _ => ?_
  show x _ = x _
  congr 1
  idx_ext

/-- The largest entry of each row. -/
theorem rowMax (x : FVec Ideal S256x4096 .f32) (r : Fin 256) :
    multiReduction .maximumf [1] S256 x 0xFF800000#32 reduces_S256x4096_S256 (.inl rfl) rfl (ix1 r)
    = Finset.univ.fold max (Ideal.ofBits FTy.f32 4286578688#32) (fun d => x (ix2 r d)) := by
  refine (Ideal.multiReduction_maximumf_single x _ _ _ _ _).trans ?_
  have : x ∘ (reduces_S256x4096_S256 : S256x4096.Reduces [1] S256).lift (ix1 r) = fun d => x (ix2 r d) := by
    funext d
    show x _ = x _
    congr 1
    idx_ext
  rw [this]
  rfl

/-- The root of the mean square plus 1e-6, from the sum of squares. -/
theorem rootOf (a : FVec Ideal S256 .f32) (r : Fin 256) :
    sqrt (addf (divf (shapeCast S256x1 a shapeCasts_S256_S256x1)
        (broadcast S256x1 (Scalar.ofBits .f32 0x45800000#32))) (broadcast S256x1 (Scalar.ofBits .f32 0x358637BD#32)))
      (ix2 r 0)
    = Ideal.sqrt (Ideal.div (a (ix1 r)) (Ideal.ofBits FTy.f32 1166016512#32) + Ideal.ofBits FTy.f32 897988541#32) := by
  pointwise []

theorem pay3 (v5) (r : Fin 256) (d : Fin 4096) : k0_pay3 (F := Ideal) v5 (ix2 r d) = v5 (ix2 r d) := by
  pointwise [k0_pay3]

theorem square (v5) (r : Fin 256) (d : Fin 4096) : mulf (k0_pay4 (F := Ideal) v5) (k0_pay4 (F := Ideal) v5) (ix2 r d)
    = v5 (ix2 r d) * v5 (ix2 r d) := by
  pointwise [k0_pay4, k0_pay3]

/-- The roots of the mean squares. -/
theorem pay5 (v5) (r : Fin 256) : k0_pay5 (F := Ideal) v5 (ix2 r 0) = PrepMath.den (fun k => v5 (ix2 r k)) := by
  refine (rootOf (multiReduction .add [1] S256 (mulf (k0_pay4 v5) (k0_pay4 v5)) 0x00000000#32 reduces_S256x4096_S256
    (.inl rfl) rfl) r).trans ?_
  rw [rowSum]
  simp only [square]
  rfl

theorem over (v5 : FVec Ideal S256x4096 .bf16) (v15 : FVec Ideal S256x1 .f32) (v18 : FVec Ideal S1x4096 .f32)
    (r : Fin 256) (d : Fin 4096) :
    mulf (divf (k0_pay4 (F := Ideal) v5) (broadcastTo S256x4096 v15 broadcasts_S256x1_S256x4096))
      (broadcastTo S256x4096 (shapeCast S1x4096 v18 shapeCasts_S1x4096_S1x4096) broadcasts_S1x4096_S256x4096) (ix2 r d)
    = Ideal.div (v5 (ix2 r d)) (v15 (ix2 r 0)) * v18 (ix2 0 d) := by
  pointwise [k0_pay4, k0_pay3]

/-- The normed block, one value at a time. -/
theorem pay6 (v5 v18) (r : Fin 256) (d : Fin 4096) : k0_pay6 (F := Ideal) v5 v18 (ix2 r d)
    = OutMath.normAt (fun k => v5 (ix2 r k)) (v18 (ix2 0 d)) d := by
  refine (over v5 (k0_pay5 v5) v18 r d).trans ?_
  rw [pay5]
  rfl

/-- A vector of 256 as a column. -/
theorem column (a : FVec Ideal S256 .f32) (r : Fin 256) :
    shapeCast S256x1 a shapeCasts_S256_S256x1 (ix2 r 0) = a (ix1 r) := by
  pointwise []

theorem scale1 (v : FVec Ideal S256x1 .f32) (r : Fin 256) :
    select (cmpf .oeq v (broadcast S256x1 (Scalar.ofBits .f32 0x00000000#32)))
      (broadcast S256x1 (Scalar.ofBits .f32 0x3F800000#32))
      (divf v (broadcast S256x1 (Scalar.ofBits .f32 0x43E00000#32))) (ix2 r 0)
    = OutMath.scaleOf (v (ix2 r 0)) := by
  pointwise [OutMath.scaleOf]

theorem maxCol (x : FVec Ideal S256x4096 .f32) (r : Fin 256) :
    shapeCast S256x1 (multiReduction .maximumf [1] S256 (absf x) 0xFF800000#32 reduces_S256x4096_S256 (.inl rfl) rfl)
      shapeCasts_S256_S256x1 (ix2 r 0) = OutMath.amax (fun d => x (ix2 r d)) := by
  refine (column _ r).trans ?_
  rw [rowMax]
  rfl

/-- The scales, one at a time. -/
theorem pay7 (v5 v18) (r : Fin 256) : k0_pay7 (F := Ideal) v5 v18 (ix2 r 0)
    = OutMath.scaleOf (OutMath.amax (fun d => k0_pay6 (F := Ideal) v5 v18 (ix2 r d))) :=
  (scale1 _ r).trans (congrArg OutMath.scaleOf (maxCol _ r))

theorem clip (x : FVec Ideal S256x4096 .f32) (s : FVec Ideal S256x1 .f32) (r : Fin 256) (d : Fin 4096) :
    truncf .fp8e4m3 (minimumf (broadcast S256x4096 (Scalar.ofBits .f32 0x43E00000#32))
      (maximumf (broadcast S256x4096 (Scalar.ofBits .f32 0xC3E00000#32))
        (divf x (broadcastTo S256x4096 s broadcasts_S256x1_S256x4096)))) bitsLt_fp8e4m3_f32 (ix2 r d)
    = OutMath.codeOf (x (ix2 r d)) (s (ix2 r 0)) := by
  pointwise [OutMath.codeOf]

/-- The codes, one at a time. -/
theorem pay8 (v5 v18) (r : Fin 256) (d : Fin 4096) : k0_pay8 (F := Ideal) v5 v18 (ix2 r d)
    = OutMath.codeOf (k0_pay6 (F := Ideal) v5 v18 (ix2 r d)) (k0_pay7 (F := Ideal) v5 v18 (ix2 r 0)) :=
  clip _ _ r d

/-- The scales over the lanes. -/
theorem pay9 (v : FVec Ideal S256x1 .f32) (r : Fin 256) (l : Fin 128) : k0_pay9 v (ix2 r l) = v (ix2 r 0) := by
  pointwise [k0_pay9]

/-- The scales as a row. -/
theorem pay10 (v : FVec Ideal S256x1 .f32) (r : Fin 256) : k0_pay10 v (ix3 0 0 r) = v (ix2 r 0) := by
  pointwise [k0_pay10]

/-- The input gate's weights times the norm's, then the two remainders. -/
theorem pay2_i (a b w) (h : Fin 8) (d : Fin 4096) :
    k0_pay2 (F := Ideal) a b w (ix2 ⟨h.val, by omega⟩ d) = a (ix2 h d) * w (ix2 0 d)
    ∧ k0_pay2 (F := Ideal) a b w (ix2 ⟨16 + h.val, by omega⟩ d)
      = a (ix2 h d) * w (ix2 0 d) - a (ix2 h d) * w (ix2 0 d)
    ∧ k0_pay2 (F := Ideal) a b w (ix2 ⟨32 + h.val, by omega⟩ d)
      = a (ix2 h d) * w (ix2 0 d) - a (ix2 h d) * w (ix2 0 d)
        - (a (ix2 h d) * w (ix2 0 d) - a (ix2 h d) * w (ix2 0 d)) := by
  have := h.isLt
  have e0 : h.val < 16 := by omega
  have e1 : 16 + h.val - 16 = h.val := by omega
  have e2 : 32 + h.val - 16 - 16 = h.val := by omega
  have e3 : ¬16 + h.val < 16 := by omega
  have e4 : ¬32 + h.val < 16 := by omega
  have e5 : ¬32 + h.val - 16 < 16 := by omega
  refine ⟨?_, ?_, ?_⟩ <;> pointwise [k0_pay2] <;>
    simp only [e0, e1, e2, e3, e4, e5, h.isLt, dite_true, dite_false, Fin.eta]

/-- The forget gate's, likewise. -/
theorem pay2_f (a b w) (h : Fin 8) (d : Fin 4096) :
    k0_pay2 (F := Ideal) a b w (ix2 ⟨8 + h.val, by omega⟩ d) = b (ix2 h d) * w (ix2 0 d)
    ∧ k0_pay2 (F := Ideal) a b w (ix2 ⟨16 + (8 + h.val), by omega⟩ d)
      = b (ix2 h d) * w (ix2 0 d) - b (ix2 h d) * w (ix2 0 d)
    ∧ k0_pay2 (F := Ideal) a b w (ix2 ⟨32 + (8 + h.val), by omega⟩ d)
      = b (ix2 h d) * w (ix2 0 d) - b (ix2 h d) * w (ix2 0 d)
        - (b (ix2 h d) * w (ix2 0 d) - b (ix2 h d) * w (ix2 0 d)) := by
  have := h.isLt
  have e0 : 8 + h.val < 16 := by omega
  have e1 : 16 + (8 + h.val) - 16 = 8 + h.val := by omega
  have e2 : 32 + (8 + h.val) - 16 - 16 = 8 + h.val := by omega
  have e3 : ¬16 + (8 + h.val) < 16 := by omega
  have e4 : ¬32 + (8 + h.val) < 16 := by omega
  have e5 : ¬32 + (8 + h.val) - 16 < 16 := by omega
  have e6 : ¬8 + h.val < 8 := by omega
  have e7 : 8 + h.val - 8 = h.val := by omega
  refine ⟨?_, ?_, ?_⟩ <;> pointwise [k0_pay2] <;>
    simp only [e0, e1, e2, e3, e4, e5, e6, e7, dite_true, dite_false, Fin.eta]

/-- The three products of the split weights with the input, over the roots of the mean squares. -/
theorem pay11 (v6 v15 v49) (p : Fin 16) (r : Fin 256) : k0_pay11 (F := Ideal) v6 v15 v49 (ix2 p r)
    = Ideal.div (((∑ d : Fin 4096, v49 (ix2 ⟨p.val, by omega⟩ d) * v6 (ix2 r d))
        + ∑ d : Fin 4096, v49 (ix2 ⟨16 + p.val, by omega⟩ d) * v6 (ix2 r d))
        + ∑ d : Fin 4096, v49 (ix2 ⟨32 + p.val, by omega⟩ d) * v6 (ix2 r d)) (v15 (ix2 r 0)) := by
  pointwise [k0_pay11]

theorem capI (u : FVec Ideal S16x256 .f32) (v63 : FVec Ideal S8x1 .f32) (v67 : FVec Ideal S1x1x256 .f32) (h : Fin 8)
    (r : Fin 256) :
    mulf (broadcast S8x256 (Scalar.ofBits .f32 0x41700000#32)) (tanh (divf (addf (addf
        (extractStridedSlice S8x256 ![0, 0] u slices_S16x256_o0_0_S8x256)
        (broadcastTo S8x256 (shapeCast S8x1 v63 shapeCasts_S8x1_S8x1) broadcasts_S8x1_S8x256))
        (broadcastTo S8x256 (shapeCast S1x256 v67 shapeCasts_S1x1x256_S1x256) broadcasts_S1x256_S8x256))
      (broadcast S8x256 (Scalar.ofBits .f32 0x41700000#32)))) (ix2 h r)
    = PrepMath.cap (u (ix2 ⟨h.val, by omega⟩ r) + v63 (ix2 h 0) + v67 (ix3 0 0 r)) := by
  pointwise [PrepMath.cap]

/-- The input gates, one at a time. -/
theorem pay12 (v6 v15 v49 v63 v67) (h : Fin 8) (r : Fin 256) : k0_pay12 (F := Ideal) v6 v15 v49 v63 v67 (ix2 h r)
    = PrepMath.cap (k0_pay11 (F := Ideal) v6 v15 v49 (ix2 ⟨h.val, by omega⟩ r) + v63 (ix2 h 0) + v67 (ix3 0 0 r)) :=
  capI (k0_pay11 v6 v15 v49) v63 v67 h r

theorem lower (u : FVec Ideal S16x256 .f32) (h : Fin 8) (r : Fin 256) :
    extractStridedSlice S8x256 ![8, 0] u slices_S16x256_o8_0_S8x256 (ix2 h r) = u (ix2 ⟨8 + h.val, by omega⟩ r) := by
  pointwise []

theorem pay13 (v6 v15 v49) (h : Fin 8) (r : Fin 256) : k0_pay13 (F := Ideal) v6 v15 v49 (ix2 h r)
    = k0_pay11 (F := Ideal) v6 v15 v49 (ix2 ⟨8 + h.val, by omega⟩ r) :=
  lower (k0_pay11 v6 v15 v49) h r

/-- The forget gates, one at a time. -/
theorem pay15 (v76 : FVec Ideal S8x256 .f32) (v77 : FVec Ideal S8x1 .f32) (h : Fin 8) (r : Fin 256) :
    k0_pay15 v76 (k0_pay14 v77) (ix2 h r) = PrepMath.cap (v76 (ix2 h r) + v77 (ix2 h 0)) := by
  pointwise [k0_pay15, k0_pay14, PrepMath.cap]

theorem pay16 (v : FVec Ideal S8x256 .f32) (h : Fin 8) (r : Fin 256) : k0_pay16 v (ix3 0 h r) = v (ix2 h r) := by
  pointwise [k0_pay16]

theorem flat (v : FVec Ideal S8x256 .f32) (h : Fin 8) (r : Fin 256) :
    shapeCast S1x8x256 v shapeCasts_S8x256_S1x8x256 (ix3 0 h r) = v (ix2 h r) := by
  pointwise []

theorem pay17 (v76 : FVec Ideal S8x256 .f32) (v78 : FVec Ideal S8x1 .f32) (h : Fin 8) (r : Fin 256) :
    k0_pay17 v76 v78 (ix3 0 h r) = k0_pay15 v76 v78 (ix2 h r) :=
  flat (k0_pay15 v76 v78) h r

theorem logs (f : FVec Ideal S8x256 .f32) (h : Fin 8) (r : Fin 256) :
    mulf (subf (broadcast S8x256 (Scalar.ofBits .f32 0x00000000#32))
      (addf (maximumf (subf (broadcast S8x256 (Scalar.ofBits .f32 0x00000000#32)) f)
          (broadcast S8x256 (Scalar.ofBits .f32 0x00000000#32)))
        (log1p (exp (subf (broadcast S8x256 (Scalar.ofBits .f32 0x00000000#32)) (absf f))))))
      (broadcast S8x256 (Scalar.ofBits .f32 0x3FB8AA3B#32)) (ix2 h r)
    = PrepMath.logOf (f (ix2 h r)) := by
  pointwise [PrepMath.logOf]
  rfl

/-- The logarithms of the forget gates, one at a time. -/
theorem pay18 (v76 : FVec Ideal S8x256 .f32) (v78 : FVec Ideal S8x1 .f32) (h : Fin 8) (r : Fin 256) :
    k0_pay18 v76 v78 (ix2 h r) = PrepMath.logOf (k0_pay15 v76 v78 (ix2 h r)) :=
  logs (k0_pay15 v76 v78) h r

/-- One where the position summed is not after the position summed to, else nothing. -/
theorem pay19 (s t : Fin 128) : k0_pay19 (F := Ideal) (ix2 s t) = if s.val ≤ t.val then 1 else 0 := by
  pointwise [k0_pay19]
  rw [PrepMath.atOrBefore]
  by_cases h : s.val ≤ t.val
  · simp [h, Scalar.select]
  · simp [h, Scalar.select]

theorem sums (o : ℕ) (v : FVec Ideal S8x256 .f32) (u : FVec Ideal S128x128 .f32)
    (hs : S8x256.Slices ![0, o] S8x128) (ho : o + 128 ≤ 256) (h : Fin 8) (t : Fin 128) :
    shapeCast S1x8x128 (matmul dot_S8x128_S128x128_S8x128_1_0_0_1_n_n (some .fp32)
      (extractStridedSlice S8x128 ![0, o] v hs) u
      (constant S8x128 .f32 0x00000000#32)) shapeCasts_S8x128_S1x8x128 (ix3 0 h t)
    = ∑ s : Fin 128, v (ix2 h ⟨o + s.val, by omega⟩) * u (ix2 s t) := by
  pointwise []

/-- Which block each window shows at grid point `t`. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0, 0] ∧ win0_7.index t = ![t.val, 0] ∧ win0_8.index t = ![t.val, 0]
    ∧ win0_9.index t = ![t.val, 0, 0] ∧ win0_10.index t = ![t.val / 5, 0, t.val % 5]
    ∧ win0_11.index t = ![t.val / 5, 0, t.val % 5] ∧ win0_12.index t = ![t.val / 5, 0, t.val % 5] :=
  (by decide +kernel : ∀ t : Fin grid0.N, _)

variable (c : Dev nD) (t : Fin cfg0.N)

theorem ht : t.val < 30 := lt_of_lt_of_eq t.isLt Gen.N_0

/-- The token of row `r` of the block at grid point `t`. -/
def row (r : Fin 256) : Fin 7680 := ⟨t.val * 256 + r.val, by have := ht t; omega⟩

theorem rd0 (r : Fin 256) (d : Fin 4096) : iblk m c 0 t (ix2 r d)
    = PrepMath.xAt (m ((c : Thread nD τ).loc main_arg0)) (row t r) d := by
  have := ht t
  unfold PrepMath.xAt row
  blk_ext! [iblk, V, idx t]

theorem rd1 (d : Fin 4096) : iblk m c 1 t (ix2 0 d) = m ((c : Thread nD τ).loc main_arg1) (ix1 d) := by
  have := ht t
  blk_ext! [iblk, V, idx t]

theorem rd2 (h : Fin 8) (d : Fin 4096) : iblk m c 2 t (ix2 h d) = m ((c : Thread nD τ).loc main_arg2) (ix2 d h) := by
  have := ht t
  blk_ext! [iblk, V, idx t]

theorem rd3 (h : Fin 8) (d : Fin 4096) : iblk m c 3 t (ix2 h d) = m ((c : Thread nD τ).loc main_arg3) (ix2 d h) := by
  have := ht t
  blk_ext! [iblk, V, idx t]

theorem rd4 (h : Fin 8) : iblk m c 4 t (ix2 h 0) = m ((c : Thread nD τ).loc main_arg4) (ix1 h) := by
  have := ht t
  blk_ext! [iblk, V, idx t]

theorem rd5 (h : Fin 8) : iblk m c 5 t (ix2 h 0) = m ((c : Thread nD τ).loc main_arg5) (ix1 h) := by
  have := ht t
  blk_ext! [iblk, V, idx t]

theorem rd6 (r : Fin 256) : iblk m c 6 t (ix3 0 0 r)
    = m ((c : Thread nD τ).loc main_arg6) (ix2 ⟨(row t r).val / 1280, by omega⟩ ⟨(row t r).val % 1280, by omega⟩) := by
  have := ht t
  unfold row
  blk_ext! [iblk, V, idx t]

theorem em7 (r : Fin 256) (d : Fin 4096) : ((cfg0.win 7).blk t).view.emb (ix2 r d) = ix2 (row t r) d := by
  have := ht t
  unfold row
  blk_ext [idx t]

theorem em8 (r : Fin 256) (l : Fin 128) : ((cfg0.win 8).blk t).view.emb (ix2 r l) = ix2 (row t r) l := by
  have := ht t
  unfold row
  blk_ext [idx t]

theorem em9 (r : Fin 256) : ((cfg0.win 9).blk t).view.emb (ix3 0 0 r)
    = ix3 ⟨t.val, by have := ht t; omega⟩ 0 r := by
  have := ht t
  blk_ext [idx t]

theorem em10 (h : Fin 8) (r : Fin 256) : ((cfg0.win 10).blk t).view.emb (ix3 0 h r)
    = ix3 ⟨t.val / 5, by have := ht t; omega⟩ h ⟨t.val % 5 * 256 + r.val, by omega⟩ := by
  have := ht t
  blk_ext [idx t]

theorem em11 (h : Fin 8) (r : Fin 256) : ((cfg0.win 11).blk t).view.emb (ix3 0 h r)
    = ix3 ⟨t.val / 5, by have := ht t; omega⟩ h ⟨t.val % 5 * 256 + r.val, by omega⟩ := by
  have := ht t
  blk_ext [idx t]

theorem em12 (h : Fin 8) (r : Fin 256) : ((cfg0.win 12).blk t).view.emb (ix3 0 h r)
    = ix3 ⟨t.val / 5, by have := ht t; omega⟩ h ⟨t.val % 5 * 256 + r.val, by omega⟩ := by
  have := ht t
  blk_ext [idx t]

/-- That place is the same token. -/
theorem tok_eq (r : Fin 256) : PrepMath.tok ⟨t.val / 5, by have := ht t; omega⟩ ⟨t.val % 5 * 256 + r.val, by omega⟩
    = row t r := Fin.ext (by unfold PrepMath.tok row; dsimp only; omega)

/-- The first grid point leaves the split weights in the scratch buffer, -/
theorem sc_first (h0 : t.val % 30 = 0) (y) : (outsAt0 m c t.val t.isLt).2.2.2.2.2.2 y
    = k0_pay2 (iblk m c 2 t) (iblk m c 3 t) (iblk m c 1 t) y := by
  rw [outsAt0_A m c t h0]
  frame_out

/-- and each later one keeps them. -/
theorem sc_next (h0 : ¬t.val % 30 = 0) (h : t.val - 1 < cfg0.N) : (outsAt0 m c t.val t.isLt).2.2.2.2.2.2
    = (outsAt0 m c (t.val - 1) h).2.2.2.2.2.2 := by
  rw [outsAt0_B m c t h0]
  rfl

/-- The split weights, from the blocks the grid point `t` sees. -/
abbrev wt : FVec Ideal S48x4096 .bf16 := k0_pay2 (iblk m c 2 t) (iblk m c 3 t) (iblk m c 1 t)

/-- The blocks of the weights are the same at every grid point, so the split weights are too. -/
theorem wt_eq (t' : Fin cfg0.N) : wt m c t = wt m c t' := by
  have e1 : iblk m c 1 t = iblk m c 1 t' := by
    funext y
    idx_vars y
    obtain rfl : y0 = 0 := Subsingleton.elim _ _
    exact (rd1 m c t y1).trans (rd1 m c t' y1).symm
  have e2 : iblk m c 2 t = iblk m c 2 t' := by
    funext y
    idx_vars y
    exact (rd2 m c t y0 y1).trans (rd2 m c t' y0 y1).symm
  have e3 : iblk m c 3 t = iblk m c 3 t' := by
    funext y
    idx_vars y
    exact (rd3 m c t y0 y1).trans (rd3 m c t' y0 y1).symm
  unfold wt
  rw [e1, e2, e3]

/-- The scratch buffer holds the split weights after every grid point. -/
theorem sc : ∀ (n : ℕ) (hn : n < cfg0.N), (outsAt0 m c n hn).2.2.2.2.2.2 = wt m c ⟨n, hn⟩ := by
  intro n
  induction n with
  | zero =>
    intro hn
    funext y
    exact sc_first m c ⟨0, hn⟩ rfl y
  | succ n ih =>
    intro hn
    have hlt := ht ⟨n + 1, hn⟩
    dsimp only at hlt
    refine (sc_next m c ⟨n + 1, hn⟩ (by dsimp only; omega) (Nat.lt_of_succ_lt hn)).trans ?_
    exact (ih _).trans (wt_eq m c _ _)

/-- The block of a store of two halves of 128 columns, read at column `r`. -/
theorem halves (P Q : FVec Ideal S1x8x128 .f32) (h : Fin 8) (r : Fin 256) :
    View.canon (Val := Elt Ideal) (s := S1x8x256) (e := .f32)
      [⟨Rect.unit (s := S1x8x256) ![0, 0, 128] S1x8x128.size inb_S1x8x256_S1x8x128_0_0_128, P⟩,
       ⟨Rect.unit (s := S1x8x256) ![0, 0, 0] S1x8x128.size inb_S1x8x256_S1x8x128_0_0_0, Q⟩] (ix3 0 h r)
    = if hr : r.val < 128 then Q (ix3 0 h ⟨r.val, hr⟩) else P (ix3 0 h ⟨r.val - 128, by omega⟩) := by
  by_cases hr : r.val < 128
  · rw [dif_pos hr, View.canon_cons_of_not_mem]
    · have e : (ix3 0 h r : S1x8x256.Idx) = (Rect.unit (s := S1x8x256) ![0, 0, 0] S1x8x128.size
          inb_S1x8x256_S1x8x128_0_0_0).emb (ix3 0 h ⟨r.val, hr⟩) := by
        idx_ext
      rw [e]
      exact View.canon_cons_emb _ _ _ _
    · intro hm
      have := ((Rect.mem_set_unit (s := S1x8x256) (inb := inb_S1x8x256_S1x8x128_0_0_128)).1 hm 2).1
      change 128 ≤ r.val at this
      omega
  · rw [dif_neg hr]
    have e : (ix3 0 h r : S1x8x256.Idx) = (Rect.unit (s := S1x8x256) ![0, 0, 128] S1x8x128.size
        inb_S1x8x256_S1x8x128_0_0_128).emb (ix3 0 h ⟨r.val - 128, by omega⟩) := by
      idx_ext
    rw [e]
    exact View.canon_cons_emb _ _ _ _

/-- What each grid point writes: the codes, -/
theorem out7 (y) : (outsAt0 m c t.val t.isLt).1 y = k0_pay8 (iblk m c 0 t) (iblk m c 1 t) y := by
  by_cases h0 : t.val % 30 = 0
  · rw [outsAt0_A m c t h0]
    frame_out
  · rw [outsAt0_B m c t h0]
    frame_out

/-- the scales over the lanes, -/
theorem out8 (y) : (outsAt0 m c t.val t.isLt).2.1 y = k0_pay9 (k0_pay7 (iblk m c 0 t) (iblk m c 1 t)) y := by
  by_cases h0 : t.val % 30 = 0
  · rw [outsAt0_A m c t h0]
    frame_out
  · rw [outsAt0_B m c t h0]
    frame_out

/-- the scales as a row, -/
theorem out9 (y) : (outsAt0 m c t.val t.isLt).2.2.1 y = k0_pay10 (k0_pay7 (iblk m c 0 t) (iblk m c 1 t)) y := by
  by_cases h0 : t.val % 30 = 0
  · rw [outsAt0_A m c t h0]
    frame_out
  · rw [outsAt0_B m c t h0]
    frame_out

theorem prev (h0 : ¬t.val % 30 = 0) (h : t.val - 1 < cfg0.N) :
    (outsAt0 m c (t.val - 1) h).2.2.2.2.2.2 = wt m c t :=
  (sc m c (t.val - 1) h).trans (wt_eq m c _ _)

/-- the input gates, -/
theorem out10 (y) : (outsAt0 m c t.val t.isLt).2.2.2.1 y
    = k0_pay16 (k0_pay12 (k0_pay3 (iblk m c 0 t)) (k0_pay5 (iblk m c 0 t)) (wt m c t) (iblk m c 4 t) (iblk m c 6 t))
      y := by
  by_cases h0 : t.val % 30 = 0
  · rw [outsAt0_A m c t h0]
    frame_out
  · rw [outsAt0_B m c t h0]
    frame_out
    rw [read_unread_whole, prev m c t h0]

/-- the forget gates before the tangent, -/
abbrev pre : FVec Ideal S8x256 .f32 := k0_pay13 (k0_pay3 (iblk m c 0 t)) (k0_pay5 (iblk m c 0 t)) (wt m c t)

/-- the forget gates, -/
theorem out11 (y) : (outsAt0 m c t.val t.isLt).2.2.2.2.1 y = k0_pay17 (pre m c t) (k0_pay14 (iblk m c 5 t)) y := by
  by_cases h0 : t.val % 30 = 0
  · rw [outsAt0_A m c t h0]
    frame_out
  · rw [outsAt0_B m c t h0]
    frame_out
    rw [read_unread_whole, prev m c t h0]

/-- and the sums of their logarithms, in two chunks. -/
theorem out12 (h : Fin 8) (r : Fin 256) : (outsAt0 m c t.val t.isLt).2.2.2.2.2.1 (ix3 0 h r)
    = if hr : r.val < 128 then k0_pay20 (pre m c t) (k0_pay14 (iblk m c 5 t)) (ix3 0 h ⟨r.val, hr⟩)
      else k0_pay1 (k0_pay18 (pre m c t) (k0_pay14 (iblk m c 5 t))) k0_pay19 (ix3 0 h ⟨r.val - 128, by omega⟩) := by
  refine Eq.trans ?_ (halves (k0_pay1 (k0_pay18 (pre m c t) (k0_pay14 (iblk m c 5 t))) k0_pay19)
    (k0_pay20 (pre m c t) (k0_pay14 (iblk m c 5 t))) h r)
  by_cases h0 : t.val % 30 = 0
  · rw [outsAt0_A m c t h0]
    frame_out
  · rw [outsAt0_B m c t h0]
    frame_out
    rw [read_unread_whole, prev m c t h0]

/-- The normed block is the normed input at the block's tokens, -/
theorem normPoint (r : Fin 256) (d : Fin 4096) : k0_pay6 (iblk m c 0 t) (iblk m c 1 t) (ix2 r d)
    = PrepMath.xnAt (m ((c : Thread nD τ).loc main_arg0)) (m ((c : Thread nD τ).loc main_arg1)) (row t r) d := by
  rw [pay6, rd1]
  simp only [rd0]
  rfl

/-- and its scales are the tokens' scales. -/
theorem scalePoint (r : Fin 256) : k0_pay7 (iblk m c 0 t) (iblk m c 1 t) (ix2 r 0)
    = PrepMath.scaleAt (m ((c : Thread nD τ).loc main_arg0)) (m ((c : Thread nD τ).loc main_arg1)) (row t r) := by
  rw [pay7]
  simp only [normPoint]
  rfl

section
variable (hw : ∀ d : Fin 4096, PrepMath.Finite (m ((c : Thread nD τ).loc main_arg1) (ix1 d)))

include hw

/-- The products for the input gate, -/
theorem logitI (hi : ∀ (d : Fin 4096) (h : Fin 8), PrepMath.Finite (m ((c : Thread nD τ).loc main_arg2) (ix2 d h)))
    (h : Fin 8) (r : Fin 256) :
    k0_pay11 (k0_pay3 (iblk m c 0 t)) (k0_pay5 (iblk m c 0 t)) (wt m c t) (ix2 ⟨h.val, by omega⟩ r)
    = PrepMath.dotAt (m ((c : Thread nD τ).loc main_arg0)) (m ((c : Thread nD τ).loc main_arg1)) (m ((c : Thread nD τ).loc main_arg2)) (row t r) h := by
  rw [pay11]
  simp only [wt, (pay2_i _ _ _ h _).1, (pay2_i _ _ _ h _).2.1, (pay2_i _ _ _ h _).2.2, pay3, pay5, rd0, rd1, rd2]
  exact PrepMath.logit (PrepMath.xAt (m ((c : Thread nD τ).loc main_arg0)) (row t r))
    (fun d => m ((c : Thread nD τ).loc main_arg1) (ix1 d)) (fun d => m ((c : Thread nD τ).loc main_arg2) (ix2 d h)) hw
    (fun d => hi d h)

/-- and for the forget gate. -/
theorem logitF (hf : ∀ (d : Fin 4096) (h : Fin 8), PrepMath.Finite (m ((c : Thread nD τ).loc main_arg3) (ix2 d h)))
    (h : Fin 8) (r : Fin 256) :
    k0_pay11 (k0_pay3 (iblk m c 0 t)) (k0_pay5 (iblk m c 0 t)) (wt m c t) (ix2 ⟨8 + h.val, by omega⟩ r)
    = PrepMath.dotAt (m ((c : Thread nD τ).loc main_arg0)) (m ((c : Thread nD τ).loc main_arg1)) (m ((c : Thread nD τ).loc main_arg3)) (row t r) h := by
  rw [pay11]
  simp only [wt, (pay2_f _ _ _ h _).1, (pay2_f _ _ _ h _).2.1, (pay2_f _ _ _ h _).2.2, pay3, pay5, rd0, rd1, rd3]
  exact PrepMath.logit (PrepMath.xAt (m ((c : Thread nD τ).loc main_arg0)) (row t r))
    (fun d => m ((c : Thread nD τ).loc main_arg1) (ix1 d)) (fun d => m ((c : Thread nD τ).loc main_arg3) (ix2 d h)) hw
    (fun d => hf d h)

/-- The input gates of the block, -/
theorem gateI (hi : ∀ (d : Fin 4096) (h : Fin 8), PrepMath.Finite (m ((c : Thread nD τ).loc main_arg2) (ix2 d h)))
    (h : Fin 8) (r : Fin 256) :
    k0_pay12 (k0_pay3 (iblk m c 0 t)) (k0_pay5 (iblk m c 0 t)) (wt m c t) (iblk m c 4 t) (iblk m c 6 t) (ix2 h r)
    = PrepMath.igAt (m ((c : Thread nD τ).loc main_arg0)) (m ((c : Thread nD τ).loc main_arg1)) (m ((c : Thread nD τ).loc main_arg2)) (m ((c : Thread nD τ).loc main_arg4)) (m ((c : Thread nD τ).loc main_arg6)) (row t r) h := by
  rw [pay12, logitI m c t hw hi, rd4, rd6]
  rfl

/-- and its forget gates. -/
theorem gateF (hf : ∀ (d : Fin 4096) (h : Fin 8), PrepMath.Finite (m ((c : Thread nD τ).loc main_arg3) (ix2 d h)))
    (h : Fin 8) (r : Fin 256) :
    k0_pay15 (pre m c t) (k0_pay14 (iblk m c 5 t)) (ix2 h r)
    = PrepMath.fgAt (m ((c : Thread nD τ).loc main_arg0)) (m ((c : Thread nD τ).loc main_arg1)) (m ((c : Thread nD τ).loc main_arg3)) (m ((c : Thread nD τ).loc main_arg5)) (row t r) h := by
  rw [pay15, pre, pay13, logitF m c t hw hf, rd5]
  rfl

/-- The sums of the logarithms, over the chunk of 128 tokens. -/
theorem sumF (hf : ∀ (d : Fin 4096) (h : Fin 8), PrepMath.Finite (m ((c : Thread nD τ).loc main_arg3) (ix2 d h)))
    (h : Fin 8) (r : Fin 256) : (outsAt0 m c t.val t.isLt).2.2.2.2.2.1 (ix3 0 h r)
    = PrepMath.bcAt (m ((c : Thread nD τ).loc main_arg0)) (m ((c : Thread nD τ).loc main_arg1)) (m ((c : Thread nD τ).loc main_arg3)) (m ((c : Thread nD τ).loc main_arg5)) (row t r) h := by
  have := ht t
  rw [out12]
  unfold PrepMath.bcAt
  split
  · rename_i hr
    refine (sums 0 (k0_pay18 (pre m c t) (k0_pay14 (iblk m c 5 t))) k0_pay19 slices_S8x256_o0_0_S8x128 (by omega) h
      ⟨r.val, hr⟩).trans ?_
    refine Finset.sum_congr rfl fun s _ => ?_
    rw [pay18, pay19, gateF m c t hw hf, PrepMath.mask]
    have e1 : (row t r).val % 128 = r.val := by unfold row; dsimp only; omega
    have e2 : row t ⟨0 + s.val, by omega⟩ = ⟨(row t r).val / 128 * 128 + s.val, by omega⟩ :=
      Fin.ext (by unfold row; dsimp only; omega)
    rw [e1, e2]
  · rename_i hr
    refine (sums 128 (k0_pay18 (pre m c t) (k0_pay14 (iblk m c 5 t))) k0_pay19 slices_S8x256_o0_128_S8x128 (by omega) h
      ⟨r.val - 128, by omega⟩).trans ?_
    refine Finset.sum_congr rfl fun s _ => ?_
    rw [pay18, pay19, gateF m c t hw hf, PrepMath.mask]
    have e1 : (row t r).val % 128 = r.val - 128 := by unfold row; dsimp only; omega
    have e2 : row t ⟨128 + s.val, by omega⟩ = ⟨(row t r).val / 128 * 128 + s.val, by omega⟩ :=
      Fin.ext (by unfold row; dsimp only; omega)
    rw [e1, e2]

end

/-- The codes the kernel writes. -/
theorem finalA (c : Dev nD) : (dats m 0 c).arrAt 7 cfg0.N = PrepMath.codes (m ((c : Thread nD τ).loc main_arg0)) (m ((c : Thread nD τ).loc main_arg1)) := by
  refine (dats m 0 c).arrAt_eq_of_covers 7 _ (by decide +kernel) fun t _ y => ?_
  blk_simp
  rw [after0_7]
  refine (out7 m c t y).trans ?_
  idx_vars y
  rw [em7, pay8, normPoint, scalePoint]
  rfl

/-- The scales over the lanes. -/
theorem finalB (c : Dev nD) : (dats m 0 c).arrAt 8 cfg0.N = PrepMath.scaleLanes (m ((c : Thread nD τ).loc main_arg0)) (m ((c : Thread nD τ).loc main_arg1)) := by
  refine (dats m 0 c).arrAt_eq_of_covers 8 _ (by decide +kernel) fun t _ y => ?_
  blk_simp
  rw [after0_8]
  refine (out8 m c t y).trans ?_
  idx_vars y
  rw [em8, pay9, scalePoint]
  rfl

/-- The scales in rows. -/
theorem finalC (c : Dev nD) : (dats m 0 c).arrAt 9 cfg0.N = PrepMath.scaleRow (m ((c : Thread nD τ).loc main_arg0)) (m ((c : Thread nD τ).loc main_arg1)) := by
  refine (dats m 0 c).arrAt_eq_of_covers 9 _ (by decide +kernel) fun t _ y => ?_
  blk_simp
  rw [after0_9]
  refine (out9 m c t y).trans ?_
  idx_vars y
  obtain rfl : y0 = 0 := Subsingleton.elim _ _
  obtain rfl : y1 = 0 := Subsingleton.elim _ _
  rw [em9, pay10, scalePoint]
  rfl

/-- The input gates. -/
theorem finalD (c : Dev nD) (hw : ∀ d : Fin 4096, PrepMath.Finite (m ((c : Thread nD τ).loc main_arg1) (ix1 d)))
    (hi : ∀ (d : Fin 4096) (h : Fin 8), PrepMath.Finite (m ((c : Thread nD τ).loc main_arg2) (ix2 d h))) :
    (dats m 0 c).arrAt 10 cfg0.N = PrepMath.ig (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_covers 10 _ (by decide +kernel) fun t _ y => ?_
  blk_simp
  rw [after0_10]
  refine (out10 m c t y).trans ?_
  idx_vars y
  obtain rfl : y0 = 0 := Subsingleton.elim _ _
  rw [em10, pay16, gateI m c t hw hi]
  exact congrArg (fun k => PrepMath.igAt (m ((c : Thread nD τ).loc main_arg0)) (m ((c : Thread nD τ).loc main_arg1)) (m ((c : Thread nD τ).loc main_arg2)) (m ((c : Thread nD τ).loc main_arg4)) (m ((c : Thread nD τ).loc main_arg6)) k y1) (tok_eq t y2).symm

/-- The forget gates. -/
theorem finalE (c : Dev nD) (hw : ∀ d : Fin 4096, PrepMath.Finite (m ((c : Thread nD τ).loc main_arg1) (ix1 d)))
    (hf : ∀ (d : Fin 4096) (h : Fin 8), PrepMath.Finite (m ((c : Thread nD τ).loc main_arg3) (ix2 d h))) :
    (dats m 0 c).arrAt 11 cfg0.N = PrepMath.fg (m ((c : Thread nD τ).loc main_arg0)) (m ((c : Thread nD τ).loc main_arg1)) (m ((c : Thread nD τ).loc main_arg3)) (m ((c : Thread nD τ).loc main_arg5)) := by
  refine (dats m 0 c).arrAt_eq_of_covers 11 _ (by decide +kernel) fun t _ y => ?_
  blk_simp
  rw [after0_11]
  refine (out11 m c t y).trans ?_
  idx_vars y
  obtain rfl : y0 = 0 := Subsingleton.elim _ _
  rw [em11, pay17, gateF m c t hw hf]
  exact congrArg (fun k => PrepMath.fgAt (m ((c : Thread nD τ).loc main_arg0)) (m ((c : Thread nD τ).loc main_arg1)) (m ((c : Thread nD τ).loc main_arg3)) (m ((c : Thread nD τ).loc main_arg5)) k y1) (tok_eq t y2).symm

/-- The sums of the forget gates' logarithms. -/
theorem finalF (c : Dev nD) (hw : ∀ d : Fin 4096, PrepMath.Finite (m ((c : Thread nD τ).loc main_arg1) (ix1 d)))
    (hf : ∀ (d : Fin 4096) (h : Fin 8), PrepMath.Finite (m ((c : Thread nD τ).loc main_arg3) (ix2 d h))) :
    (dats m 0 c).arrAt 12 cfg0.N = PrepMath.bc (m ((c : Thread nD τ).loc main_arg0)) (m ((c : Thread nD τ).loc main_arg1)) (m ((c : Thread nD τ).loc main_arg3)) (m ((c : Thread nD τ).loc main_arg5)) := by
  refine (dats m 0 c).arrAt_eq_of_covers 12 _ (by decide +kernel) fun t _ y => ?_
  blk_simp
  rw [after0_12]
  idx_vars y
  obtain rfl : y0 = 0 := Subsingleton.elim _ _
  rw [em12, sumF m c t hw hf]
  exact congrArg (fun k => PrepMath.bcAt (m ((c : Thread nD τ).loc main_arg0)) (m ((c : Thread nD τ).loc main_arg1)) (m ((c : Thread nD τ).loc main_arg3)) (m ((c : Thread nD τ).loc main_arg5)) k y1) (tok_eq t y2).symm

end Cert.PrepIdeal.Value

end
-- ==== Proof.PrepRefPay.lean ====
/- The first norm's and the gates' reference: what each of its steps computes, one value at a time. -/
module

public import proofs.«01_k».proof.Proof.Gen.PrepRefIdeal.Frame
public import proofs.«01_k».proof.Proof.PrepMath

@[expose] public section

set_option maxRecDepth 16384

noncomputable section

open Idealize.ShloMosaic Idealize.ShloMosaic.TcCoe Idealize.SL.Sem
open Idealize.ShloMosaic.Pipeline (Dat)

namespace Cert.PrepRefIdeal.Value
open Cert.PrepRefIdeal Cert.PrepRefIdeal.Gen
variable (m : (ℓ : Loc nD τ sig) → Buf (Elt Ideal) ℓ) (ρ : Dev nD → PrngReg)

/-- The sum of each row. -/
theorem rowSum (x : FVec Ideal S7680x4096 .f32) (r : Fin 7680) :
    multiReduction .add [1] S7680 x 0x00000000#32 reduces_S7680x4096_S7680 (.inl rfl) rfl (ix1 r)
    = ∑ d : Fin 4096, x (ix2 r d) := by
  refine (Ideal.multiReduction_add_single x _ _ _ _ _).trans ?_
  refine Finset.sum_congr rfl fun d _ => ?_
  show x _ = x _
  congr 1
  idx_ext

/-- The largest entry of each row. -/
theorem rowMax (x : FVec Ideal S7680x4096 .f32) (r : Fin 7680) :
    multiReduction .maximumf [1] S7680 x 0xFF800000#32 reduces_S7680x4096_S7680 (.inl rfl) rfl (ix1 r)
    = Finset.univ.fold max (Ideal.ofBits FTy.f32 4286578688#32) (fun d => x (ix2 r d)) := by
  refine (Ideal.multiReduction_maximumf_single x _ _ _ _ _).trans ?_
  have : x ∘ (reduces_S7680x4096_S7680 : S7680x4096.Reduces [1] S7680).lift (ix1 r) = fun d => x (ix2 r d) := by
    funext d
    show x _ = x _
    congr 1
    idx_ext
  rw [this]
  rfl

/-- A row over the root of its mean square, times a weight, from the row's sum of squares. -/
theorem normOf (x : FVec Ideal S7680x4096 .f32) (a : FVec Ideal S7680 .f32) (w : FVec Ideal S1x4096 .f32) (r : Fin 7680)
    (d : Fin 4096) :
    mulf (divf x (broadcastTo S7680x4096 (sqrt (addf (divf (shapeCast S7680x1 a shapeCasts_S7680_S7680x1)
        (broadcast S7680x1 (Scalar.ofBits .f32 0x45800000#32))) (broadcast S7680x1 (Scalar.ofBits .f32 0x358637BD#32))))
        broadcasts_S7680x1_S7680x4096))
      (broadcastTo S7680x4096 (shapeCast S1x4096 w shapeCasts_S1x4096_S1x4096) broadcasts_S1x4096_S7680x4096) (ix2 r d)
    = Ideal.div (x (ix2 r d)) (Ideal.sqrt (Ideal.div (a (ix1 r)) (Ideal.ofBits FTy.f32 1166016512#32)
        + Ideal.ofBits FTy.f32 897988541#32)) * w (ix2 0 d) := by
  pointwise []

/-- A vector of 7680 as a column. -/
theorem column (a : FVec Ideal S7680 .f32) (r : Fin 7680) :
    shapeCast S7680x1 a shapeCasts_S7680_S7680x1 (ix2 r 0) = a (ix1 r) := by
  pointwise []

/-- The normed input, one value at a time. -/
theorem pay4 (v0 v13) (r : Fin 7680) (d : Fin 4096) : k0_pay4 (F := Ideal) v0 v13 (ix2 r d)
    = OutMath.normAt (fun k => v0 (ix2 r k)) (v13 (ix2 0 d)) d := by
  have e : (extf .f32 (shapeCast S7680x4096 v0 shapeCasts_S7680x4096_S7680x4096) bitsLt_bf16_f32
      : FVec Ideal S7680x4096 .f32) = fun j => v0 j := by
    funext j
    idx_vars j
    pointwise []
  unfold k0_pay4
  rw [e]
  refine (normOf (fun j => v0 j) _ v13 r d).trans ?_
  rw [rowSum]
  rfl

/-- The scales as a column, from the largest magnitudes as a column. -/
theorem scale1 (v : FVec Ideal S7680x1 .f32) (r : Fin 7680) :
    select (cmpf .oeq v (broadcast S7680x1 (Scalar.ofBits .f32 0x00000000#32)))
      (broadcast S7680x1 (Scalar.ofBits .f32 0x3F800000#32))
      (divf v (broadcast S7680x1 (Scalar.ofBits .f32 0x43E00000#32))) (ix2 r 0)
    = OutMath.scaleOf (v (ix2 r 0)) := by
  pointwise [OutMath.scaleOf]

/-- The largest magnitude of each row, as a column. -/
theorem maxCol (x : FVec Ideal S7680x4096 .f32) (r : Fin 7680) :
    shapeCast S7680x1 (multiReduction .maximumf [1] S7680 (absf x) 0xFF800000#32 reduces_S7680x4096_S7680 (.inl rfl) rfl)
      shapeCasts_S7680_S7680x1 (ix2 r 0) = OutMath.amax (fun d => x (ix2 r d)) := by
  refine (column _ r).trans ?_
  rw [rowMax]
  rfl

/-- The scales, one at a time. -/
theorem pay5 (v0 v13) (r : Fin 7680) : k0_pay5 (F := Ideal) v0 v13 (ix2 r 0)
    = OutMath.scaleOf (OutMath.amax (fun d => k0_pay4 (F := Ideal) v0 v13 (ix2 r d))) := by
  unfold k0_pay5
  generalize k0_pay4 v0 v13 = x
  exact (scale1 _ r).trans (congrArg OutMath.scaleOf (maxCol x r))

/-- A block of values over their scales, clipped to ±448. -/
theorem clip (x : FVec Ideal S7680x4096 .f32) (s : FVec Ideal S7680x1 .f32) (r : Fin 7680) (d : Fin 4096) :
    truncf .fp8e4m3 (minimumf (broadcast S7680x4096 (Scalar.ofBits .f32 0x43E00000#32))
      (maximumf (broadcast S7680x4096 (Scalar.ofBits .f32 0xC3E00000#32))
        (divf x (broadcastTo S7680x4096 s broadcasts_S7680x1_S7680x4096)))) bitsLt_fp8e4m3_f32 (ix2 r d)
    = OutMath.codeOf (x (ix2 r d)) (s (ix2 r 0)) := by
  pointwise [OutMath.codeOf]

/-- The codes, one at a time. -/
theorem pay6 (v0 v13) (r : Fin 7680) (d : Fin 4096) : k0_pay6 (F := Ideal) v0 v13 (ix2 r d)
    = OutMath.codeOf (k0_pay4 (F := Ideal) v0 v13 (ix2 r d)) (k0_pay5 (F := Ideal) v0 v13 (ix2 r 0)) :=
  clip (k0_pay4 v0 v13) (k0_pay5 v0 v13) r d

/-- The scales over the lanes, -/
theorem pay7 (v0 v13) (r : Fin 7680) (l : Fin 128) : k0_pay7 (F := Ideal) v0 v13 (ix2 r l)
    = k0_pay5 (F := Ideal) v0 v13 (ix2 r 0) := by
  unfold k0_pay7
  generalize k0_pay5 v0 v13 = s
  pointwise []

/-- and in rows of 256. -/
theorem pay8 (v0 v13) (b : Fin 30) (r : Fin 256) : k0_pay8 (F := Ideal) v0 v13 (ix3 b 0 r)
    = k0_pay5 (F := Ideal) v0 v13 (ix2 ⟨b.val * 256 + r.val, by omega⟩ 0) := by
  unfold k0_pay8
  generalize k0_pay5 v0 v13 = s
  pointwise []

/-- The input gates, one at a time, -/
theorem pay9 (x : FVec Ideal S7680x4096 .f32) (v39 v41 v45) (r : Fin 7680) (h : Fin 8) :
    k0_pay9 x v39 v41 v45 (ix2 r h)
    = PrepMath.cap ((∑ d : Fin 4096, x (ix2 r d) * v39 (ix2 d h)) + v41 (ix2 0 h) + v45 (ix2 r 0)) := by
  pointwise [k0_pay9, PrepMath.cap]

/-- and the forget gates. -/
theorem pay10 (x : FVec Ideal S7680x4096 .f32) (v49 v51) (r : Fin 7680) (h : Fin 8) :
    k0_pay10 x v49 v51 (ix2 r h)
    = PrepMath.cap ((∑ d : Fin 4096, x (ix2 r d) * v49 (ix2 d h)) + v51 (ix2 0 h)) := by
  pointwise [k0_pay10, PrepMath.cap]

/-- Tokens by sequence, heads before positions: for the input gates, -/
theorem pay1 (v : FVec Ideal S7680x8 .f32) (b : Fin 6) (h : Fin 8) (t : Fin 1280) :
    k0_pay1 v (ix3 b h t) = v (ix2 (PrepMath.tok b t) h) := by
  pointwise [k0_pay1, PrepMath.tok]

/-- and for the forget gates. -/
theorem pay2 (v : FVec Ideal S7680x8 .f32) (b : Fin 6) (h : Fin 8) (t : Fin 1280) :
    k0_pay2 v (ix3 b h t) = v (ix2 (PrepMath.tok b t) h) := by
  pointwise [k0_pay2, PrepMath.tok]

/-- The logarithms of the forget gates, one at a time. -/
theorem logs (x : FVec Ideal S7680x4096 .f32) (v49 v51) (r : Fin 7680) (h : Fin 8) :
    mulf (subf (broadcast S7680x8 (Scalar.ofBits .f32 0x00000000#32))
      (select (k0_pay14 x v49 v51) (k0_pay15 x v49 v51) (addf (k0_pay12 x v49 v51) (log1p (k0_pay16 x v49 v51)))))
      (broadcast S7680x8 (Scalar.ofBits .f32 0x3FB8AA3B#32)) (ix2 r h)
    = PrepMath.logOf (k0_pay10 x v49 v51 (ix2 r h)) := by
  unfold k0_pay14 k0_pay15 k0_pay12 k0_pay16 k0_pay13 k0_pay11
  generalize k0_pay10 x v49 v51 = f
  unfold PrepMath.logOf
  rw [← PrepMath.logOf_neg (f (ix2 r h))]
  pointwise []
  simp only [ne_eq, not_true_eq_false, if_false]
  rfl

/-- A value of a chunk where the position is not after the one summed to, else nothing. -/
theorem entry (v : FVec Ideal S7680x8 .f32) (p : Fin 60) (s u : Fin 128) (h : Fin 8) :
    select (cmpi .sle (iota .tc S60x128x128x8 32 [1] iota_S60x128x128x8_d1_w32)
        (iota .tc S60x128x128x8 32 [2] iota_S60x128x128x8_d2_w32))
      (broadcastTo S60x128x128x8 (shapeCast S60x128x1x8 (shapeCast S60x128x1x8 v shapeCasts_S7680x8_S60x128x1x8)
        shapeCasts_S60x128x1x8_S60x128x1x8) broadcasts_S60x128x1x8_S60x128x128x8)
      (broadcast S60x128x128x8 (Scalar.ofBits .f32 0x00000000#32)) (ix4 p s u h)
    = if s.val ≤ u.val then v (ix2 ⟨p.val * 128 + s.val, by omega⟩ h) else 0 := by
  pointwise []
  rw [PrepMath.atOrBefore]
  by_cases hs : s.val ≤ u.val
  · simp [hs, Scalar.select]
  · simp [hs, Scalar.select]

/-- The sum over the second axis. -/
theorem chunkSum (x : FVec Ideal S60x128x128x8 .f32) (p : Fin 60) (u : Fin 128) (h : Fin 8) :
    multiReduction .add [1] S60x128x8 x 0x00000000#32 reduces_S60x128x128x8_S60x128x8 (.inl rfl) rfl (ix3 p u h)
    = ∑ s : Fin 128, x (ix4 p s u h) := by
  refine (Ideal.multiReduction_add_single x _ _ _ _ _).trans ?_
  refine Finset.sum_congr rfl fun d _ => ?_
  show x _ = x _
  congr 1
  idx_ext

/-- Chunks by sequence, heads before positions. -/
theorem byHead (x : FVec Ideal S60x128x8 .f32) (b : Fin 6) (h : Fin 8) (t : Fin 1280) :
    transpose S6x8x1280 [0, 2, 1] (shapeCast S6x1280x8 x shapeCasts_S60x128x8_S6x1280x8)
      transposes_S6x1280x8_p0_2_1_S6x8x1280 (ix3 b h t)
    = x (ix3 ⟨(PrepMath.tok b t).val / 128, by omega⟩ ⟨(PrepMath.tok b t).val % 128, by omega⟩ h) := by
  have e1 : b.val * 10 + t.val / 128 = (b.val * 1280 + t.val) / 128 := by omega
  have e2 : t.val % 128 = (b.val * 1280 + t.val) % 128 := by omega
  pointwise [PrepMath.tok]
  simp only [e1, e2]

/-- The sums of the logarithms, one at a time. -/
theorem pay3 (x : FVec Ideal S7680x4096 .f32) (v49 v51) (b : Fin 6) (h : Fin 8) (t : Fin 1280) :
    k0_pay3 (k0_pay12 x v49 v51) (k0_pay14 x v49 v51) (k0_pay15 x v49 v51) (k0_pay16 x v49 v51) (ix3 b h t)
    = ∑ s : Fin 128, if s.val ≤ (PrepMath.tok b t).val % 128
      then PrepMath.logOf (k0_pay10 x v49 v51 (ix2 ⟨(PrepMath.tok b t).val / 128 * 128 + s.val, by omega⟩ h)) else 0 := by
  refine (byHead _ b h t).trans ?_
  refine (chunkSum _ _ _ h).trans ?_
  refine Finset.sum_congr rfl fun s _ => ?_
  refine (entry _ _ s _ h).trans ?_
  rw [logs]

end Cert.PrepRefIdeal.Value

end
-- ==== Proof.PrepReference.lean ====
/- The first norm's and the gates' reference: its six arrays. -/
module

public import proofs.«01_k».proof.Proof.PrepRefPay

@[expose] public section

set_option maxRecDepth 16384

noncomputable section

open Idealize.ShloMosaic Idealize.ShloMosaic.TcCoe Idealize.SL.Sem
open Idealize.ShloMosaic.Pipeline (Dat)

namespace Cert.PrepRefIdeal.Value
open Cert.PrepRefIdeal Cert.PrepRefIdeal.Gen
variable (m : (ℓ : Loc nD τ sig) → Buf (Elt Ideal) ℓ) (ρ : Dev nD → PrngReg)

theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0, 0]
    ∧ win0_10.index t = ![0, 0, 0] ∧ win0_11.index t = ![0, 0, 0] ∧ win0_12.index t = ![0, 0, 0] :=
  (by decide +kernel : ∀ t : Fin grid0.N, _)

variable (c : Dev nD)

theorem rd0 (r : Fin 7680) (d : Fin 4096) : iblk m c 0 t0_0 (ix2 r d)
    = PrepMath.xAt (m ((c : Thread nD τ).loc main_arg0)) r d := by
  unfold PrepMath.xAt
  blk_ext! [iblk, V, idx t0_0]

theorem rd1 (d : Fin 4096) : iblk m c 1 t0_0 (ix2 0 d) = m ((c : Thread nD τ).loc main_arg1) (ix1 d) := by
  blk_ext! [iblk, V, idx t0_0]

theorem rd2 (d : Fin 4096) (h : Fin 8) : iblk m c 2 t0_0 (ix2 d h)
    = m ((c : Thread nD τ).loc main_arg2) (ix2 d h) := by
  blk_ext! [iblk, V, idx t0_0]

theorem rd3 (h : Fin 8) : iblk m c 3 t0_0 (ix2 0 h) = m ((c : Thread nD τ).loc main_arg4) (ix1 h) := by
  blk_ext! [iblk, V, idx t0_0]

theorem rd4 (d : Fin 4096) (h : Fin 8) : iblk m c 4 t0_0 (ix2 d h)
    = m ((c : Thread nD τ).loc main_arg3) (ix2 d h) := by
  blk_ext! [iblk, V, idx t0_0]

theorem rd5 (h : Fin 8) : iblk m c 5 t0_0 (ix2 0 h) = m ((c : Thread nD τ).loc main_arg5) (ix1 h) := by
  blk_ext! [iblk, V, idx t0_0]

theorem rd6 (r : Fin 7680) : iblk m c 6 t0_0 (ix2 r 0)
    = m ((c : Thread nD τ).loc main_arg6) (ix2 ⟨r.val / 1280, by omega⟩ ⟨r.val % 1280, by omega⟩) := by
  blk_ext! [iblk, V, idx t0_0]

/-- The reference's normed input, -/
theorem point4 (r : Fin 7680) (d : Fin 4096) : k0_pay4 (iblk m c 0 t0_0) (iblk m c 1 t0_0) (ix2 r d)
    = PrepMath.xnAt (m ((c : Thread nD τ).loc main_arg0)) (m ((c : Thread nD τ).loc main_arg1)) r d := by
  refine (pay4 _ _ r d).trans ?_
  simp only [rd0, rd1]
  rfl

/-- the same as its later steps name it, -/
theorem point17 : k0_pay17 (iblk m c 0 t0_0) (iblk m c 1 t0_0) (iblk m c 2 t0_0) (iblk m c 3 t0_0) (iblk m c 4 t0_0)
    (iblk m c 5 t0_0) (iblk m c 6 t0_0) = k0_pay4 (iblk m c 0 t0_0) (iblk m c 1 t0_0) := by
  unfold k0_pay17
  frame_out

/-- its scales, -/
theorem point5 (r : Fin 7680) : k0_pay5 (iblk m c 0 t0_0) (iblk m c 1 t0_0) (ix2 r 0)
    = PrepMath.scaleAt (m ((c : Thread nD τ).loc main_arg0)) (m ((c : Thread nD τ).loc main_arg1)) r := by
  refine (pay5 _ _ r).trans ?_
  simp only [point4 m c]
  rfl

/-- its input gates, -/
theorem pointI (r : Fin 7680) (h : Fin 8) :
    k0_pay9 (k0_pay4 (iblk m c 0 t0_0) (iblk m c 1 t0_0)) (iblk m c 2 t0_0) (iblk m c 3 t0_0) (iblk m c 6 t0_0) (ix2 r h)
    = PrepMath.igAt (m ((c : Thread nD τ).loc main_arg0)) (m ((c : Thread nD τ).loc main_arg1)) (m ((c : Thread nD τ).loc main_arg2)) (m ((c : Thread nD τ).loc main_arg4)) (m ((c : Thread nD τ).loc main_arg6)) r h := by
  refine (pay9 _ _ _ _ r h).trans ?_
  simp only [point4 m c, rd2, rd3, rd6]
  rfl

/-- and its forget gates. -/
theorem pointF (r : Fin 7680) (h : Fin 8) :
    k0_pay10 (k0_pay4 (iblk m c 0 t0_0) (iblk m c 1 t0_0)) (iblk m c 4 t0_0) (iblk m c 5 t0_0) (ix2 r h)
    = PrepMath.fgAt (m ((c : Thread nD τ).loc main_arg0)) (m ((c : Thread nD τ).loc main_arg1)) (m ((c : Thread nD τ).loc main_arg3)) (m ((c : Thread nD τ).loc main_arg5)) r h := by
  refine (pay10 _ _ _ r h).trans ?_
  simp only [point4 m c, rd4, rd5]
  rfl

/-- The codes the reference writes. -/
theorem finalA (c : Dev nD) : (dats m 0 c).arrAt 7 cfg0.N = PrepMath.codes (m ((c : Thread nD τ).loc main_arg0)) (m ((c : Thread nD τ).loc main_arg1)) := by
  refine (dats m 0 c).arrAt_eq_of_after_last 7 t0_0 (by decide +kernel) _ fun j => ?_
  blk_simp
  rw [after0_7]
  frame_out
  idx_vars j
  rw [pay6, point4, point5]
  rfl

/-- The scales over the lanes the reference writes. -/
theorem finalB (c : Dev nD) : (dats m 0 c).arrAt 8 cfg0.N = PrepMath.scaleLanes (m ((c : Thread nD τ).loc main_arg0)) (m ((c : Thread nD τ).loc main_arg1)) := by
  refine (dats m 0 c).arrAt_eq_of_after_last 8 t0_0 (by decide +kernel) _ fun j => ?_
  blk_simp
  rw [after0_8]
  frame_out
  idx_vars j
  rw [pay7, point5]
  rfl

/-- The scales in rows the reference writes. -/
theorem finalC (c : Dev nD) : (dats m 0 c).arrAt 9 cfg0.N = PrepMath.scaleRow (m ((c : Thread nD τ).loc main_arg0)) (m ((c : Thread nD τ).loc main_arg1)) := by
  refine (dats m 0 c).arrAt_eq_of_after_last 9 t0_0 (by decide +kernel) _ fun j => ?_
  blk_simp
  rw [after0_9]
  frame_out
  idx_vars j
  obtain rfl : j1 = 0 := Subsingleton.elim _ _
  rw [pay8, point5]
  rfl

/-- The input gates the reference writes. -/
theorem finalD (c : Dev nD) : (dats m 0 c).arrAt 10 cfg0.N = PrepMath.ig (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_after_last 10 t0_0 (by decide +kernel) _ fun j => ?_
  blk_simp
  rw [after0_10]
  frame_out
  idx_vars j
  rw [point17, pay1, pointI]
  rfl

/-- The forget gates the reference writes. -/
theorem finalE (c : Dev nD) : (dats m 0 c).arrAt 11 cfg0.N = PrepMath.fg (m ((c : Thread nD τ).loc main_arg0)) (m ((c : Thread nD τ).loc main_arg1)) (m ((c : Thread nD τ).loc main_arg3)) (m ((c : Thread nD τ).loc main_arg5)) := by
  refine (dats m 0 c).arrAt_eq_of_after_last 11 t0_0 (by decide +kernel) _ fun j => ?_
  blk_simp
  rw [after0_11]
  frame_out
  idx_vars j
  rw [point17, pay2, pointF]
  rfl

/-- The sums of the forget gates' logarithms the reference writes. -/
theorem finalF (c : Dev nD) : (dats m 0 c).arrAt 12 cfg0.N = PrepMath.bc (m ((c : Thread nD τ).loc main_arg0)) (m ((c : Thread nD τ).loc main_arg1)) (m ((c : Thread nD τ).loc main_arg3)) (m ((c : Thread nD τ).loc main_arg5)) := by
  refine (dats m 0 c).arrAt_eq_of_after_last 12 t0_0 (by decide +kernel) _ fun j => ?_
  blk_simp
  rw [after0_12]
  frame_out
  idx_vars j
  rw [point17, pay3]
  simp only [pointF m c]
  rfl

/-- The run leaves argument 0 as it was. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves argument 1 as it was. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as it was. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run leaves argument 3 as it was. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- The run leaves argument 4 as it was. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run leaves argument 5 as it was. -/
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run leaves argument 6 as it was. -/
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run, with each output array named and the arguments unchanged. -/
theorem run_blocks : θ_run defs (onTc (τ := τ) (main (F := Ideal))) ⟨m, fun _ => 0, ρ⟩ fun r => ∀ c : Dev nD,
      r.2.mem ((c : Thread nD τ).loc main_v5_0) = (dats m 0 c).arrAt 7 cfg0.N
      ∧ r.2.mem ((c : Thread nD τ).loc main_v5_1) = (dats m 0 c).arrAt 8 cfg0.N
      ∧ r.2.mem ((c : Thread nD τ).loc main_v5_2) = (dats m 0 c).arrAt 9 cfg0.N
      ∧ r.2.mem ((c : Thread nD τ).loc main_v5_3) = (dats m 0 c).arrAt 10 cfg0.N
      ∧ r.2.mem ((c : Thread nD τ).loc main_v5_4) = (dats m 0 c).arrAt 11 cfg0.N
      ∧ r.2.mem ((c : Thread nD τ).loc main_v5_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8, (h c).1 9, (h c).1 10, (h c).1 11, (h c).1 12,
    kept0 m r h c, kept1 m r h c, kept2 m r h c, kept3 m r h c, kept4 m r h c, kept5 m r h c, kept6 m r h c⟩)
    (run_main m ρ)

end Cert.PrepRefIdeal.Value

end
-- ==== Proof.Prep.lean ====
/- The first norm with its quantiser and the two gates: the kernel's arrays and the reference's arrays are the same six
   functions of the arguments (`PrepMath.codes`, `scaleLanes`, `scaleRow`, `ig`, `fg` and `bc`). -/
module

public import proofs.«01_k».proof.Proof.Gen.Prep.Frame
public import proofs.«01_k».proof.Proof.PrepKernel
public import proofs.«01_k».proof.Proof.PrepReference
-- ==== Proof.lean ====
/- The whole claim: the frames of every program, and for each call that the kernel's results and the reference's are
   the same functions of the arguments. -/
module

public import proofs.«01_k».proof.Defs
public import proofs.«01_k».proof.Proof.Gen.GateUp.Frame
public import proofs.«01_k».proof.Proof.Gen.GateUpIdeal.Frame
public import proofs.«01_k».proof.Proof.Gen.GateUpRefIdeal.Frame
public import proofs.«01_k».proof.Proof.GateUp
public import proofs.«01_k».proof.Proof.Gen.OProj.Frame
public import proofs.«01_k».proof.Proof.Gen.OProjIdeal.Frame
public import proofs.«01_k».proof.Proof.Gen.OProjRefIdeal.Frame
public import proofs.«01_k».proof.Proof.OProj
public import proofs.«01_k».proof.Proof.Gen.Qkv.Frame
public import proofs.«01_k».proof.Proof.Gen.QkvIdeal.Frame
public import proofs.«01_k».proof.Proof.Gen.QkvRefIdeal.Frame
public import proofs.«01_k».proof.Proof.Qkv
public import proofs.«01_k».proof.Proof.Gen.Out.Frame
public import proofs.«01_k».proof.Proof.Gen.OutIdeal.Frame
public import proofs.«01_k».proof.Proof.Gen.OutRefIdeal.Frame
public import proofs.«01_k».proof.Proof.Out
public import proofs.«01_k».proof.Proof.Down
public import proofs.«01_k».proof.Proof.Prep
public import Idealize.ShloMosaic.Adequacy
public import Idealize.ShloMosaic.Init

@[expose] public section

noncomputable section

namespace Cert.Proof

open Idealize.ShloMosaic Idealize.SL.Sem

/-- For the gate and up projections with the hidden activation and its scales: the kernel's results and the reference's are one function of the arguments. -/
theorem gateup_algebraic : Cert.algebraic_GateUpIdeal_GateUpRefIdeal (hGateUpIdeal := Cert.GateUpIdeal.Gen.facts) (hGateUpRefIdeal := Cert.GateUpRefIdeal.Gen.facts) := by
  intro m g m' g' _ hag
  refine ⟨fun c => Cert.GateUpMath.hid (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)),
    fun c => Cert.GateUpMath.hscale (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)), ?_, ?_⟩
  · exact (θ_run _ _ _).mono (fun r h c => ⟨(h c).1.trans (Cert.GateUpIdeal.Value.finalA m c), (h c).2.1.trans (Cert.GateUpIdeal.Value.finalB m c), (h c).2.2⟩) (Cert.GateUpIdeal.Value.run_blocks m g)
  · exact (θ_run _ _ _).mono (fun r h c => ⟨(h c).1.trans ((Cert.GateUpRefIdeal.Value.finalA m' c).trans (by rw [(hag c).1, (hag c).2.1, (hag c).2.2.1, (hag c).2.2.2.1, (hag c).2.2.2.2.1, (hag c).2.2.2.2.2])), (h c).2.1.trans ((Cert.GateUpRefIdeal.Value.finalB m' c).trans (by rw [(hag c).1, (hag c).2.1, (hag c).2.2.1, (hag c).2.2.2.1, (hag c).2.2.2.2.1, (hag c).2.2.2.2.2])), (h c).2.2⟩) (Cert.GateUpRefIdeal.Value.run_blocks m' g')

/-- For the output-gate projection: the kernel's results and the reference's are one function of the arguments. -/
theorem oproj_algebraic : Cert.algebraic_OProjIdeal_OProjRefIdeal (hOProjIdeal := Cert.OProjIdeal.Gen.facts) (hOProjRefIdeal := Cert.OProjRefIdeal.Gen.facts) := by
  intro m g m' g' _ hag
  refine ⟨fun c => Cert.OProjMath.proj (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2)) (m ((c.tc : Thread Cert.OProjIdeal.nD Cert.OProjIdeal.τ).loc Cert.OProjIdeal.main_arg3)), ?_, ?_⟩
  · exact (θ_run _ _ _).mono (fun r h c => ⟨(h c).1.trans (Cert.OProjIdeal.Value.final m c), (h c).2⟩) (Cert.OProjIdeal.Value.run_blocks m g)
  · exact (θ_run _ _ _).mono (fun r h c => ⟨(h c).1.trans ((Cert.OProjRefIdeal.Value.final m' c).trans (by rw [(hag c).1, (hag c).2.1, (hag c).2.2.1, (hag c).2.2.2])), (h c).2⟩) (Cert.OProjRefIdeal.Value.run_blocks m' g')

/-- For the query, key and value projections: the kernel's results and the reference's are one function of the arguments. -/
theorem qkv_algebraic : Cert.algebraic_QkvIdeal_QkvRefIdeal (hQkvIdeal := Cert.QkvIdeal.Gen.facts) (hQkvRefIdeal := Cert.QkvRefIdeal.Gen.facts) := by
  intro m g m' g' _ hag
  refine ⟨fun c => Cert.QkvMath.proj (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), ?_, ?_⟩
  · exact (θ_run _ _ _).mono (fun r h c => ⟨(h c).1.trans (Cert.QkvIdeal.Value.final m c), (h c).2⟩) (Cert.QkvIdeal.Value.run_blocks m g)
  · exact (θ_run _ _ _).mono (fun r h c => ⟨(h c).1.trans ((Cert.QkvRefIdeal.Value.final m' c).trans (by rw [(hag c).1, (hag c).2.1, (hag c).2.2.1, (hag c).2.2.2.1, (hag c).2.2.2.2.1, (hag c).2.2.2.2.2.1, (hag c).2.2.2.2.2.2.1, (hag c).2.2.2.2.2.2.2])), (h c).2⟩) (Cert.QkvRefIdeal.Value.run_blocks m' g')

/-- For the out projection with the residual sum, the second norm and its quantisation: the kernel's results and the reference's are one function of the arguments. -/
theorem out_algebraic : Cert.algebraic_OutIdeal_OutRefIdeal (hOutIdeal := Cert.OutIdeal.Gen.facts) (hOutRefIdeal := Cert.OutRefIdeal.Gen.facts) := by
  intro m g m' g' _ hag
  refine ⟨fun c => Cert.OutMath.x1 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)),
    fun c => Cert.OutMath.codes (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)),
    fun c => Cert.OutMath.scaleRow (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)), ?_, ?_⟩
  · exact (θ_run _ _ _).mono (fun r h c => ⟨(h c).1.trans (Cert.OutIdeal.Value.finalA m c), (h c).2.1.trans (Cert.OutIdeal.Value.finalB m c), (h c).2.2.1.trans (Cert.OutIdeal.Value.finalC m c), (h c).2.2.2⟩) (Cert.OutIdeal.Value.run_blocks m g)
  · exact (θ_run _ _ _).mono (fun r h c => ⟨(h c).1.trans ((Cert.OutRefIdeal.Value.finalA m' c).trans (by rw [(hag c).1, (hag c).2.1, (hag c).2.2.1, (hag c).2.2.2.1, (hag c).2.2.2.2.1])), (h c).2.1.trans ((Cert.OutRefIdeal.Value.finalB m' c).trans (by rw [(hag c).1, (hag c).2.1, (hag c).2.2.1, (hag c).2.2.2.1, (hag c).2.2.2.2.1, (hag c).2.2.2.2.2])), (h c).2.2.1.trans ((Cert.OutRefIdeal.Value.finalC m' c).trans (by rw [(hag c).1, (hag c).2.1, (hag c).2.2.1, (hag c).2.2.2.1, (hag c).2.2.2.2.1, (hag c).2.2.2.2.2])), (h c).2.2.2⟩) (Cert.OutRefIdeal.Value.run_blocks m' g')

/-- For the down projection with the hidden codes and the second residual sum: the kernel's results and the reference's are one function of the arguments. -/
theorem down_algebraic : Cert.algebraic_DownIdeal_DownRefIdeal (hDownIdeal := Cert.DownIdeal.Gen.facts) (hDownRefIdeal := Cert.DownRefIdeal.Gen.facts) := by
  intro m g m' g' _ hag
  refine ⟨fun c => Cert.DownMath.codes (m ((c.tc : Thread Cert.DownIdeal.nD Cert.DownIdeal.τ).loc Cert.DownIdeal.main_arg0)) (m ((c.tc : Thread Cert.DownIdeal.nD Cert.DownIdeal.τ).loc Cert.DownIdeal.main_arg1)),
    fun c => Cert.DownMath.y (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)), ?_, ?_⟩
  · exact (θ_run _ _ _).mono (fun r h c => ⟨(h c).1.trans (Cert.DownIdeal.Value.finalA m c), (h c).2.1.trans (Cert.DownIdeal.Value.finalB m c), (h c).2.2⟩) (Cert.DownIdeal.Value.run_blocks m g)
  · exact (θ_run _ _ _).mono (fun r h c => ⟨(h c).1.trans ((Cert.DownRefIdeal.Value.finalA m' c).trans (by rw [(hag c).1, (hag c).2.1])), (h c).2.1.trans ((Cert.DownRefIdeal.Value.finalB m' c).trans (by rw [(hag c).1, (hag c).2.1, (hag c).2.2.1, (hag c).2.2.2.1, (hag c).2.2.2.2])), (h c).2.2⟩) (Cert.DownRefIdeal.Value.run_blocks m' g')

/-- Where the comparison with the infinity holds, the value is finite. -/
theorem finite_of_lt (a : EReal) (h : Ideal.cmp .olt (max a (-a)) (Ideal.ofBits FTy.f32 0x7F800000#32) = 1#1) :
    Cert.PrepMath.Finite a := by
  have ht : Ideal.ofBits FTy.f32 0x7F800000#32 = ⊤ := by simp [Ideal.ofBits, Ideal.ieee]
  rw [ht] at h
  refine ⟨?_, ?_⟩ <;> rintro rfl <;> simp [Ideal.cmp] at h

/-- The side conditions of the precondition's operations. -/
theorem weights_facts : Cert.Pre_weights_finite.Facts where
  bcast_S_S4096 := by decide
  bcast_S_S4096x8 := by decide

/-- For the first norm with its quantiser and the two gates: where the norm's and the gates' weights are finite, the kernel's results and the reference's are one function of the arguments. -/
theorem prep_algebraic : Cert.algebraic_PrepIdeal_PrepRefIdeal_pre_weights_finite (hPrepIdeal := Cert.PrepIdeal.Gen.facts) (hPrepRefIdeal := Cert.PrepRefIdeal.Gen.facts) (hPre_weights_finite := weights_facts) := by
  intro m g m' g' hpre hag
  have hw (c : Dev Cert.PrepIdeal.nD) (d : Fin 4096) : Cert.PrepMath.Finite (m ((c.tc : Thread Cert.PrepIdeal.nD Cert.PrepIdeal.τ).loc Cert.PrepIdeal.main_arg1) (ix1 d)) :=
    finite_of_lt _ (congrFun (hpre c).1 (ix1 d))
  have hi (c : Dev Cert.PrepIdeal.nD) (d : Fin 4096) (h : Fin 8) : Cert.PrepMath.Finite (m ((c.tc : Thread Cert.PrepIdeal.nD Cert.PrepIdeal.τ).loc Cert.PrepIdeal.main_arg2) (ix2 d h)) :=
    finite_of_lt _ (congrFun (hpre c).2.1 (ix2 d h))
  have hf (c : Dev Cert.PrepIdeal.nD) (d : Fin 4096) (h : Fin 8) : Cert.PrepMath.Finite (m ((c.tc : Thread Cert.PrepIdeal.nD Cert.PrepIdeal.τ).loc Cert.PrepIdeal.main_arg3) (ix2 d h)) :=
    finite_of_lt _ (congrFun (hpre c).2.2 (ix2 d h))
  refine ⟨fun c => Cert.PrepMath.codes (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => Cert.PrepMath.scaleLanes (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => Cert.PrepMath.scaleRow (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => Cert.PrepMath.ig (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg4)) (m ((c.tc : Thread Cert.PrepIdeal.nD Cert.PrepIdeal.τ).loc Cert.PrepIdeal.main_arg6)),
    fun c => Cert.PrepMath.fg (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg3)) (m ((c.tc : Thread Cert.PrepIdeal.nD Cert.PrepIdeal.τ).loc Cert.PrepIdeal.main_arg5)),
    fun c => Cert.PrepMath.bc (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg3)) (m ((c.tc : Thread Cert.PrepIdeal.nD Cert.PrepIdeal.τ).loc Cert.PrepIdeal.main_arg5)), ?_, ?_⟩
  · exact (θ_run _ _ _).mono (fun r h c => ⟨(h c).1.trans (Cert.PrepIdeal.Value.finalA m c), (h c).2.1.trans (Cert.PrepIdeal.Value.finalB m c), (h c).2.2.1.trans (Cert.PrepIdeal.Value.finalC m c), (h c).2.2.2.1.trans (Cert.PrepIdeal.Value.finalD m c (hw c) (hi c)), (h c).2.2.2.2.1.trans (Cert.PrepIdeal.Value.finalE m c (hw c) (hf c)), (h c).2.2.2.2.2.1.trans (Cert.PrepIdeal.Value.finalF m c (hw c) (hf c)), (h c).2.2.2.2.2.2⟩) (Cert.PrepIdeal.Value.run_blocks m g)
  · exact (θ_run _ _ _).mono (fun r h c => ⟨(h c).1.trans ((Cert.PrepRefIdeal.Value.finalA m' c).trans (by rw [(hag c).1, (hag c).2.1])), (h c).2.1.trans ((Cert.PrepRefIdeal.Value.finalB m' c).trans (by rw [(hag c).1, (hag c).2.1])), (h c).2.2.1.trans ((Cert.PrepRefIdeal.Value.finalC m' c).trans (by rw [(hag c).1, (hag c).2.1])), (h c).2.2.2.1.trans ((Cert.PrepRefIdeal.Value.finalD m' c).trans (by rw [(hag c).1, (hag c).2.1, (hag c).2.2.1, (hag c).2.2.2.2.1, (hag c).2.2.2.2.2.2])), (h c).2.2.2.2.1.trans ((Cert.PrepRefIdeal.Value.finalE m' c).trans (by rw [(hag c).1, (hag c).2.1, (hag c).2.2.2.1, (hag c).2.2.2.2.2.1])), (h c).2.2.2.2.2.1.trans ((Cert.PrepRefIdeal.Value.finalF m' c).trans (by rw [(hag c).1, (hag c).2.1, (hag c).2.2.2.1, (hag c).2.2.2.2.2.1])), (h c).2.2.2.2.2.2⟩) (Cert.PrepRefIdeal.Value.run_blocks m' g')

/-- Every claim of the certificate. -/
theorem claim : Cert.Claim :=
  ⟨Cert.GateUp.Gen.facts, Cert.GateUpIdeal.Gen.facts, Cert.GateUpRefIdeal.Gen.facts, Cert.OProj.Gen.facts, Cert.OProjIdeal.Gen.facts, Cert.OProjRefIdeal.Gen.facts, Cert.Qkv.Gen.facts, Cert.QkvIdeal.Gen.facts, Cert.QkvRefIdeal.Gen.facts, Cert.Out.Gen.facts, Cert.OutIdeal.Gen.facts, Cert.OutRefIdeal.Gen.facts, Cert.Down.Gen.facts, Cert.DownIdeal.Gen.facts, Cert.DownRefIdeal.Gen.facts, Cert.Prep.Gen.facts, Cert.PrepIdeal.Gen.facts, Cert.PrepRefIdeal.Gen.facts, weights_facts,
   fun m ρ _ => Cert.GateUp.Gen.frame m ρ,
   fun m ρ _ => Cert.GateUpIdeal.Gen.frame m ρ,
   fun m ρ _ => Cert.GateUpRefIdeal.Gen.frame m ρ,
   fun m ρ _ => Cert.OProj.Gen.frame m ρ,
   fun m ρ _ => Cert.OProjIdeal.Gen.frame m ρ,
   fun m ρ _ => Cert.OProjRefIdeal.Gen.frame m ρ,
   fun m ρ _ => Cert.Qkv.Gen.frame m ρ,
   fun m ρ _ => Cert.QkvIdeal.Gen.frame m ρ,
   fun m ρ _ => Cert.QkvRefIdeal.Gen.frame m ρ,
   fun m ρ _ => Cert.Out.Gen.frame m ρ,
   fun m ρ _ => Cert.OutIdeal.Gen.frame m ρ,
   fun m ρ _ => Cert.OutRefIdeal.Gen.frame m ρ,
   fun m ρ _ => Cert.Down.Hand.frame m ρ,
   fun m ρ _ => Cert.DownIdeal.Hand.frame m ρ,
   fun m ρ _ => Cert.DownRefIdeal.Gen.frame m ρ,
   fun m ρ _ => Cert.Prep.Gen.frame m ρ,
   fun m ρ _ => Cert.PrepIdeal.Gen.frame m ρ,
   fun m ρ _ => Cert.PrepIdeal.Gen.frame m ρ,
   fun m ρ _ => Cert.PrepRefIdeal.Gen.frame m ρ,
   fun m ρ _ => Cert.PrepRefIdeal.Gen.frame m ρ,
   trivial, gateup_algebraic,
   trivial, oproj_algebraic,
   trivial, qkv_algebraic,
   trivial, out_algebraic,
   trivial, down_algebraic,
   trivial, prep_algebraic⟩

end Cert.Proof

end
